-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_range [hPre_gamma_in_range : Cert.Pre_gamma_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_range [hPre_gamma_in_range : Cert.Pre_gamma_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_in_range [hKernelIdeal : Cert.KernelIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_in_range [hReferenceIdeal : Cert.ReferenceIdeal.Facts] [hPre_gamma_in_range : Cert.Pre_gamma_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x389D89D9#32 ((1 / 13312 : ℝ) : EReal)

def algebraic_KernelIdeal_ReferenceIdeal_pre_gamma_in_range [hKernelIdeal : Cert.KernelIdeal.Facts] [hReferenceIdeal : Cert.ReferenceIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_in_range : Cert.Pre_gamma_in_range.Facts),
    quiescent_Kernel (hKernel := hKernel)
    ∧ quiescent_KernelIdeal (hKernelIdeal := hKernelIdeal)
    ∧ quiescent_KernelIdeal_pre_gamma_in_range (hKernelIdeal := hKernelIdeal) (hPre_gamma_in_range := hPre_gamma_in_range)
    ∧ quiescent_ReferenceIdeal (hReferenceIdeal := hReferenceIdeal)
    ∧ quiescent_ReferenceIdeal_pre_gamma_in_range (hReferenceIdeal := hReferenceIdeal) (hPre_gamma_in_range := hPre_gamma_in_range)
    ∧ preserves_Kernel_KernelIdeal
    ∧ algebraic_KernelIdeal_ReferenceIdeal_pre_gamma_in_range (hKernelIdeal := hKernelIdeal) (hReferenceIdeal := hReferenceIdeal) (hPre_gamma_in_range := hPre_gamma_in_range)
-- ==== Pre_gamma_in_range.lean ====
abbrev S3x4096x16384 : Shape := ⟨3, ![3, 4096, 16384]⟩
abbrev S3x4096x1 : Shape := ⟨3, ![3, 4096, 1]⟩
abbrev S16384x13312 : Shape := ⟨2, ![16384, 13312]⟩
abbrev S13312 : Shape := ⟨1, ![13312]⟩
abbrev S3x4096x13312 : Shape := ⟨3, ![3, 4096, 13312]⟩
abbrev S_ : Shape := ⟨0, ![]⟩

class Facts : Prop where
  bcast_S_S13312 : S_.BroadcastsInDim S13312 (![] : Fin 0 → Fin S13312.rank)

variable [Facts]

def fn {F : FTy → Type} [FloatOps F] (main_arg0 : FVec F S3x4096x16384 .fp8e4m3) (main_arg1 : FVec F S3x4096x1 .f32) (main_arg2 : FVec F S16384x13312 .fp8e4m3) (main_arg3 : FVec F S13312 .f32) (main_arg4 : FVec F S3x4096x13312 .bf16) (main_arg5 : FVec F S13312 .bf16) : IVec S13312 1 :=
  let main_v0 : FVec F S13312 .bf16 := Host.absf main_arg5
  let main_cst : FVec F S_ .bf16 := constant S_ .bf16 0x7F00#16
  let main_v1 : FVec F S13312 .bf16 := broadcastInDim S13312 ![] bcast_S_S13312 main_cst
  let main_v2 : IVec S13312 1 := cmpf .ole main_v0 main_v1
  main_v2
-- ==== Kernel.lean ====
abbrev S3x4096x16384 : Shape := ⟨3, ![3, 4096, 16384]⟩
abbrev S3x4096x1 : Shape := ⟨3, ![3, 4096, 1]⟩
abbrev S16384x13312 : Shape := ⟨2, ![16384, 13312]⟩
abbrev S13312 : Shape := ⟨1, ![13312]⟩
abbrev S3x4096x13312 : Shape := ⟨3, ![3, 4096, 13312]⟩
abbrev S12288x16384 : Shape := ⟨2, ![12288, 16384]⟩
abbrev S24x1x512 : Shape := ⟨3, ![24, 1, 512]⟩
abbrev S1x13312 : Shape := ⟨2, ![1, 13312]⟩
abbrev S12288x13312 : Shape := ⟨2, ![12288, 13312]⟩
abbrev S12288x104 : Shape := ⟨2, ![12288, 104]⟩
abbrev S512x16384 : Shape := ⟨2, ![512, 16384]⟩
abbrev S1x1x512 : Shape := ⟨3, ![1, 1, 512]⟩
abbrev S16384x512 : Shape := ⟨2, ![16384, 512]⟩
abbrev S1x512 : Shape := ⟨2, ![1, 512]⟩
abbrev S512x512 : Shape := ⟨2, ![512, 512]⟩
abbrev S512x104 : Shape := ⟨2, ![512, 104]⟩
abbrev S26x512x512 : Shape := ⟨3, ![26, 512, 512]⟩
abbrev S512x128 : Shape := ⟨2, ![512, 128]⟩
abbrev S4x128 : Shape := ⟨2, ![4, 128]⟩
abbrev S1x128 : Shape := ⟨2, ![1, 128]⟩
abbrev S128x128 : Shape := ⟨2, ![128, 128]⟩
abbrev S128x512 : Shape := ⟨2, ![128, 512]⟩
abbrev S32x104 : Shape := ⟨2, ![32, 104]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S32x256 : Shape := ⟨2, ![32, 256]⟩
abbrev S8x128 : Shape := ⟨2, ![8, 128]⟩

abbrev nBuf : Space → Nat
  | .hbm => 14
  | .vmem => 23
  | .smem => 0
  | _ => 0

abbrev bufTy : (tb : Table) → Fin (tcTables nBuf tb) → BufTy
  | .hbm, ⟨0, _⟩ => ⟨S3x4096x16384, .fp8e4m3⟩
  | .hbm, ⟨1, _⟩ => ⟨S3x4096x1, .f32⟩
  | .hbm, ⟨2, _⟩ => ⟨S16384x13312, .fp8e4m3⟩
  | .hbm, ⟨3, _⟩ => ⟨S13312, .f32⟩
  | .hbm, ⟨4, _⟩ => ⟨S3x4096x13312, .bf16⟩
  | .hbm, ⟨5, _⟩ => ⟨S13312, .bf16⟩
  | .hbm, ⟨6, _⟩ => ⟨S12288x16384, .fp8e4m3⟩
  | .hbm, ⟨7, _⟩ => ⟨S24x1x512, .f32⟩
  | .hbm, ⟨8, _⟩ => ⟨S1x13312, .f32⟩
  | .hbm, ⟨9, _⟩ => ⟨S12288x13312, .bf16⟩
  | .hbm, ⟨10, _⟩ => ⟨S1x13312, .bf16⟩
  | .hbm, ⟨11, _⟩ => ⟨S12288x13312, .bf16⟩
  | .hbm, ⟨12, _⟩ => ⟨S12288x13312, .fp8e4m3⟩
  | .hbm, ⟨13, _⟩ => ⟨S12288x104, .f32⟩
  | .local _ .vmem, ⟨0, _⟩ => ⟨S512x16384, .fp8e4m3⟩
  | .local _ .vmem, ⟨1, _⟩ => ⟨S512x16384, .fp8e4m3⟩
  | .local _ .vmem, ⟨2, _⟩ => ⟨S1x1x512, .f32⟩
  | .local _ .vmem, ⟨3, _⟩ => ⟨S1x1x512, .f32⟩
  | .local _ .vmem, ⟨4, _⟩ => ⟨S16384x512, .fp8e4m3⟩
  | .local _ .vmem, ⟨5, _⟩ => ⟨S16384x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S1x512, .bf16⟩
  | .local _ .vmem, ⟨11, _⟩ => ⟨S1x512, .bf16⟩
  | .local _ .vmem, ⟨12, _⟩ => ⟨S512x512, .bf16⟩
  | .local _ .vmem, ⟨13, _⟩ => ⟨S512x512, .bf16⟩
  | .local _ .vmem, ⟨14, _⟩ => ⟨S512x512, .fp8e4m3⟩
  | .local _ .vmem, ⟨15, _⟩ => ⟨S512x512, .fp8e4m3⟩
  | .local _ .vmem, ⟨16, _⟩ => ⟨S512x104, .f32⟩
  | .local _ .vmem, ⟨17, _⟩ => ⟨S512x104, .f32⟩
  | .local _ .vmem, ⟨18, _⟩ => ⟨S26x512x512, .bf16⟩
  | .local _ .vmem, ⟨19, _⟩ => ⟨S512x128, .f32⟩
  | .local _ .vmem, ⟨20, _⟩ => ⟨S4x128, .f32⟩
  | .local _ .vmem, ⟨21, _⟩ => ⟨S512x128, .f32⟩
  | .local _ .vmem, ⟨22, _⟩ => ⟨S512x128, .f32⟩
  | _, _ => ⟨S3x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![25, 26], ![false, false]⟩

def k0_cond3 (i : grid0.Coords) : BitVec 1 :=
  let arg0 : BitVec 32 := BitVec.ofNat 32 (i 0).val
  let c24_i32 : BitVec 32 := 24#32
  let v19 : BitVec 1 := Scalar.cmpi .slt arg0 c24_i32
  let v20 : BitVec 32 := Scalar.extui v19
  let c0_i32_9 : BitVec 32 := 0#32
  let v21 : BitVec 1 := Scalar.cmpi .ne v20 c0_i32_9
  v21

def k0_off1 (i : grid0.Coords) : Fin 3 → Nat :=
  let arg1 : BitVec 32 := BitVec.ofNat 32 (i 1).val
  let v36 : Index := Scalar.indexCast arg1
  let c0_21 : Index := 0#32
  let c0_22 : Index := 0#32
  ![v36.toNat, 0, 0]
def k0_off2 (i : grid0.Coords) : Fin 3 → Nat :=
  let arg1 : BitVec 32 := BitVec.ofNat 32 (i 1).val
  let v89 : Index := Scalar.indexCast arg1
  let c0_34 : Index := 0#32
  let c128 : Index := 128#32
  ![v89.toNat, 0, 128]
def k0_off3 (i : grid0.Coords) : Fin 3 → Nat :=
  let arg1 : BitVec 32 := BitVec.ofNat 32 (i 1).val
  let v142 : Index := Scalar.indexCast arg1
  let c0_52 : Index := 0#32
  let c256 : Index := 256#32
  ![v142.toNat, 0, 256]
def k0_off4 (i : grid0.Coords) : Fin 3 → Nat :=
  let arg1 : BitVec 32 := BitVec.ofNat 32 (i 1).val
  let v195 : Index := Scalar.indexCast arg1
  let c0_70 : Index := 0#32
  let c384 : Index := 384#32
  ![v195.toNat, 0, 384]
def k0_off5 (i : grid0.Coords) : Fin 3 → Nat :=
  let arg1 : BitVec 32 := BitVec.ofNat 32 (i 1).val
  let v252 : Index := Scalar.indexCast arg1
  let c32_92 : Index := 32#32
  let c0_93 : Index := 0#32
  ![v252.toNat, 32, 0]
def k0_off6 (i : grid0.Coords) : Fin 3 → Nat :=
  let arg1 : BitVec 32 := BitVec.ofNat 32 (i 1).val
  let v305 : Index := Scalar.indexCast arg1
  let c32_111 : Index := 32#32
  let c128_112 : Index := 128#32
  ![v305.toNat, 32, 128]
def k0_off7 (i : grid0.Coords) : Fin 3 → Nat :=
  let arg1 : BitVec 32 := BitVec.ofNat 32 (i 1).val
  let v358 : Index := Scalar.indexCast arg1
  let c32_130 : Index := 32#32
  let c256_131 : Index := 256#32
  ![v358.toNat, 32, 256]
def k0_off8 (i : grid0.Coords) : Fin 3 → Nat :=
  let arg1 : BitVec 32 := BitVec.ofNat 32 (i 1).val
  let v411 : Index := Scalar.indexCast arg1
  let c32_149 : Index := 32#32
  let c384_150 : Index := 384#32
  ![v411.toNat, 32, 384]
def k0_off9 (i : grid0.Coords) : Fin 3 → Nat :=
  let arg1 : BitVec 32 := BitVec.ofNat 32 (i 1).val
  let v468 : Index := Scalar.indexCast arg1
  let c64_173 : Index := 64#32
  let c0_174 : Index := 0#32
  ![v468.toNat, 64, 0]
def k0_off10 (i : grid0.Coords) : Fin 3 → Nat :=
  let arg1 : BitVec 32 := BitVec.ofNat 32 (i 1).val
  let v521 : Index := Scalar.indexCast arg1
  let c64_192 : Index := 64#32
  let c128_193 : Index := 128#32
  ![v521.toNat, 64, 128]
def k0_off11 (i : grid0.Coords) : Fin 3 → Nat :=
  let arg1 : BitVec 32 := BitVec.ofNat 32 (i 1).val
  let v574 : Index := Scalar.indexCast arg1
  let c64_211 : Index := 64#32
  let c256_212 : Index := 256#32
  ![v574.toNat, 64, 256]
def k0_off12 (i : grid0.Coords) : Fin 3 → Nat :=
  let arg1 : BitVec 32 := BitVec.ofNat 32 (i 1).val
  let v627 : Index := Scalar.indexCast arg1
  let c64_230 : Index := 64#32
  let c384_231 : Index := 384#32
  ![v627.toNat, 64, 384]
def k0_off13 (i : grid0.Coords) : Fin 3 → Nat :=
  let arg1 : BitVec 32 := BitVec.ofNat 32 (i 1).val
  let v684 : Index := Scalar.indexCast arg1
  let c96_254 : Index := 96#32
  let c0_255 : Index := 0#32
  ![v684.toNat, 96, 0]
def k0_off14 (i : grid0.Coords) : Fin 3 → Nat :=
  let arg1 : BitVec 32 := BitVec.ofNat 32 (i 1).val
  let v737 : Index := Scalar.indexCast arg1
  let c96_273 : Index := 96#32
  let c128_274 : Index := 128#32
  ![v737.toNat, 96, 128]
def k0_off15 (i : grid0.Coords) : Fin 3 → Nat :=
  let arg1 : BitVec 32 := BitVec.ofNat 32 (i 1).val
  let v790 : Index := Scalar.indexCast arg1
  let c96_292 : Index := 96#32
  let c256_293 : Index := 256#32
  ![v790.toNat, 96, 256]
def k0_off16 (i : grid0.Coords) : Fin 3 → Nat :=
  let arg1 : BitVec 32 := BitVec.ofNat 32 (i 1).val
  let v843 : Index := Scalar.indexCast arg1
  let c96_311 : Index := 96#32
  let c384_312 : Index := 384#32
  ![v843.toNat, 96, 384]
def k0_off17 (i : grid0.Coords) : Fin 3 → Nat :=
  let arg1 : BitVec 32 := BitVec.ofNat 32 (i 1).val
  let v900 : Index := Scalar.indexCast arg1
  let c128_336 : Index := 128#32
  let c0_337 : Index := 0#32
  ![v900.toNat, 128, 0]
def k0_off18 (i : grid0.Coords) : Fin 3 → Nat :=
  let arg1 : BitVec 32 := BitVec.ofNat 32 (i 1).val
  let v953 : Index := Scalar.indexCast arg1
  let c128_355 : Index := 128#32
  let c128_356 : Index := 128#32
  ![v953.toNat, 128, 128]
def k0_off19 (i : grid0.Coords) : Fin 3 → Nat :=
  let arg1 : BitVec 32 := BitVec.ofNat 32 (i 1).val
  let v1006 : Index := Scalar.indexCast arg1
  let c128_374 : Index := 128#32
  let c256_375 : Index := 256#32
  ![v1006.toNat, 128, 256]
def k0_off20 (i : grid0.Coords) : Fin 3 → Nat :=
  let arg1 : BitVec 32 := BitVec.ofNat 32 (i 1).val
  let v1059 : Index := Scalar.indexCast arg1
  let c128_393 : Index := 128#32
  let c384_394 : Index := 384#32
  ![v1059.toNat, 128, 384]
def k0_off21 (i : grid0.Coords) : Fin 3 → Nat :=
  let arg1 : BitVec 32 := BitVec.ofNat 32 (i 1).val
  let v1116 : Index := Scalar.indexCast arg1
  let c160_417 : Index := 160#32
  let c0_418 : Index := 0#32
  ![v1116.toNat, 160, 0]
def k0_off22 (i : grid0.Coords) : Fin 3 → Nat :=
  let arg1 : BitVec 32 := BitVec.ofNat 32 (i 1).val
  let v1169 : Index := Scalar.indexCast arg1
  let c160_436 : Index := 160#32
  let c128_437 : Index := 128#32
  ![v1169.toNat, 160, 128]
def k0_off23 (i : grid0.Coords) : Fin 3 → Nat :=
  let arg1 : BitVec 32 := BitVec.ofNat 32 (i 1).val
  let v1222 : Index := Scalar.indexCast arg1
  let c160_455 : Index := 160#32
  let c256_456 : Index := 256#32
  ![v1222.toNat, 160, 256]
def k0_off24 (i : grid0.Coords) : Fin 3 → Nat :=
  let arg1 : BitVec 32 := BitVec.ofNat 32 (i 1).val
  let v1275 : Index := Scalar.indexCast arg1
  let c160_474 : Index := 160#32
  let c384_475 : Index := 384#32
  ![v1275.toNat, 160, 384]
def k0_off25 (i : grid0.Coords) : Fin 3 → Nat :=
  let arg1 : BitVec 32 := BitVec.ofNat 32 (i 1).val
  let v1332 : Index := Scalar.indexCast arg1
  let c192_498 : Index := 192#32
  let c0_499 : Index := 0#32
  ![v1332.toNat, 192, 0]
def k0_off26 (i : grid0.Coords) : Fin 3 → Nat :=
  let arg1 : BitVec 32 := BitVec.ofNat 32 (i 1).val
  let v1385 : Index := Scalar.indexCast arg1
  let c192_517 : Index := 192#32
  let c128_518 : Index := 128#32
  ![v1385.toNat, 192, 128]
def k0_off27 (i : grid0.Coords) : Fin 3 → Nat :=
  let arg1 : BitVec 32 := BitVec.ofNat 32 (i 1).val
  let v1438 : Index := Scalar.indexCast arg1
  let c192_536 : Index := 192#32
  let c256_537 : Index := 256#32
  ![v1438.toNat, 192, 256]
def k0_off28 (i : grid0.Coords) : Fin 3 → Nat :=
  let arg1 : BitVec 32 := BitVec.ofNat 32 (i 1).val
  let v1491 : Index := Scalar.indexCast arg1
  let c192_555 : Index := 192#32
  let c384_556 : Index := 384#32
  ![v1491.toNat, 192, 384]
def k0_off29 (i : grid0.Coords) : Fin 3 → Nat :=
  let arg1 : BitVec 32 := BitVec.ofNat 32 (i 1).val
  let v1548 : Index := Scalar.indexCast arg1
  let c224_579 : Index := 224#32
  let c0_580 : Index := 0#32
  ![v1548.toNat, 224, 0]
def k0_off30 (i : grid0.Coords) : Fin 3 → Nat :=
  let arg1 : BitVec 32 := BitVec.ofNat 32 (i 1).val
  let v1601 : Index := Scalar.indexCast arg1
  let c224_598 : Index := 224#32
  let c128_599 : Index := 128#32
  ![v1601.toNat, 224, 128]
def k0_off31 (i : grid0.Coords) : Fin 3 → Nat :=
  let arg1 : BitVec 32 := BitVec.ofNat 32 (i 1).val
  let v1654 : Index := Scalar.indexCast arg1
  let c224_617 : Index := 224#32
  let c256_618 : Index := 256#32
  ![v1654.toNat, 224, 256]
def k0_off32 (i : grid0.Coords) : Fin 3 → Nat :=
  let arg1 : BitVec 32 := BitVec.ofNat 32 (i 1).val
  let v1707 : Index := Scalar.indexCast arg1
  let c224_636 : Index := 224#32
  let c384_637 : Index := 384#32
  ![v1707.toNat, 224, 384]
def k0_off33 (i : grid0.Coords) : Fin 3 → Nat :=
  let arg1 : BitVec 32 := BitVec.ofNat 32 (i 1).val
  let v1764 : Index := Scalar.indexCast arg1
  let c256_661 : Index := 256#32
  let c0_662 : Index := 0#32
  ![v1764.toNat, 256, 0]
def k0_off34 (i : grid0.Coords) : Fin 3 → Nat :=
  let arg1 : BitVec 32 := BitVec.ofNat 32 (i 1).val
  let v1817 : Index := Scalar.indexCast arg1
  let c256_680 : Index := 256#32
  let c128_681 : Index := 128#32
  ![v1817.toNat, 256, 128]
def k0_off35 (i : grid0.Coords) : Fin 3 → Nat :=
  let arg1 : BitVec 32 := BitVec.ofNat 32 (i 1).val
  let v1870 : Index := Scalar.indexCast arg1
  let c256_699 : Index := 256#32
  let c256_700 : Index := 256#32
  ![v1870.toNat, 256, 256]
def k0_off36 (i : grid0.Coords) : Fin 3 → Nat :=
  let arg1 : BitVec 32 := BitVec.ofNat 32 (i 1).val
  let v1923 : Index := Scalar.indexCast arg1
  let c256_718 : Index := 256#32
  let c384_719 : Index := 384#32
  ![v1923.toNat, 256, 384]
def k0_off37 (i : grid0.Coords) : Fin 3 → Nat :=
  let arg1 : BitVec 32 := BitVec.ofNat 32 (i 1).val
  let v1980 : Index := Scalar.indexCast arg1
  let c288_742 : Index := 288#32
  let c0_743 : Index := 0#32
  ![v1980.toNat, 288, 0]
def k0_off38 (i : grid0.Coords) : Fin 3 → Nat :=
  let arg1 : BitVec 32 := BitVec.ofNat 32 (i 1).val
  let v2033 : Index := Scalar.indexCast arg1
  let c288_761 : Index := 288#32
  let c128_762 : Index := 128#32
  ![v2033.toNat, 288, 128]
def k0_off39 (i : grid0.Coords) : Fin 3 → Nat :=
  let arg1 : BitVec 32 := BitVec.ofNat 32 (i 1).val
  let v2086 : Index := Scalar.indexCast arg1
  let c288_780 : Index := 288#32
  let c256_781 : Index := 256#32
  ![v2086.toNat, 288, 256]
def k0_off40 (i : grid0.Coords) : Fin 3 → Nat :=
  let arg1 : BitVec 32 := BitVec.ofNat 32 (i 1).val
  let v2139 : Index := Scalar.indexCast arg1
  let c288_799 : Index := 288#32
  let c384_800 : Index := 384#32
  ![v2139.toNat, 288, 384]
def k0_off41 (i : grid0.Coords) : Fin 3 → Nat :=
  let arg1 : BitVec 32 := BitVec.ofNat 32 (i 1).val
  let v2196 : Index := Scalar.indexCast arg1
  let c320_823 : Index := 320#32
  let c0_824 : Index := 0#32
  ![v2196.toNat, 320, 0]
def k0_off42 (i : grid0.Coords) : Fin 3 → Nat :=
  let arg1 : BitVec 32 := BitVec.ofNat 32 (i 1).val
  let v2249 : Index := Scalar.indexCast arg1
  let c320_842 : Index := 320#32
  let c128_843 : Index := 128#32
  ![v2249.toNat, 320, 128]
def k0_off43 (i : grid0.Coords) : Fin 3 → Nat :=
  let arg1 : BitVec 32 := BitVec.ofNat 32 (i 1).val
  let v2302 : Index := Scalar.indexCast arg1
  let c320_861 : Index := 320#32
  let c256_862 : Index := 256#32
  ![v2302.toNat, 320, 256]
def k0_off44 (i : grid0.Coords) : Fin 3 → Nat :=
  let arg1 : BitVec 32 := BitVec.ofNat 32 (i 1).val
  let v2355 : Index := Scalar.indexCast arg1
  let c320_880 : Index := 320#32
  let c384_881 : Index := 384#32
  ![v2355.toNat, 320, 384]
def k0_off45 (i : grid0.Coords) : Fin 3 → Nat :=
  let arg1 : BitVec 32 := BitVec.ofNat 32 (i 1).val
  let v2412 : Index := Scalar.indexCast arg1
  let c352_904 : Index := 352#32
  let c0_905 : Index := 0#32
  ![v2412.toNat, 352, 0]
def k0_off46 (i : grid0.Coords) : Fin 3 → Nat :=
  let arg1 : BitVec 32 := BitVec.ofNat 32 (i 1).val
  let v2465 : Index := Scalar.indexCast arg1
  let c352_923 : Index := 352#32
  let c128_924 : Index := 128#32
  ![v2465.toNat, 352, 128]
def k0_off47 (i : grid0.Coords) : Fin 3 → Nat :=
  let arg1 : BitVec 32 := BitVec.ofNat 32 (i 1).val
  let v2518 : Index := Scalar.indexCast arg1
  let c352_942 : Index := 352#32
  let c256_943 : Index := 256#32
  ![v2518.toNat, 352, 256]
def k0_off48 (i : grid0.Coords) : Fin 3 → Nat :=
  let arg1 : BitVec 32 := BitVec.ofNat 32 (i 1).val
  let v2571 : Index := Scalar.indexCast arg1
  let c352_961 : Index := 352#32
  let c384_962 : Index := 384#32
  ![v2571.toNat, 352, 384]
def k0_off49 (i : grid0.Coords) : Fin 3 → Nat :=
  let arg1 : BitVec 32 := BitVec.ofNat 32 (i 1).val
  let v2628 : Index := Scalar.indexCast arg1
  let c384_986 : Index := 384#32
  let c0_987 : Index := 0#32
  ![v2628.toNat, 384, 0]
def k0_off50 (i : grid0.Coords) : Fin 3 → Nat :=
  let arg1 : BitVec 32 := BitVec.ofNat 32 (i 1).val
  let v2681 : Index := Scalar.indexCast arg1
  let c384_1005 : Index := 384#32
  let c128_1006 : Index := 128#32
  ![v2681.toNat, 384, 128]
def k0_off51 (i : grid0.Coords) : Fin 3 → Nat :=
  let arg1 : BitVec 32 := BitVec.ofNat 32 (i 1).val
  let v2734 : Index := Scalar.indexCast arg1
  let c384_1024 : Index := 384#32
  let c256_1025 : Index := 256#32
  ![v2734.toNat, 384, 256]
def k0_off52 (i : grid0.Coords) : Fin 3 → Nat :=
  let arg1 : BitVec 32 := BitVec.ofNat 32 (i 1).val
  let v2787 : Index := Scalar.indexCast arg1
  let c384_1043 : Index := 384#32
  let c384_1044 : Index := 384#32
  ![v2787.toNat, 384, 384]
def k0_off53 (i : grid0.Coords) : Fin 3 → Nat :=
  let arg1 : BitVec 32 := BitVec.ofNat 32 (i 1).val
  let v2844 : Index := Scalar.indexCast arg1
  let c416_1067 : Index := 416#32
  let c0_1068 : Index := 0#32
  ![v2844.toNat, 416, 0]
def k0_off54 (i : grid0.Coords) : Fin 3 → Nat :=
  let arg1 : BitVec 32 := BitVec.ofNat 32 (i 1).val
  let v2897 : Index := Scalar.indexCast arg1
  let c416_1086 : Index := 416#32
  let c128_1087 : Index := 128#32
  ![v2897.toNat, 416, 128]
def k0_off55 (i : grid0.Coords) : Fin 3 → Nat :=
  let arg1 : BitVec 32 := BitVec.ofNat 32 (i 1).val
  let v2950 : Index := Scalar.indexCast arg1
  let c416_1105 : Index := 416#32
  let c256_1106 : Index := 256#32
  ![v2950.toNat, 416, 256]
def k0_off56 (i : grid0.Coords) : Fin 3 → Nat :=
  let arg1 : BitVec 32 := BitVec.ofNat 32 (i 1).val
  let v3003 : Index := Scalar.indexCast arg1
  let c416_1124 : Index := 416#32
  let c384_1125 : Index := 384#32
  ![v3003.toNat, 416, 384]
def k0_off57 (i : grid0.Coords) : Fin 3 → Nat :=
  let arg1 : BitVec 32 := BitVec.ofNat 32 (i 1).val
  let v3060 : Index := Scalar.indexCast arg1
  let c448_1148 : Index := 448#32
  let c0_1149 : Index := 0#32
  ![v3060.toNat, 448, 0]
def k0_off58 (i : grid0.Coords) : Fin 3 → Nat :=
  let arg1 : BitVec 32 := BitVec.ofNat 32 (i 1).val
  let v3113 : Index := Scalar.indexCast arg1
  let c448_1167 : Index := 448#32
  let c128_1168 : Index := 128#32
  ![v3113.toNat, 448, 128]
def k0_off59 (i : grid0.Coords) : Fin 3 → Nat :=
  let arg1 : BitVec 32 := BitVec.ofNat 32 (i 1).val
  let v3166 : Index := Scalar.indexCast arg1
  let c448_1186 : Index := 448#32
  let c256_1187 : Index := 256#32
  ![v3166.toNat, 448, 256]
def k0_off60 (i : grid0.Coords) : Fin 3 → Nat :=
  let arg1 : BitVec 32 := BitVec.ofNat 32 (i 1).val
  let v3219 : Index := Scalar.indexCast arg1
  let c448_1205 : Index := 448#32
  let c384_1206 : Index := 384#32
  ![v3219.toNat, 448, 384]
def k0_off61 (i : grid0.Coords) : Fin 3 → Nat :=
  let arg1 : BitVec 32 := BitVec.ofNat 32 (i 1).val
  let v3276 : Index := Scalar.indexCast arg1
  let c480_1229 : Index := 480#32
  let c0_1230 : Index := 0#32
  ![v3276.toNat, 480, 0]
def k0_off62 (i : grid0.Coords) : Fin 3 → Nat :=
  let arg1 : BitVec 32 := BitVec.ofNat 32 (i 1).val
  let v3329 : Index := Scalar.indexCast arg1
  let c480_1248 : Index := 480#32
  let c128_1249 : Index := 128#32
  ![v3329.toNat, 480, 128]
def k0_off63 (i : grid0.Coords) : Fin 3 → Nat :=
  let arg1 : BitVec 32 := BitVec.ofNat 32 (i 1).val
  let v3382 : Index := Scalar.indexCast arg1
  let c480_1267 : Index := 480#32
  let c256_1268 : Index := 256#32
  ![v3382.toNat, 480, 256]
def k0_off64 (i : grid0.Coords) : Fin 3 → Nat :=
  let arg1 : BitVec 32 := BitVec.ofNat 32 (i 1).val
  let v3435 : Index := Scalar.indexCast arg1
  let c480_1286 : Index := 480#32
  let c384_1287 : Index := 384#32
  ![v3435.toNat, 480, 384]
def k0_cond4 (i : grid0.Coords) : BitVec 1 :=
  let arg0 : BitVec 32 := BitVec.ofNat 32 (i 0).val
  let c24_i32_10 : BitVec 32 := 24#32
  let v22 : BitVec 1 := Scalar.cmpi .eq arg0 c24_i32_10
  let v23 : BitVec 32 := Scalar.extui v22
  let c0_i32_11 : BitVec 32 := 0#32
  let v24 : BitVec 1 := Scalar.cmpi .ne v23 c0_i32_11
  v24

def k0_off65 (i : grid0.Coords) : Fin 3 → Nat :=
  let arg1 : BitVec 32 := BitVec.ofNat 32 (i 1).val
  let v32 : Index := Scalar.indexCast arg1
  let c0_17 : Index := 0#32
  let c0_18 : Index := 0#32
  ![v32.toNat, 0, 0]
def k0_off66 (i : grid0.Coords) : Fin 3 → Nat :=
  let arg1 : BitVec 32 := BitVec.ofNat 32 (i 1).val
  let v85 : Index := Scalar.indexCast arg1
  let c0_29 : Index := 0#32
  let c128 : Index := 128#32
  ![v85.toNat, 0, 128]
def k0_off67 (i : grid0.Coords) : Fin 3 → Nat :=
  let arg1 : BitVec 32 := BitVec.ofNat 32 (i 1).val
  let v138 : Index := Scalar.indexCast arg1
  let c0_47 : Index := 0#32
  let c256 : Index := 256#32
  ![v138.toNat, 0, 256]
def k0_off68 (i : grid0.Coords) : Fin 3 → Nat :=
  let arg1 : BitVec 32 := BitVec.ofNat 32 (i 1).val
  let v191 : Index := Scalar.indexCast arg1
  let c0_65 : Index := 0#32
  let c384 : Index := 384#32
  ![v191.toNat, 0, 384]
def k0_off69 (i : grid0.Coords) : Fin 3 → Nat :=
  let arg1 : BitVec 32 := BitVec.ofNat 32 (i 1).val
  let v248 : Index := Scalar.indexCast arg1
  let c32_87 : Index := 32#32
  let c0_88 : Index := 0#32
  ![v248.toNat, 32, 0]
def k0_off70 (i : grid0.Coords) : Fin 3 → Nat :=
  let arg1 : BitVec 32 := BitVec.ofNat 32 (i 1).val
  let v301 : Index := Scalar.indexCast arg1
  let c32_106 : Index := 32#32
  let c128_107 : Index := 128#32
  ![v301.toNat, 32, 128]
def k0_off71 (i : grid0.Coords) : Fin 3 → Nat :=
  let arg1 : BitVec 32 := BitVec.ofNat 32 (i 1).val
  let v354 : Index := Scalar.indexCast arg1
  let c32_125 : Index := 32#32
  let c256_126 : Index := 256#32
  ![v354.toNat, 32, 256]
def k0_off72 (i : grid0.Coords) : Fin 3 → Nat :=
  let arg1 : BitVec 32 := BitVec.ofNat 32 (i 1).val
  let v407 : Index := Scalar.indexCast arg1
  let c32_144 : Index := 32#32
  let c384_145 : Index := 384#32
  ![v407.toNat, 32, 384]
def k0_off73 (i : grid0.Coords) : Fin 3 → Nat :=
  let arg1 : BitVec 32 := BitVec.ofNat 32 (i 1).val
  let v464 : Index := Scalar.indexCast arg1
  let c64_168 : Index := 64#32
  let c0_169 : Index := 0#32
  ![v464.toNat, 64, 0]
def k0_off74 (i : grid0.Coords) : Fin 3 → Nat :=
  let arg1 : BitVec 32 := BitVec.ofNat 32 (i 1).val
  let v517 : Index := Scalar.indexCast arg1
  let c64_187 : Index := 64#32
  let c128_188 : Index := 128#32
  ![v517.toNat, 64, 128]
def k0_off75 (i : grid0.Coords) : Fin 3 → Nat :=
  let arg1 : BitVec 32 := BitVec.ofNat 32 (i 1).val
  let v570 : Index := Scalar.indexCast arg1
  let c64_206 : Index := 64#32
  let c256_207 : Index := 256#32
  ![v570.toNat, 64, 256]
def k0_off76 (i : grid0.Coords) : Fin 3 → Nat :=
  let arg1 : BitVec 32 := BitVec.ofNat 32 (i 1).val
  let v623 : Index := Scalar.indexCast arg1
  let c64_225 : Index := 64#32
  let c384_226 : Index := 384#32
  ![v623.toNat, 64, 384]
def k0_off77 (i : grid0.Coords) : Fin 3 → Nat :=
  let arg1 : BitVec 32 := BitVec.ofNat 32 (i 1).val
  let v680 : Index := Scalar.indexCast arg1
  let c96_249 : Index := 96#32
  let c0_250 : Index := 0#32
  ![v680.toNat, 96, 0]
def k0_off78 (i : grid0.Coords) : Fin 3 → Nat :=
  let arg1 : BitVec 32 := BitVec.ofNat 32 (i 1).val
  let v733 : Index := Scalar.indexCast arg1
  let c96_268 : Index := 96#32
  let c128_269 : Index := 128#32
  ![v733.toNat, 96, 128]
def k0_off79 (i : grid0.Coords) : Fin 3 → Nat :=
  let arg1 : BitVec 32 := BitVec.ofNat 32 (i 1).val
  let v786 : Index := Scalar.indexCast arg1
  let c96_287 : Index := 96#32
  let c256_288 : Index := 256#32
  ![v786.toNat, 96, 256]
def k0_off80 (i : grid0.Coords) : Fin 3 → Nat :=
  let arg1 : BitVec 32 := BitVec.ofNat 32 (i 1).val
  let v839 : Index := Scalar.indexCast arg1
  let c96_306 : Index := 96#32
  let c384_307 : Index := 384#32
  ![v839.toNat, 96, 384]
def k0_off81 (i : grid0.Coords) : Fin 3 → Nat :=
  let arg1 : BitVec 32 := BitVec.ofNat 32 (i 1).val
  let v896 : Index := Scalar.indexCast arg1
  let c128_331 : Index := 128#32
  let c0_332 : Index := 0#32
  ![v896.toNat, 128, 0]
def k0_off82 (i : grid0.Coords) : Fin 3 → Nat :=
  let arg1 : BitVec 32 := BitVec.ofNat 32 (i 1).val
  let v949 : Index := Scalar.indexCast arg1
  let c128_350 : Index := 128#32
  let c128_351 : Index := 128#32
  ![v949.toNat, 128, 128]
def k0_off83 (i : grid0.Coords) : Fin 3 → Nat :=
  let arg1 : BitVec 32 := BitVec.ofNat 32 (i 1).val
  let v1002 : Index := Scalar.indexCast arg1
  let c128_369 : Index := 128#32
  let c256_370 : Index := 256#32
  ![v1002.toNat, 128, 256]
def k0_off84 (i : grid0.Coords) : Fin 3 → Nat :=
  let arg1 : BitVec 32 := BitVec.ofNat 32 (i 1).val
  let v1055 : Index := Scalar.indexCast arg1
  let c128_388 : Index := 128#32
  let c384_389 : Index := 384#32
  ![v1055.toNat, 128, 384]
def k0_off85 (i : grid0.Coords) : Fin 3 → Nat :=
  let arg1 : BitVec 32 := BitVec.ofNat 32 (i 1).val
  let v1112 : Index := Scalar.indexCast arg1
  let c160_412 : Index := 160#32
  let c0_413 : Index := 0#32
  ![v1112.toNat, 160, 0]
def k0_off86 (i : grid0.Coords) : Fin 3 → Nat :=
  let arg1 : BitVec 32 := BitVec.ofNat 32 (i 1).val
  let v1165 : Index := Scalar.indexCast arg1
  let c160_431 : Index := 160#32
  let c128_432 : Index := 128#32
  ![v1165.toNat, 160, 128]
def k0_off87 (i : grid0.Coords) : Fin 3 → Nat :=
  let arg1 : BitVec 32 := BitVec.ofNat 32 (i 1).val
  let v1218 : Index := Scalar.indexCast arg1
  let c160_450 : Index := 160#32
  let c256_451 : Index := 256#32
  ![v1218.toNat, 160, 256]
def k0_off88 (i : grid0.Coords) : Fin 3 → Nat :=
  let arg1 : BitVec 32 := BitVec.ofNat 32 (i 1).val
  let v1271 : Index := Scalar.indexCast arg1
  let c160_469 : Index := 160#32
  let c384_470 : Index := 384#32
  ![v1271.toNat, 160, 384]
def k0_off89 (i : grid0.Coords) : Fin 3 → Nat :=
  let arg1 : BitVec 32 := BitVec.ofNat 32 (i 1).val
  let v1328 : Index := Scalar.indexCast arg1
  let c192_493 : Index := 192#32
  let c0_494 : Index := 0#32
  ![v1328.toNat, 192, 0]
def k0_off90 (i : grid0.Coords) : Fin 3 → Nat :=
  let arg1 : BitVec 32 := BitVec.ofNat 32 (i 1).val
  let v1381 : Index := Scalar.indexCast arg1
  let c192_512 : Index := 192#32
  let c128_513 : Index := 128#32
  ![v1381.toNat, 192, 128]
def k0_off91 (i : grid0.Coords) : Fin 3 → Nat :=
  let arg1 : BitVec 32 := BitVec.ofNat 32 (i 1).val
  let v1434 : Index := Scalar.indexCast arg1
  let c192_531 : Index := 192#32
  let c256_532 : Index := 256#32
  ![v1434.toNat, 192, 256]
def k0_off92 (i : grid0.Coords) : Fin 3 → Nat :=
  let arg1 : BitVec 32 := BitVec.ofNat 32 (i 1).val
  let v1487 : Index := Scalar.indexCast arg1
  let c192_550 : Index := 192#32
  let c384_551 : Index := 384#32
  ![v1487.toNat, 192, 384]
def k0_off93 (i : grid0.Coords) : Fin 3 → Nat :=
  let arg1 : BitVec 32 := BitVec.ofNat 32 (i 1).val
  let v1544 : Index := Scalar.indexCast arg1
  let c224_574 : Index := 224#32
  let c0_575 : Index := 0#32
  ![v1544.toNat, 224, 0]
def k0_off94 (i : grid0.Coords) : Fin 3 → Nat :=
  let arg1 : BitVec 32 := BitVec.ofNat 32 (i 1).val
  let v1597 : Index := Scalar.indexCast arg1
  let c224_593 : Index := 224#32
  let c128_594 : Index := 128#32
  ![v1597.toNat, 224, 128]
def k0_off95 (i : grid0.Coords) : Fin 3 → Nat :=
  let arg1 : BitVec 32 := BitVec.ofNat 32 (i 1).val
  let v1650 : Index := Scalar.indexCast arg1
  let c224_612 : Index := 224#32
  let c256_613 : Index := 256#32
  ![v1650.toNat, 224, 256]
def k0_off96 (i : grid0.Coords) : Fin 3 → Nat :=
  let arg1 : BitVec 32 := BitVec.ofNat 32 (i 1).val
  let v1703 : Index := Scalar.indexCast arg1
  let c224_631 : Index := 224#32
  let c384_632 : Index := 384#32
  ![v1703.toNat, 224, 384]
def k0_off97 (i : grid0.Coords) : Fin 3 → Nat :=
  let arg1 : BitVec 32 := BitVec.ofNat 32 (i 1).val
  let v1760 : Index := Scalar.indexCast arg1
  let c256_656 : Index := 256#32
  let c0_657 : Index := 0#32
  ![v1760.toNat, 256, 0]
def k0_off98 (i : grid0.Coords) : Fin 3 → Nat :=
  let arg1 : BitVec 32 := BitVec.ofNat 32 (i 1).val
  let v1813 : Index := Scalar.indexCast arg1
  let c256_675 : Index := 256#32
  let c128_676 : Index := 128#32
  ![v1813.toNat, 256, 128]
def k0_off99 (i : grid0.Coords) : Fin 3 → Nat :=
  let arg1 : BitVec 32 := BitVec.ofNat 32 (i 1).val
  let v1866 : Index := Scalar.indexCast arg1
  let c256_694 : Index := 256#32
  let c256_695 : Index := 256#32
  ![v1866.toNat, 256, 256]
def k0_off100 (i : grid0.Coords) : Fin 3 → Nat :=
  let arg1 : BitVec 32 := BitVec.ofNat 32 (i 1).val
  let v1919 : Index := Scalar.indexCast arg1
  let c256_713 : Index := 256#32
  let c384_714 : Index := 384#32
  ![v1919.toNat, 256, 384]
def k0_off101 (i : grid0.Coords) : Fin 3 → Nat :=
  let arg1 : BitVec 32 := BitVec.ofNat 32 (i 1).val
  let v1976 : Index := Scalar.indexCast arg1
  let c288_737 : Index := 288#32
  let c0_738 : Index := 0#32
  ![v1976.toNat, 288, 0]
def k0_off102 (i : grid0.Coords) : Fin 3 → Nat :=
  let arg1 : BitVec 32 := BitVec.ofNat 32 (i 1).val
  let v2029 : Index := Scalar.indexCast arg1
  let c288_756 : Index := 288#32
  let c128_757 : Index := 128#32
  ![v2029.toNat, 288, 128]
def k0_off103 (i : grid0.Coords) : Fin 3 → Nat :=
  let arg1 : BitVec 32 := BitVec.ofNat 32 (i 1).val
  let v2082 : Index := Scalar.indexCast arg1
  let c288_775 : Index := 288#32
  let c256_776 : Index := 256#32
  ![v2082.toNat, 288, 256]
def k0_off104 (i : grid0.Coords) : Fin 3 → Nat :=
  let arg1 : BitVec 32 := BitVec.ofNat 32 (i 1).val
  let v2135 : Index := Scalar.indexCast arg1
  let c288_794 : Index := 288#32
  let c384_795 : Index := 384#32
  ![v2135.toNat, 288, 384]
def k0_off105 (i : grid0.Coords) : Fin 3 → Nat :=
  let arg1 : BitVec 32 := BitVec.ofNat 32 (i 1).val
  let v2192 : Index := Scalar.indexCast arg1
  let c320_818 : Index := 320#32
  let c0_819 : Index := 0#32
  ![v2192.toNat, 320, 0]
def k0_off106 (i : grid0.Coords) : Fin 3 → Nat :=
  let arg1 : BitVec 32 := BitVec.ofNat 32 (i 1).val
  let v2245 : Index := Scalar.indexCast arg1
  let c320_837 : Index := 320#32
  let c128_838 : Index := 128#32
  ![v2245.toNat, 320, 128]
def k0_off107 (i : grid0.Coords) : Fin 3 → Nat :=
  let arg1 : BitVec 32 := BitVec.ofNat 32 (i 1).val
  let v2298 : Index := Scalar.indexCast arg1
  let c320_856 : Index := 320#32
  let c256_857 : Index := 256#32
  ![v2298.toNat, 320, 256]
def k0_off108 (i : grid0.Coords) : Fin 3 → Nat :=
  let arg1 : BitVec 32 := BitVec.ofNat 32 (i 1).val
  let v2351 : Index := Scalar.indexCast arg1
  let c320_875 : Index := 320#32
  let c384_876 : Index := 384#32
  ![v2351.toNat, 320, 384]
def k0_off109 (i : grid0.Coords) : Fin 3 → Nat :=
  let arg1 : BitVec 32 := BitVec.ofNat 32 (i 1).val
  let v2408 : Index := Scalar.indexCast arg1
  let c352_899 : Index := 352#32
  let c0_900 : Index := 0#32
  ![v2408.toNat, 352, 0]
def k0_off110 (i : grid0.Coords) : Fin 3 → Nat :=
  let arg1 : BitVec 32 := BitVec.ofNat 32 (i 1).val
  let v2461 : Index := Scalar.indexCast arg1
  let c352_918 : Index := 352#32
  let c128_919 : Index := 128#32
  ![v2461.toNat, 352, 128]
def k0_off111 (i : grid0.Coords) : Fin 3 → Nat :=
  let arg1 : BitVec 32 := BitVec.ofNat 32 (i 1).val
  let v2514 : Index := Scalar.indexCast arg1
  let c352_937 : Index := 352#32
  let c256_938 : Index := 256#32
  ![v2514.toNat, 352, 256]
def k0_off112 (i : grid0.Coords) : Fin 3 → Nat :=
  let arg1 : BitVec 32 := BitVec.ofNat 32 (i 1).val
  let v2567 : Index := Scalar.indexCast arg1
  let c352_956 : Index := 352#32
  let c384_957 : Index := 384#32
  ![v2567.toNat, 352, 384]
def k0_off113 (i : grid0.Coords) : Fin 3 → Nat :=
  let arg1 : BitVec 32 := BitVec.ofNat 32 (i 1).val
  let v2624 : Index := Scalar.indexCast arg1
  let c384_981 : Index := 384#32
  let c0_982 : Index := 0#32
  ![v2624.toNat, 384, 0]
def k0_off114 (i : grid0.Coords) : Fin 3 → Nat :=
  let arg1 : BitVec 32 := BitVec.ofNat 32 (i 1).val
  let v2677 : Index := Scalar.indexCast arg1
  let c384_1000 : Index := 384#32
  let c128_1001 : Index := 128#32
  ![v2677.toNat, 384, 128]
def k0_off115 (i : grid0.Coords) : Fin 3 → Nat :=
  let arg1 : BitVec 32 := BitVec.ofNat 32 (i 1).val
  let v2730 : Index := Scalar.indexCast arg1
  let c384_1019 : Index := 384#32
  let c256_1020 : Index := 256#32
  ![v2730.toNat, 384, 256]
def k0_off116 (i : grid0.Coords) : Fin 3 → Nat :=
  let arg1 : BitVec 32 := BitVec.ofNat 32 (i 1).val
  let v2783 : Index := Scalar.indexCast arg1
  let c384_1038 : Index := 384#32
  let c384_1039 : Index := 384#32
  ![v2783.toNat, 384, 384]
def k0_off117 (i : grid0.Coords) : Fin 3 → Nat :=
  let arg1 : BitVec 32 := BitVec.ofNat 32 (i 1).val
  let v2840 : Index := Scalar.indexCast arg1
  let c416_1062 : Index := 416#32
  let c0_1063 : Index := 0#32
  ![v2840.toNat, 416, 0]
def k0_off118 (i : grid0.Coords) : Fin 3 → Nat :=
  let arg1 : BitVec 32 := BitVec.ofNat 32 (i 1).val
  let v2893 : Index := Scalar.indexCast arg1
  let c416_1081 : Index := 416#32
  let c128_1082 : Index := 128#32
  ![v2893.toNat, 416, 128]
def k0_off119 (i : grid0.Coords) : Fin 3 → Nat :=
  let arg1 : BitVec 32 := BitVec.ofNat 32 (i 1).val
  let v2946 : Index := Scalar.indexCast arg1
  let c416_1100 : Index := 416#32
  let c256_1101 : Index := 256#32
  ![v2946.toNat, 416, 256]
def k0_off120 (i : grid0.Coords) : Fin 3 → Nat :=
  let arg1 : BitVec 32 := BitVec.ofNat 32 (i 1).val
  let v2999 : Index := Scalar.indexCast arg1
  let c416_1119 : Index := 416#32
  let c384_1120 : Index := 384#32
  ![v2999.toNat, 416, 384]
def k0_off121 (i : grid0.Coords) : Fin 3 → Nat :=
  let arg1 : BitVec 32 := BitVec.ofNat 32 (i 1).val
  let v3056 : Index := Scalar.indexCast arg1
  let c448_1143 : Index := 448#32
  let c0_1144 : Index := 0#32
  ![v3056.toNat, 448, 0]
def k0_off122 (i : grid0.Coords) : Fin 3 → Nat :=
  let arg1 : BitVec 32 := BitVec.ofNat 32 (i 1).val
  let v3109 : Index := Scalar.indexCast arg1
  let c448_1162 : Index := 448#32
  let c128_1163 : Index := 128#32
  ![v3109.toNat, 448, 128]
def k0_off123 (i : grid0.Coords) : Fin 3 → Nat :=
  let arg1 : BitVec 32 := BitVec.ofNat 32 (i 1).val
  let v3162 : Index := Scalar.indexCast arg1
  let c448_1181 : Index := 448#32
  let c256_1182 : Index := 256#32
  ![v3162.toNat, 448, 256]
def k0_off124 (i : grid0.Coords) : Fin 3 → Nat :=
  let arg1 : BitVec 32 := BitVec.ofNat 32 (i 1).val
  let v3215 : Index := Scalar.indexCast arg1
  let c448_1200 : Index := 448#32
  let c384_1201 : Index := 384#32
  ![v3215.toNat, 448, 384]
def k0_off125 (i : grid0.Coords) : Fin 3 → Nat :=
  let arg1 : BitVec 32 := BitVec.ofNat 32 (i 1).val
  let v3272 : Index := Scalar.indexCast arg1
  let c480_1224 : Index := 480#32
  let c0_1225 : Index := 0#32
  ![v3272.toNat, 480, 0]
def k0_off126 (i : grid0.Coords) : Fin 3 → Nat :=
  let arg1 : BitVec 32 := BitVec.ofNat 32 (i 1).val
  let v3325 : Index := Scalar.indexCast arg1
  let c480_1243 : Index := 480#32
  let c128_1244 : Index := 128#32
  ![v3325.toNat, 480, 128]
def k0_off127 (i : grid0.Coords) : Fin 3 → Nat :=
  let arg1 : BitVec 32 := BitVec.ofNat 32 (i 1).val
  let v3378 : Index := Scalar.indexCast arg1
  let c480_1262 : Index := 480#32
  let c256_1263 : Index := 256#32
  ![v3378.toNat, 480, 256]
def k0_off128 (i : grid0.Coords) : Fin 3 → Nat :=
  let arg1 : BitVec 32 := BitVec.ofNat 32 (i 1).val
  let v3431 : Index := Scalar.indexCast arg1
  let c480_1281 : Index := 480#32
  let c384_1282 : Index := 384#32
  ![v3431.toNat, 480, 384]
def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 1 := Scalar.cmpi .slt arg0 c24_i32
  let c25_i32 : BitVec 32 := 25#32
  let v1 : BitVec 32 := Scalar.select v0 arg1 c25_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c25_i32 : BitVec 32 := 25#32
  let v2 : BitVec 32 := Scalar.select v1 arg1 c25_i32
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c24_i32 : BitVec 32 := 24#32
  let v1 : BitVec 1 := Scalar.cmpi .slt arg0 c24_i32
  let c25_i32 : BitVec 32 := 25#32
  let v2 : BitVec 32 := Scalar.select v1 arg1 c25_i32
  let c0_i32 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, c0_i32_2.toNat]

abbrev stage0_0 : Fin 2 → Memref sig .tc .vmem S512x16384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x104 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "inv_n" => some ((1 / 13312 : ℝ) : EReal)
  | _ => none
-- ==== ReferenceIdeal.lean ====
abbrev S3x4096x16384 : Shape := ⟨3, ![3, 4096, 16384]⟩
abbrev S3x4096x1 : Shape := ⟨3, ![3, 4096, 1]⟩
abbrev S16384x13312 : Shape := ⟨2, ![16384, 13312]⟩
abbrev S13312 : Shape := ⟨1, ![13312]⟩
abbrev S3x4096x13312 : Shape := ⟨3, ![3, 4096, 13312]⟩
abbrev S12288x16384 : Shape := ⟨2, ![12288, 16384]⟩
abbrev S12288x1 : Shape := ⟨2, ![12288, 1]⟩
abbrev S1x13312 : Shape := ⟨2, ![1, 13312]⟩
abbrev S12288x13312 : Shape := ⟨2, ![12288, 13312]⟩
abbrev S12288x104 : Shape := ⟨2, ![12288, 104]⟩
abbrev S12288 : Shape := ⟨1, ![12288]⟩
abbrev S12288x104x128 : Shape := ⟨3, ![12288, 104, 128]⟩
abbrev S12288x104x1 : Shape := ⟨3, ![12288, 104, 1]⟩

abbrev nBuf : Space → Nat
  | .hbm => 14
  | .vmem => 9
  | .smem => 0
  | _ => 0

abbrev bufTy : (tb : Table) → Fin (tcTables nBuf tb) → BufTy
  | .hbm, ⟨0, _⟩ => ⟨S3x4096x16384, .fp8e4m3⟩
  | .hbm, ⟨1, _⟩ => ⟨S3x4096x1, .f32⟩
  | .hbm, ⟨2, _⟩ => ⟨S16384x13312, .fp8e4m3⟩
  | .hbm, ⟨3, _⟩ => ⟨S13312, .f32⟩
  | .hbm, ⟨4, _⟩ => ⟨S3x4096x13312, .bf16⟩
  | .hbm, ⟨5, _⟩ => ⟨S13312, .bf16⟩
  | .hbm, ⟨6, _⟩ => ⟨S12288x16384, .fp8e4m3⟩
  | .hbm, ⟨7, _⟩ => ⟨S12288x1, .f32⟩
  | .hbm, ⟨8, _⟩ => ⟨S1x13312, .f32⟩
  | .hbm, ⟨9, _⟩ => ⟨S12288x13312, .bf16⟩
  | .hbm, ⟨10, _⟩ => ⟨S1x13312, .bf16⟩
  | .hbm, ⟨11, _⟩ => ⟨S12288x13312, .bf16⟩
  | .hbm, ⟨12, _⟩ => ⟨S12288x13312, .fp8e4m3⟩
  | .hbm, ⟨13, _⟩ => ⟨S12288x104, .f32⟩
  | .local _ .vmem, ⟨0, _⟩ => ⟨S12288x16384, .fp8e4m3⟩
  | .local _ .vmem, ⟨1, _⟩ => ⟨S12288x1, .f32⟩
  | .local _ .vmem, ⟨2, _⟩ => ⟨S16384x13312, .fp8e4m3⟩
  | .local _ .vmem, ⟨3, _⟩ => ⟨S1x13312, .f32⟩
  | .local _ .vmem, ⟨4, _⟩ => ⟨S12288x13312, .bf16⟩
  | .local _ .vmem, ⟨5, _⟩ => ⟨S1x13312, .bf16⟩
  | .local _ .vmem, ⟨6, _⟩ => ⟨S12288x13312, .bf16⟩
  | .local _ .vmem, ⟨7, _⟩ => ⟨S12288x13312, .fp8e4m3⟩
  | .local _ .vmem, ⟨8, _⟩ => ⟨S12288x104, .f32⟩
  | _, _ => ⟨S3x4096x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12288x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x13312 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x13312 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x13312 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x13312 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x13312 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x13312 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x104 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.WordTiles.lean ====
/-
  The kernel's body written as loops over tiles.

  The printed body unrolls every loop: 16 strips of 32 rows, 4 groups of 128 columns in a strip. Here
  one tile and one strip are written once, with the strip and the group as parameters; `WordBody.lean`
  proves that the printed body is these loops.

  This module is `Tiles.lean` for the kernel as printed, before its constant is named.
-/
module

public import proofs.«01_k».proof.Proof.Gen.Kernel

@[expose] public section

noncomputable section

namespace Cert.Kernel.Tiles

open Idealize.ShloMosaic Idealize.SL.Sem Cert.Kernel.Gen

variable {F : FTy → Type} [FloatOps F]

/-! ## Rectangles -/

/-- Where tile `(s, g)` of column block `i 1` lies in the buffer of projected blocks. -/
def hOff (i : grid0.Coords) (s : Fin 16) (g : Fin 4) : Fin 3 → Nat :=
  ![(Scalar.indexCast (BitVec.ofNat 32 (i 1).val)).toNat, 32 * s.val, 128 * g.val]

theorem hOff_eq (i : grid0.Coords) (s : Fin 16) (g : Fin 4) : hOff i s g = ![(i 1).val, 32 * s.val, 128 * g.val] := by
  have h := congrFun (k0_off1_eq i) 0
  have h' : (Scalar.indexCast (BitVec.ofNat 32 (i 1).val)).toNat = (i 1).val := h
  unfold hOff
  rw [h']

theorem hOff_inb (i : grid0.Coords) (s : Fin 16) (g : Fin 4) : ∀ a, hOff i s g a + S1x32x128.size a ≤ S26x512x512.size a := by
  have h1 : (i 1).val < 26 := (i 1).isLt
  have h2 := s.isLt
  have h3 := g.isLt
  rw [hOff_eq]
  intro a
  fin_cases a
  · show (i 1).val + 1 ≤ 26
    omega
  · show 32 * s.val + 32 ≤ 512
    omega
  · show 128 * g.val + 128 ≤ 512
    omega

theorem hOff_packed (i : grid0.Coords) (s : Fin 16) (g : Fin 4) :
    (Rect.unit (s := S26x512x512) (hOff i s g) S1x32x128.size (hOff_inb i s g)).PackedRows (EltTy.packing .bf16) := by
  refine .inr ⟨(by decide : 2 ≤ S26x512x512.rank), rfl, .inl ⟨?_, ?_⟩⟩
  · show 2 ∣ 32 * s.val
    omega
  · show 2 ∣ 32
    decide

theorem tile_inb (s : Fin 16) (g : Fin 4) : ∀ a, (![32 * s.val, 128 * g.val] : Fin 2 → Nat) a + S32x128.size a ≤ S512x512.size a := by
  have h2 := s.isLt
  have h3 := g.isLt
  intro a
  fin_cases a
  · show 32 * s.val + 32 ≤ 512
    omega
  · show 128 * g.val + 128 ≤ 512
    omega

theorem tile_packed8 (s : Fin 16) (g : Fin 4) :
    (Rect.unit (s := S512x512) ![32 * s.val, 128 * g.val] S32x128.size (tile_inb s g)).PackedRows (EltTy.packing .fp8e4m3) := by
  refine .inr ⟨(by decide : 2 ≤ S512x512.rank), rfl, .inl ⟨?_, ?_⟩⟩
  · show 4 ∣ 32 * s.val
    omega
  · show 4 ∣ 32
    decide

theorem tile_packed16 (s : Fin 16) (g : Fin 4) :
    (Rect.unit (s := S512x512) ![32 * s.val, 128 * g.val] S32x128.size (tile_inb s g)).PackedRows (EltTy.packing .bf16) := by
  refine .inr ⟨(by decide : 2 ≤ S512x512.rank), rfl, .inl ⟨?_, ?_⟩⟩
  · show 2 ∣ 32 * s.val
    omega
  · show 2 ∣ 32
    decide

theorem strip_inb (s : Fin 16) : ∀ a, (![32 * s.val, 0] : Fin 2 → Nat) a + S32x128.size a ≤ S512x128.size a := by
  have h2 := s.isLt
  intro a
  fin_cases a
  · show 32 * s.val + 32 ≤ 512
    omega
  · show 0 + 128 ≤ 128
    omega

theorem scale_inb (s : Fin 16) : ∀ a, (![32 * s.val, 0] : Fin 2 → Nat) a + S32x104.size a ≤ S512x104.size a := by
  have h2 := s.isLt
  intro a
  fin_cases a
  · show 32 * s.val + 32 ≤ 512
    omega
  · show 0 + 104 ≤ 104
    omega

theorem quarter_inb (q : Fin 4) : ∀ a, (![128 * q.val, 0] : Fin 2 → Nat) a + S128x128.size a ≤ S512x128.size a := by
  have h2 := q.isLt
  intro a
  fin_cases a
  · show 128 * q.val + 128 ≤ 512
    omega
  · show 0 + 128 ≤ 128
    omega

theorem row_inb (q : Fin 4) : ∀ a, (![q.val, 0] : Fin 2 → Nat) a + S1x128.size a ≤ S4x128.size a := by
  have h2 := q.isLt
  intro a
  fin_cases a
  · show q.val + 1 ≤ 4
    omega
  · show 0 + 128 ≤ 128
    omega

theorem slices_cols : ∀ g : Fin 4, S1x512.Slices ![0, 128 * g.val] S1x128 := by decide
theorem slices_tile : ∀ (s : Fin 16) (g : Fin 4), S512x512.Slices ![32 * s.val, 128 * g.val] S32x128 := by decide
theorem slices_row : ∀ q : Fin 4, S4x128.Slices ![q.val, 0] S1x128 := by decide
theorem slices_oct : ∀ k : Fin 16, S128x128.Slices ![8 * k.val, 0] S8x128 := by decide

/-! ## What one tile computes -/

/-- A tile of the normalised rows: the stored block times the row's inverse root mean square times the
    column's weight. -/
def normT (h : Vec F S1x32x128 .bf16) (ri : Vec F S32x128 .f32) (gam : FVec F S1x512 .f32) (g : Fin 4) : FVec F S32x128 .f32 :=
  mulf (mulf (extf .f32 (shapeCast S32x128 h shapeCasts_S1x32x128_S32x128) bitsLt_bf16_f32) ri)
    (broadcastTo S32x128 (extractStridedSlice S1x128 ![0, 128 * g.val] gam (slices_cols g)) broadcasts_S1x128_S32x128)

/-- The bound of each row of a tile: its greatest absolute value over 448. -/
def boundT (n : FVec F S32x128 .f32) : FVec F S32x1 .f32 :=
  mulf (shapeCast S32x1 (multiReduction .maximumf [1] S32 (absf n) 0xFF800000#32 reduces_S32x128_S32 (.inl rfl) rfl) shapeCasts_S32_S32x1)
    (broadcast S32x1 (Scalar.ofBits .f32 0x3B124925#32))

/-- The 256 thresholds, as bit patterns: lane `k` holds `k` shifted into the exponent field. -/
def thrBits : IVec S32x256 32 :=
  shli (iota .tc S32x256 32 [1] iota_S32x256_d1_w32) (broadcast S32x256 23#32)

/-- The exponent field of each row's bound: the greatest threshold the bound reaches. -/
def fieldT (t : FVec F S32x1 .f32) : IVec S32x1 32 :=
  andi (shapeCast S32x1 (multiReductionI .maxsi [1] S32
      (select (cmpf .oge (broadcastTo S32x256 t broadcasts_S32x1_S32x256) (bitcastToFloat .f32 thrBits)) thrBits (broadcast S32x256 0#32))
      2147483648#32 reduces_S32x256_S32 rfl) shapeCasts_S32_S32x1)
    (broadcast S32x1 2139095040#32)

/-- The bit pattern of each row's scale. -/
def scaleBits (f : IVec S32x1 32) : IVec S32x1 32 :=
  select (andi (cmpi .ne f (broadcast S32x1 0#32)) (cmpi .ne f (broadcast S32x1 2139095040#32)))
    (addi f (broadcast S32x1 8388608#32)) (broadcast S32x1 1065353216#32)

/-- The bit pattern of each row's scale, from the normalised tile. -/
def sbT (n : FVec F S32x128 .f32) : IVec S32x1 32 := scaleBits (fieldT (boundT n))

/-- Each row's scale. -/
def scaleT (n : FVec F S32x128 .f32) : FVec F S32x1 .f32 := bitcastToFloat .f32 (sbT n)

/-- The reciprocal of each row's scale. -/
def invT (n : FVec F S32x128 .f32) : FVec F S32x1 .f32 :=
  bitcastToFloat .f32 (subi (broadcast S32x1 2130706432#32) (sbT n))

/-- A tile of codes. -/
def codesT (n : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf n (broadcastTo S32x128 (invT n) broadcasts_S32x1_S32x128)))) bitsLt_fp8e4m3_f32

/-- A strip of scales with the column of group `g` of column block `i 1` replaced. -/
def scaleUpd (i : grid0.Coords) (g : Fin 4) (n : FVec F S32x128 .f32) (sc : FVec F S32x104 .f32) : FVec F S32x104 .f32 :=
  select (cmpi .eq (iota .tc S32x104 32 [1] iota_S32x104_d1_w32)
      (broadcast S32x104 (Scalar.addi (Scalar.muli (BitVec.ofNat 32 (i 1).val) 4#32) (BitVec.ofNat 32 g.val))))
    (broadcastTo S32x104 (shapeCast S32x1 (scaleT n) shapeCasts_S32x1_S32x1) broadcasts_S32x1_S32x104) sc

/-- A tile of the projection plus the residual. -/
def hT (acc : FVec F S512x512 .f32) (xs : Vec F S32x128 .f32) (ws : FVec F S1x512 .f32) (res : Vec F S32x128 .bf16) (s : Fin 16) (g : Fin 4) :
    FVec F S32x128 .bf16 :=
  truncf .bf16 (addf (extf .f32 (shapeCast S32x128 res shapeCasts_S32x128_S32x128) bitsLt_bf16_f32)
    (mulf (mulf (extractStridedSlice S32x128 ![32 * s.val, 128 * g.val] acc (slices_tile s g)) xs)
      (broadcastTo S32x128 (extractStridedSlice S1x128 ![0, 128 * g.val] ws (slices_cols g)) broadcasts_S1x128_S32x128))) bitsLt_bf16_f32

/-- A running sum of squares with one tile's squares added. -/
def sqAdd (sq : FVec F S32x128 .f32) (h : FVec F S32x128 .bf16) : FVec F S32x128 .f32 :=
  addf sq (mulf (extf .f32 h bitsLt_bf16_f32) (extf .f32 h bitsLt_bf16_f32))

/-- Group `k` of eight rows of a quarter. -/
def oct (v : FVec F S128x128 .f32) (k : Fin 16) : FVec F S8x128 .f32 := extractStridedSlice S8x128 ![8 * k.val, 0] v (slices_oct k)

/-- The sixteen groups of eight rows added up. -/
def octSum (v : FVec F S128x128 .f32) : FVec F S8x128 .f32 :=
  addf (addf (addf (addf (addf (addf (addf (addf (addf (addf (addf (addf (addf (addf (addf (oct v 0) (oct v 1)) (oct v 2)) (oct v 3)) (oct v 4)) (oct v 5)) (oct v 6)) (oct v 7)) (oct v 8)) (oct v 9)) (oct v 10)) (oct v 11)) (oct v 12)) (oct v 13)) (oct v 14)) (oct v 15)

/-- Eight rows with the rows `n` places away added. -/
def rot (n : BitVec 32) (v : FVec F S8x128 .f32) : FVec F S8x128 .f32 := addf v (dynamicRotate 0 n none v rotates_S8x128_d0)

/-- The sums of the rows of a quarter, along the lanes. -/
def laneSums (v : Vec F S128x128 .f32) : FVec F S1x128 .f32 :=
  extractStridedSlice S1x128 ![0, 0]
    (rot 1#32 (rot 2#32 (rot 4#32 (octSum (transpose S128x128 [1, 0] v transposes_S128x128_p1_0_S128x128))))) slices_S8x128_o0_0_S1x128

/-- A row of sums with a quarter's sums added, when the pair of column blocks is complete. -/
def totUpd (odd : BitVec 1) (tot : Vec F S1x128 .f32) (v : Vec F S128x128 .f32) : FVec F S1x128 .f32 :=
  shapeCast S1x128 (addf tot (Scalar.select odd (laneSums v) (broadcast S1x128 (Scalar.ofBits .f32 0x00000000#32)))) shapeCasts_S1x128_S1x128

/-- A quarter of the inverse root mean squares, spread along the lanes. -/
def rinvT (tot : Vec F S4x128 .f32) (q : Fin 4) : FVec F S128x128 .f32 :=
  shapeCast S128x128 (transpose S128x128 [1, 0] (broadcastTo S128x128 (shapeCast S1x128 (extractStridedSlice S1x128 ![q.val, 0]
    (rsqrt (addf (mulf tot (broadcast S4x128 (Scalar.ofBits .f32 0x389D89D9#32))) (broadcast S4x128 (Scalar.ofBits .f32 0x3727C5AC#32))))
    (slices_row q)) shapeCasts_S1x128_S1x128) broadcasts_S1x128_S128x128) transposes_S128x128_p1_0_S128x128) shapeCasts_S128x128_S128x128

/-- The row scales of the left operand, spread along the lanes. -/
def xsT (xs : Vec F S1x1x512 .f32) : FVec F S512x128 .f32 :=
  shapeCast S512x128 (transpose S512x128 [1, 0] (broadcastTo S128x512 (shapeCast S1x512 (shapeCast S1x512 xs shapeCasts_S1x1x512_S1x512)
    shapeCasts_S1x512_S1x512) broadcasts_S1x512_S128x512) transposes_S128x512_p1_0_S512x128) shapeCasts_S512x128_S512x128

/-- Whether the column block is odd: whether it completes a pair. -/
def oddBit (i : grid0.Coords) : BitVec 1 :=
  let arg1 : BitVec 32 := BitVec.ofNat 32 (i 1).val
  let v9 : BitVec 32 := Scalar.select (Scalar.cmpi .eq 2#32 0#32) 1#32 2#32
  let v10 : BitVec 32 := Scalar.remsi arg1 v9
  let v15 : BitVec 1 := Scalar.andi (Scalar.xori (Scalar.cmpi .slt v10 0#32) (Scalar.cmpi .slt v9 0#32)) (Scalar.cmpi .ne v10 0#32)
  Scalar.cmpi .eq (Scalar.select v15 (Scalar.addi v10 v9) v10) 1#32

/-! ## The loops -/

/-- `f k`, `f (k+1)`, …, `f (N-1)` in order. -/
def seqFrom {N : Nat} (f : Fin N → Prog (TpuEff nD τ sig (Elt F) Λ₀ .tc) PUnit) : (n k : Nat) → n + k = N → Prog (TpuEff nD τ sig (Elt F) Λ₀ .tc) PUnit
  | 0, _, _ => pure ⟨⟩
  | n + 1, k, h => do
      f ⟨k, by omega⟩
      seqFrom f n (k + 1) (by omega)

section
variable (i : grid0.Coords)
  (arg2 : Memref sig .tc .vmem S512x16384 .fp8e4m3) (harg2 : arg2.IsWhole)
  (arg3 : Memref sig .tc .vmem S1x1x512 .f32) (harg3 : arg3.IsWhole)
  (arg4 : Memref sig .tc .vmem S16384x512 .fp8e4m3) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x512 .bf16) (harg7 : arg7.IsWhole)
  (arg8 : Memref sig .tc .vmem S512x512 .bf16) (harg8 : arg8.IsWhole)
  (arg9 : Memref sig .tc .vmem S512x512 .fp8e4m3) (harg9 : arg9.IsWhole)
  (arg10 : Memref sig .tc .vmem S512x104 .f32) (harg10 : arg10.IsWhole)
  (arg11 : Memref sig .tc .vmem S26x512x512 .bf16) (harg11 : arg11.IsWhole)
  (arg12 : Memref sig .tc .vmem S512x128 .f32) (harg12 : arg12.IsWhole)
  (arg13 : Memref sig .tc .vmem S4x128 .f32) (harg13 : arg13.IsWhole)
  (arg14 : Memref sig .tc .vmem S512x128 .f32) (harg14 : arg14.IsWhole)
  (arg15 : Memref sig .tc .vmem S512x128 .f32) (harg15 : arg15.IsWhole)

/-- One tile of the quantiser: reads a tile of the stored block, writes its codes, updates the strip of scales. -/
def qTile (gam : FVec F S1x512 .f32) (ri : Vec F S32x128 .f32) (s : Fin 16) (g : Fin 4) (sc : FVec F S32x104 .f32) :
    Prog (TpuEff nD τ sig (Elt F) Λ₀ .tc) (FVec F S32x104 .f32) := do
  let h : Vec F S1x32x128 .bf16 ← Prog.lift (.load arg11 (Rect.unit (s := S26x512x512) (hOff i s g) S1x32x128.size (hOff_inb i s g)).toLoadRect (View.loadsAt_vmem h_S1x32x128))
  let _o : Vec F S32x128 .fp8e4m3 ← Prog.lift (.load arg9 (Rect.unit (s := S512x512) ![32 * s.val, 128 * g.val] S32x128.size (tile_inb s g)).toLoadRect (View.loadsAt_vmem h_S32x128))
  Prog.lift (.store arg9 (Rect.unit (s := S512x512) ![32 * s.val, 128 * g.val] S32x128.size (tile_inb s g)) (codesT (normT h ri gam g)) Finset.univ (View.stores_vmem h_S32x128 (harg9.storeExact_slice rfl _ (tile_packed8 s g)) (fun _ => rfl)) (.inl rfl))
  pure (scaleUpd i g (normT h ri gam g) sc)

/-- One strip of the quantiser. -/
def qStrip (gam : FVec F S1x512 .f32) (s : Fin 16) : Prog (TpuEff nD τ sig (Elt F) Λ₀ .tc) PUnit := do
  let ri : Vec F S32x128 .f32 ← Prog.lift (.load arg14 (Rect.unit (s := S512x128) ![32 * s.val, 0] S32x128.size (strip_inb s)).toLoadRect (View.loadsAt_vmem h_S32x128))
  let sc : Vec F S32x104 .f32 ← Prog.lift (.load arg10 (Rect.unit (s := S512x104) ![32 * s.val, 0] S32x104.size (scale_inb s)).toLoadRect (View.loadsAt_vmem h_S32x104))
  let sc0 ← qTile i arg9 harg9 arg11 gam ri s 0 (shapeCast S32x104 sc shapeCasts_S32x104_S32x104)
  let sc1 ← qTile i arg9 harg9 arg11 gam ri s 1 sc0
  let sc2 ← qTile i arg9 harg9 arg11 gam ri s 2 sc1
  let sc3 ← qTile i arg9 harg9 arg11 gam ri s 3 sc2
  let _o : Vec F S32x104 .f32 ← Prog.lift (.load arg10 (Rect.unit (s := S512x104) ![32 * s.val, 0] S32x104.size (scale_inb s)).toLoadRect (View.loadsAt_vmem h_S32x104))
  Prog.lift (.store arg10 (Rect.unit (s := S512x104) ![32 * s.val, 0] S32x104.size (scale_inb s)) sc3 Finset.univ (View.stores_vmem_bits_univ h_S32x104 rfl) (.inl rfl))

/-- One tile of the projection: reads a tile of the residual, writes the tile into the buffer of projected
    blocks and into the result, adds its squares. -/
def hTile (acc : FVec F S512x512 .f32) (ws : FVec F S1x512 .f32) (xs : Vec F S32x128 .f32) (s : Fin 16) (g : Fin 4) (sq : FVec F S32x128 .f32) :
    Prog (TpuEff nD τ sig (Elt F) Λ₀ .tc) (FVec F S32x128 .f32) := do
  let res : Vec F S32x128 .bf16 ← Prog.lift (.load arg6 (Rect.unit (s := S512x512) ![32 * s.val, 128 * g.val] S32x128.size (tile_inb s g)).toLoadRect (View.loadsAt_vmem h_S32x128))
  let _o : Vec F S1x32x128 .bf16 ← Prog.lift (.load arg11 (Rect.unit (s := S26x512x512) (hOff i s g) S1x32x128.size (hOff_inb i s g)).toLoadRect (View.loadsAt_vmem h_S1x32x128))
  Prog.lift (.store arg11 (Rect.unit (s := S26x512x512) (hOff i s g) S1x32x128.size (hOff_inb i s g)) (shapeCast S1x32x128 (hT acc xs ws res s g) shapeCasts_S32x128_S1x32x128) Finset.univ (View.stores_vmem h_S1x32x128 (harg11.storeExact_slice rfl _ (hOff_packed i s g)) (fun _ => rfl)) (.inl rfl))
  let _o : Vec F S32x128 .bf16 ← Prog.lift (.load arg8 (Rect.unit (s := S512x512) ![32 * s.val, 128 * g.val] S32x128.size (tile_inb s g)).toLoadRect (View.loadsAt_vmem h_S32x128))
  Prog.lift (.store arg8 (Rect.unit (s := S512x512) ![32 * s.val, 128 * g.val] S32x128.size (tile_inb s g)) (hT acc xs ws res s g) Finset.univ (View.stores_vmem h_S32x128 (harg8.storeExact_slice rfl _ (tile_packed16 s g)) (fun _ => rfl)) (.inl rfl))
  pure (sqAdd sq (hT acc xs ws res s g))

/-- One strip of the projection. -/
def hStrip (acc : FVec F S512x512 .f32) (ws : FVec F S1x512 .f32) (s : Fin 16) : Prog (TpuEff nD τ sig (Elt F) Λ₀ .tc) PUnit := do
  let xs : Vec F S32x128 .f32 ← Prog.lift (.load arg15 (Rect.unit (s := S512x128) ![32 * s.val, 0] S32x128.size (strip_inb s)).toLoadRect (View.loadsAt_vmem h_S32x128))
  let sq : Vec F S32x128 .f32 ← Prog.lift (.load arg12 (Rect.unit (s := S512x128) ![32 * s.val, 0] S32x128.size (strip_inb s)).toLoadRect (View.loadsAt_vmem h_S32x128))
  let sq0 ← hTile i arg6 arg8 harg8 arg11 harg11 acc ws xs s 0 (Scalar.select (oddBit i) sq (broadcast S32x128 (Scalar.ofBits .f32 0x00000000#32)))
  let sq1 ← hTile i arg6 arg8 harg8 arg11 harg11 acc ws xs s 1 sq0
  let sq2 ← hTile i arg6 arg8 harg8 arg11 harg11 acc ws xs s 2 sq1
  let sq3 ← hTile i arg6 arg8 harg8 arg11 harg11 acc ws xs s 3 sq2
  let _o : Vec F S32x128 .f32 ← Prog.lift (.load arg12 (Rect.unit (s := S512x128) ![32 * s.val, 0] S32x128.size (strip_inb s)).toLoadRect (View.loadsAt_vmem h_S32x128))
  Prog.lift (.store arg12 (Rect.unit (s := S512x128) ![32 * s.val, 0] S32x128.size (strip_inb s)) (shapeCast S32x128 sq3 shapeCasts_S32x128_S32x128) Finset.univ (View.stores_vmem_bits_univ h_S32x128 rfl) (.inl rfl))

/-- One quarter of the row sums. -/
def totQuarter (q : Fin 4) : Prog (TpuEff nD τ sig (Elt F) Λ₀ .tc) PUnit := do
  let v : Vec F S128x128 .f32 ← Prog.lift (.load arg12 (Rect.unit (s := S512x128) ![128 * q.val, 0] S128x128.size (quarter_inb q)).toLoadRect (View.loadsAt_vmem h_S128x128))
  let t : Vec F S1x128 .f32 ← Prog.lift (.load arg13 (Rect.unit (s := S4x128) ![q.val, 0] S1x128.size (row_inb q)).toLoadRect (View.loadsAt_vmem h_S1x128))
  let _o : Vec F S1x128 .f32 ← Prog.lift (.load arg13 (Rect.unit (s := S4x128) ![q.val, 0] S1x128.size (row_inb q)).toLoadRect (View.loadsAt_vmem h_S1x128))
  Prog.lift (.store arg13 (Rect.unit (s := S4x128) ![q.val, 0] S1x128.size (row_inb q)) (totUpd (oddBit i) t v) Finset.univ (View.stores_vmem_bits_univ h_S1x128 rfl) (.inl rfl))

/-- The first step clears the scratch buffers. -/
def clearB : Prog (TpuEff nD τ sig (Elt F) Λ₀ .tc) PUnit := do
  let _o : Vec F S26x512x512 .bf16 ← Prog.lift (.load arg11 (Rect.unit (s := S26x512x512) ![0, 0, 0] S26x512x512.size inb_S26x512x512_S26x512x512_0_0_0).toLoadRect (View.loadsAt_vmem h_S26x512x512))
  Prog.lift (.store arg11 (Rect.unit (s := S26x512x512) ![0, 0, 0] S26x512x512.size inb_S26x512x512_S26x512x512_0_0_0) (shapeCast S26x512x512 (broadcast S26x512x512 (Scalar.ofBits .bf16 0x0000#16)) shapeCasts_S26x512x512_S26x512x512) Finset.univ (View.stores_vmem h_S26x512x512 (harg11.storeExact_slice rfl _ packedbf16_S26x512x512_S26x512x512_0_0_0) (fun _ => rfl)) (.inl rfl))
  let _o : Vec F S4x128 .f32 ← Prog.lift (.load arg13 (Rect.unit (s := S4x128) ![0, 0] S4x128.size inb_S4x128_S4x128_0_0).toLoadRect (View.loadsAt_vmem h_S4x128))
  Prog.lift (.store arg13 (Rect.unit (s := S4x128) ![0, 0] S4x128.size inb_S4x128_S4x128_0_0) (shapeCast S4x128 (broadcast S4x128 (Scalar.ofBits .f32 0x00000000#32)) shapeCasts_S4x128_S4x128) Finset.univ (View.stores_vmem_bits_univ h_S4x128 rfl) (.inl rfl))
  let _o : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (shapeCast S512x128 (broadcast S512x128 (Scalar.ofBits .f32 0x00000000#32)) shapeCasts_S512x128_S512x128) Finset.univ (View.stores_vmem_bits_univ h_S512x128 rfl) (.inl rfl))

/-- One quarter of the inverse root mean squares. -/
def rinvQuarter (tot : Vec F S4x128 .f32) (q : Fin 4) : Prog (TpuEff nD τ sig (Elt F) Λ₀ .tc) PUnit := do
  let _o : Vec F S128x128 .f32 ← Prog.lift (.load arg14 (Rect.unit (s := S512x128) ![128 * q.val, 0] S128x128.size (quarter_inb q)).toLoadRect (View.loadsAt_vmem h_S128x128))
  Prog.lift (.store arg14 (Rect.unit (s := S512x128) ![128 * q.val, 0] S128x128.size (quarter_inb q)) (rinvT tot q) Finset.univ (View.stores_vmem_bits_univ h_S128x128 rfl) (.inl rfl))

/-- The first step of a row of blocks: the inverse root mean squares of the rows before, the row sums cleared, the
    row scales spread. -/
def rowB : Prog (TpuEff nD τ sig (Elt F) Λ₀ .tc) PUnit := do
  let tot : Vec F S4x128 .f32 ← Prog.lift (.load arg13 (Rect.unit (s := S4x128) ![0, 0] S4x128.size inb_S4x128_S4x128_0_0).toLoadRect (View.loadsAt_vmem h_S4x128))
  seqFrom (rinvQuarter arg14 tot) 4 0 rfl
  let _o : Vec F S4x128 .f32 ← Prog.lift (.load arg13 (Rect.unit (s := S4x128) ![0, 0] S4x128.size inb_S4x128_S4x128_0_0).toLoadRect (View.loadsAt_vmem h_S4x128))
  Prog.lift (.store arg13 (Rect.unit (s := S4x128) ![0, 0] S4x128.size inb_S4x128_S4x128_0_0) (shapeCast S4x128 (broadcast S4x128 (Scalar.ofBits .f32 0x00000000#32)) shapeCasts_S4x128_S4x128) Finset.univ (View.stores_vmem_bits_univ h_S4x128 rfl) (.inl rfl))
  let xs : Vec F S1x1x512 .f32 ← Prog.lift (.load arg3 (Rect.unit (s := S1x1x512) ![0, 0, 0] S1x1x512.size inb_S1x1x512_S1x1x512_0_0_0).toLoadRect (View.loadsAt_vmem h_S1x1x512))
  let _o : Vec F S512x128 .f32 ← Prog.lift (.load arg15 (Rect.unit (s := S512x128) ![0, 0] S512x128.size inb_S512x128_S512x128_0_0).toLoadRect (View.loadsAt_vmem h_S512x128))
  Prog.lift (.store arg15 (Rect.unit (s := S512x128) ![0, 0] S512x128.size inb_S512x128_S512x128_0_0) (xsT xs) Finset.univ (View.stores_vmem_bits_univ h_S512x128 rfl) (.inl rfl))

/-- A step that projects: the product, then the quantiser of the rows before, then the projection, then the row sums. -/
def mainB : Prog (TpuEff nD τ sig (Elt F) Λ₀ .tc) PUnit := do
  let x : Vec F S512x16384 .fp8e4m3 ← Prog.lift (.load arg2 (Rect.unit (s := S512x16384) ![0, 0] S512x16384.size inb_S512x16384_S512x16384_0_0).toLoadRect (View.loadsAt_vmem h_S512x16384))
  let w : Vec F S16384x512 .fp8e4m3 ← Prog.lift (.load arg4 (Rect.unit (s := S16384x512) ![0, 0] S16384x512.size inb_S16384x512_S16384x512_0_0).toLoadRect (View.loadsAt_vmem h_S16384x512))
  let gam : Vec F S1x512 .bf16 ← Prog.lift (.load arg7 (Rect.unit (s := S1x512) ![0, 0] S1x512.size inb_S1x512_S1x512_0_0).toLoadRect (View.loadsAt_vmem h_S1x512))
  seqFrom (qStrip i arg9 harg9 arg10 arg11 arg14 (extf .f32 (shapeCast S1x512 gam shapeCasts_S1x512_S1x512) bitsLt_bf16_f32)) 16 0 rfl
  let ws : Vec F S1x512 .f32 ← Prog.lift (.load arg5 (Rect.unit (s := S1x512) ![0, 0] S1x512.size inb_S1x512_S1x512_0_0).toLoadRect (View.loadsAt_vmem h_S1x512))
  seqFrom (hStrip i arg6 arg8 harg8 arg11 harg11 arg12 arg15
    (matmul dot_S512x16384_S16384x512_S512x512_1_0_0_1_n_n none (shapeCast S512x16384 x shapeCasts_S512x16384_S512x16384) w (constant S512x512 .f32 0x00000000#32))
    (shapeCast S1x512 ws shapeCasts_S1x512_S1x512)) 16 0 rfl
  seqFrom (totQuarter i arg12 arg13) 4 0 rfl

/-- A last step, which only quantises. -/
def lastB : Prog (TpuEff nD τ sig (Elt F) Λ₀ .tc) PUnit := do
  let gam : Vec F S1x512 .bf16 ← Prog.lift (.load arg7 (Rect.unit (s := S1x512) ![0, 0] S1x512.size inb_S1x512_S1x512_0_0).toLoadRect (View.loadsAt_vmem h_S1x512))
  seqFrom (qStrip i arg9 harg9 arg10 arg11 arg14 (extf .f32 (shapeCast S1x512 gam shapeCasts_S1x512_S1x512) bitsLt_bf16_f32)) 16 0 rfl

/-- The conditions of the clearing step and of the first step of a row. -/
def cond1 : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
@[inherit_doc cond1] def cond2 : BitVec 1 :=
  Scalar.cmpi .ne (Scalar.extui (Scalar.cmpi .eq (BitVec.ofNat 32 (i 1).val) 0#32) : BitVec 32) 0#32

/-- The body. -/
def body : Prog (TpuEff nD τ sig (Elt F) Λ₀ .tc) PUnit := do
  if cond1 i = 1#1 then clearB arg11 harg11 arg12 arg13 else pure ⟨⟩
  if cond2 i = 1#1 then rowB arg3 arg13 arg14 arg15 else pure ⟨⟩
  if k0_cond3 i = 1#1 then mainB i arg2 arg4 arg5 arg6 arg7 arg8 harg8 arg9 harg9 arg10 arg11 harg11 arg12 arg13 arg14 arg15 else pure ⟨⟩
  if k0_cond4 i = 1#1 then lastB i arg7 arg9 harg9 arg10 arg11 arg14 else pure ⟨⟩
  pure ⟨⟩

end

end Cert.Kernel.Tiles

end
-- ==== Proof.WordWindows.lean ====
/-
  Vectors changed on part of their indices, and the windows the tiles read.

  A store of a tile puts the tile's values over a window of the buffer. Here such a buffer is written
  with one condition on the index: where it holds the new vector's value, elsewhere the old one's.

  This module is `Windows.lean` for the kernel as printed, before its constant is named.
-/
module

public import proofs.«01_k».proof.Proof.WordTiles
public import Idealize.ShloMosaic.Lib.VecWindow

@[expose] public section

noncomputable section

namespace Cert.Kernel.Tiles

open Idealize.ShloMosaic Idealize.SL.Sem Cert.Kernel.Gen

/-- `x` with `t` in place of it where `P` holds. -/
def ovr {ι α : Type} (P : ι → Prop) [DecidablePred P] (t x : ι → α) : ι → α := fun y => if P y then t y else x y

/-! ## The tile and the place in it of an index -/

/-- The strip of a row. -/
def sOf (r : Fin 512) : Fin 16 := ⟨r.val / 32, by omega⟩
/-- The group of a column. -/
def gOf (r : Fin 512) : Fin 4 := ⟨r.val / 128, by omega⟩

/-- An index of a tile. -/
def tIx (r : Fin 32) (l : Fin 128) : S32x128.Idx := Fin.cases r fun j => Fin.cases l (fun k => k.elim0) j
/-- An index of a block. -/
def bIx (r : Fin 512) (l : Fin 512) : S512x512.Idx := Fin.cases r fun j => Fin.cases l (fun k => k.elim0) j
/-- An index of the buffer of blocks. -/
def hIx (j : Fin 26) (r : Fin 512) (l : Fin 512) : S26x512x512.Idx := Fin.cases j fun a => Fin.cases r (fun b => Fin.cases l (fun k => k.elim0) b) a
/-- An index of a block of one group's width. -/
def lIx (r : Fin 512) (l : Fin 128) : S512x128.Idx := Fin.cases r fun j => Fin.cases l (fun k => k.elim0) j
/-- An index of a strip of scales. -/
def cIx (r : Fin 32) (l : Fin 104) : S32x104.Idx := Fin.cases r fun j => Fin.cases l (fun k => k.elim0) j

/-- Where a block's index lies in its tile. -/
def locB (y : S512x512.Idx) : S32x128.Idx := tIx ⟨(y 0).val % 32, by omega⟩ ⟨(y 1).val % 128, by omega⟩
@[inherit_doc locB] def locL (y : S512x128.Idx) : S32x128.Idx := tIx ⟨(y 0).val % 32, by omega⟩ (y 1)
@[inherit_doc locB] def locC (y : S512x104.Idx) : S32x104.Idx := cIx ⟨(y 0).val % 32, by omega⟩ (y 1)

variable {α : Type}

theorem put_tile (x : S512x512.Idx → α) (s : Fin 16) (g : Fin 4) (w : S32x128.Idx → α) :
    VecWindow.put x ![32 * s.val, 128 * g.val] S32x128.size w
      = ovr (fun y => sOf (y 0) = s ∧ gOf (y 1) = g) (fun y => w (locB y)) x := by
  funext y
  have h0 : (y 0).val < 512 := (y 0).isLt
  have h1 : (y 1).val < 512 := (y 1).isLt
  unfold VecWindow.put ovr
  by_cases h : sOf (y 0) = s ∧ gOf (y 1) = g
  · have e0 : (y 0).val / 32 = s.val := congrArg Fin.val h.1
    have e1 : (y 1).val / 128 = g.val := congrArg Fin.val h.2
    have h' : ∀ a, (![32 * s.val, 128 * g.val] : Fin 2 → ℕ) a ≤ (y a).val ∧ (y a).val < (![32 * s.val, 128 * g.val] : Fin 2 → ℕ) a + S32x128.size a := by
      intro a
      fin_cases a
      · show 32 * s.val ≤ (y 0).val ∧ (y 0).val < 32 * s.val + 32
        omega
      · show 128 * g.val ≤ (y 1).val ∧ (y 1).val < 128 * g.val + 128
        omega
    rw [if_pos h, dif_pos h']
    refine congrArg w (funext fun a => Fin.ext ?_)
    fin_cases a
    · show (y 0).val - 32 * s.val = (y 0).val % 32
      omega
    · show (y 1).val - 128 * g.val = (y 1).val % 128
      omega
  · rw [if_neg h, dif_neg]
    intro h'
    apply h
    have a0 : 32 * s.val ≤ (y 0).val ∧ (y 0).val < 32 * s.val + 32 := h' 0
    have a1 : 128 * g.val ≤ (y 1).val ∧ (y 1).val < 128 * g.val + 128 := h' 1
    constructor
    · exact Fin.ext (show (y 0).val / 32 = s.val by omega)
    · exact Fin.ext (show (y 1).val / 128 = g.val by omega)

theorem put_strip (x : S512x128.Idx → α) (s : Fin 16) (w : S32x128.Idx → α) :
    VecWindow.put x ![32 * s.val, 0] S32x128.size w
      = ovr (fun y => sOf (y 0) = s) (fun y => w (locL y)) x := by
  funext y
  have h0 : (y 0).val < 512 := (y 0).isLt
  have h1 : (y 1).val < 128 := (y 1).isLt
  unfold VecWindow.put ovr
  by_cases h : sOf (y 0) = s
  · have e0 : (y 0).val / 32 = s.val := congrArg Fin.val h
    have h' : ∀ a, (![32 * s.val, 0] : Fin 2 → ℕ) a ≤ (y a).val ∧ (y a).val < (![32 * s.val, 0] : Fin 2 → ℕ) a + S32x128.size a := by
      intro a
      fin_cases a
      · show 32 * s.val ≤ (y 0).val ∧ (y 0).val < 32 * s.val + 32
        omega
      · show 0 ≤ (y 1).val ∧ (y 1).val < 0 + 128
        omega
    rw [if_pos h, dif_pos h']
    refine congrArg w (funext fun a => Fin.ext ?_)
    fin_cases a
    · show (y 0).val - 32 * s.val = (y 0).val % 32
      omega
    · show (y 1).val - 0 = (y 1).val
      omega
  · rw [if_neg h, dif_neg]
    intro h'
    apply h
    have a0 : 32 * s.val ≤ (y 0).val ∧ (y 0).val < 32 * s.val + 32 := h' 0
    exact Fin.ext (show (y 0).val / 32 = s.val by omega)

theorem put_scale (x : S512x104.Idx → α) (s : Fin 16) (w : S32x104.Idx → α) :
    VecWindow.put x ![32 * s.val, 0] S32x104.size w
      = ovr (fun y => sOf (y 0) = s) (fun y => w (locC y)) x := by
  funext y
  have h0 : (y 0).val < 512 := (y 0).isLt
  have h1 : (y 1).val < 104 := (y 1).isLt
  unfold VecWindow.put ovr
  by_cases h : sOf (y 0) = s
  · have e0 : (y 0).val / 32 = s.val := congrArg Fin.val h
    have h' : ∀ a, (![32 * s.val, 0] : Fin 2 → ℕ) a ≤ (y a).val ∧ (y a).val < (![32 * s.val, 0] : Fin 2 → ℕ) a + S32x104.size a := by
      intro a
      fin_cases a
      · show 32 * s.val ≤ (y 0).val ∧ (y 0).val < 32 * s.val + 32
        omega
      · show 0 ≤ (y 1).val ∧ (y 1).val < 0 + 104
        omega
    rw [if_pos h, dif_pos h']
    refine congrArg w (funext fun a => Fin.ext ?_)
    fin_cases a
    · show (y 0).val - 32 * s.val = (y 0).val % 32
      omega
    · show (y 1).val - 0 = (y 1).val
      omega
  · rw [if_neg h, dif_neg]
    intro h'
    apply h
    have a0 : 32 * s.val ≤ (y 0).val ∧ (y 0).val < 32 * s.val + 32 := h' 0
    exact Fin.ext (show (y 0).val / 32 = s.val by omega)

theorem put_h (x : S26x512x512.Idx → α) (j : Fin 26) (s : Fin 16) (g : Fin 4) (w : S1x32x128.Idx → α) (w' : S32x128.Idx → α)
    (hw : ∀ r l, w (Fin.cases (0 : Fin 1) fun a => Fin.cases (r : Fin 32) (fun b => Fin.cases (l : Fin 128) (fun k => k.elim0) b) a) = w' (tIx r l)) :
    VecWindow.put x ![j.val, 32 * s.val, 128 * g.val] S1x32x128.size w
      = ovr (fun z => (z 0).val = j.val ∧ sOf (z 1) = s ∧ gOf (z 2) = g) (fun z => w' (locB (bIx (z 1) (z 2)))) x := by
  funext y
  have hj : (y 0).val < 26 := (y 0).isLt
  have h0 : (y 1).val < 512 := (y 1).isLt
  have h1 : (y 2).val < 512 := (y 2).isLt
  unfold VecWindow.put ovr
  by_cases h : (y 0).val = j.val ∧ sOf (y 1) = s ∧ gOf (y 2) = g
  · have ej : (y 0).val = j.val := h.1
    have e0 : (y 1).val / 32 = s.val := congrArg Fin.val h.2.1
    have e1 : (y 2).val / 128 = g.val := congrArg Fin.val h.2.2
    have h' : ∀ a, (![j.val, 32 * s.val, 128 * g.val] : Fin 3 → ℕ) a ≤ (y a).val ∧ (y a).val < (![j.val, 32 * s.val, 128 * g.val] : Fin 3 → ℕ) a + S1x32x128.size a := by
      intro a
      fin_cases a
      · show j.val ≤ (y 0).val ∧ (y 0).val < j.val + 1
        omega
      · show 32 * s.val ≤ (y 1).val ∧ (y 1).val < 32 * s.val + 32
        omega
      · show 128 * g.val ≤ (y 2).val ∧ (y 2).val < 128 * g.val + 128
        omega
    rw [if_pos h, dif_pos h']
    refine Eq.trans (congrArg w (funext fun a => Fin.ext ?_)) (hw ⟨(y 1).val % 32, by omega⟩ ⟨(y 2).val % 128, by omega⟩)
    fin_cases a
    · show (y 0).val - j.val = 0
      omega
    · show (y 1).val - 32 * s.val = (y 1).val % 32
      omega
    · show (y 2).val - 128 * g.val = (y 2).val % 128
      omega
  · rw [if_neg h, dif_neg]
    intro h'
    apply h
    have aj : j.val ≤ (y 0).val ∧ (y 0).val < j.val + 1 := h' 0
    have a0 : 32 * s.val ≤ (y 1).val ∧ (y 1).val < 32 * s.val + 32 := h' 1
    have a1 : 128 * g.val ≤ (y 2).val ∧ (y 2).val < 128 * g.val + 128 := h' 2
    refine ⟨by omega, ?_, ?_⟩
    · exact Fin.ext (show (y 1).val / 32 = s.val by omega)
    · exact Fin.ext (show (y 2).val / 128 = g.val by omega)

/-! ## The windows read -/

theorem hInb (j : Fin 26) (s : Fin 16) (g : Fin 4) :
    ∀ a, (![j.val, 32 * s.val, 128 * g.val] : Fin 3 → Nat) a + S1x32x128.size a ≤ S26x512x512.size a := by
  intro a
  fin_cases a
  · show j.val + 1 ≤ 26
    omega
  · show 32 * s.val + 32 ≤ 512
    omega
  · show 128 * g.val + 128 ≤ 512
    omega

/-- A tile of block `j` of the buffer of blocks. -/
def winH (x : S26x512x512.Idx → α) (j : Fin 26) (s : Fin 16) (g : Fin 4) : S1x32x128.Idx → α :=
  VecWindow.window x ![j.val, 32 * s.val, 128 * g.val] S1x32x128.size (hInb j s g)
/-- A tile of a block. -/
def winB (x : S512x512.Idx → α) (s : Fin 16) (g : Fin 4) : S32x128.Idx → α :=
  VecWindow.window x ![32 * s.val, 128 * g.val] S32x128.size (tile_inb s g)
/-- A strip. -/
def winL (x : S512x128.Idx → α) (s : Fin 16) : S32x128.Idx → α :=
  VecWindow.window x ![32 * s.val, 0] S32x128.size (strip_inb s)
/-- A strip of scales. -/
def winC (x : S512x104.Idx → α) (s : Fin 16) : S32x104.Idx → α :=
  VecWindow.window x ![32 * s.val, 0] S32x104.size (scale_inb s)
/-- A quarter. -/
def winQ (x : S512x128.Idx → α) (q : Fin 4) : S128x128.Idx → α :=
  VecWindow.window x ![128 * q.val, 0] S128x128.size (quarter_inb q)
/-- A row of sums. -/
def winR (x : S4x128.Idx → α) (q : Fin 4) : S1x128.Idx → α :=
  VecWindow.window x ![q.val, 0] S1x128.size (row_inb q)

/-- Two vectors that agree on a strip have the same window there. -/
theorem winL_congr {x x' : S512x128.Idx → α} {s : Fin 16} (h : ∀ y, sOf (y 0) = s → x y = x' y) : winL x s = winL x' s := by
  funext y
  refine h _ (Fin.ext ?_)
  have h0 : (y 0).val < 32 := (y 0).isLt
  show (32 * s.val + 1 * (y 0).val) / 32 = s.val
  omega
theorem winC_congr {x x' : S512x104.Idx → α} {s : Fin 16} (h : ∀ y, sOf (y 0) = s → x y = x' y) : winC x s = winC x' s := by
  funext y
  refine h _ (Fin.ext ?_)
  have h0 : (y 0).val < 32 := (y 0).isLt
  show (32 * s.val + 1 * (y 0).val) / 32 = s.val
  omega
theorem winR_congr {x x' : S4x128.Idx → α} {q : Fin 4} (h : ∀ y, (y 0).val = q.val → x y = x' y) : winR x q = winR x' q := by
  funext y
  refine h _ ?_
  have h0 : (y 0).val < 1 := (y 0).isLt
  show q.val + 1 * (y 0).val = q.val
  omega

end Cert.Kernel.Tiles

end
-- ==== Proof.WordTileSpecs.lean ====
/-
  What one tile of each loop does to the buffers: a load reads a window, a store puts one.

  This module is `TileSpecs.lean` for the kernel as printed, before its constant is named.
-/
module

public import proofs.«01_k».proof.Proof.WordWindows
public import proofs.«01_k».proof.Proof.Gen.Kernel.Frame

@[expose] public section

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A load of a window. -/
theorem load_spec (c : Dev nD) (E : Set ℕ) {s : Shape} {e : EltTy} (m : Memref sig .tc .vmem s e) (hm : m.IsWhole)
    {off off' size : Fin s.rank → ℕ} (inb : ∀ a, off a + size a ≤ s.size a) (h : off = off') (inb' : ∀ a, off' a + size a ≤ s.size a)
    (hl : m.view.LoadsAt (Rect.unit off size inb).toLoadRect)
    (x : Vec F s e) (K : Vec F (Rect.unit off size inb).shape e → sProp 𝕄) :
    iprop(owns (c : Thread nD τ) m fullShare x ∗ (owns (c : Thread nD τ) m fullShare x -∗ K (VecWindow.window x off' size inb')))
    ⊢ wp frame (wpE (defs₀ (F := F)) Variants.none c none) E
        (Prog.lift (.load m (Rect.unit off size inb).toLoadRect hl)) K := by
  have key : View.readAt (Elt F) m.view (Rect.unit off size inb).toLoadRect (hm.unread x) = VecWindow.window x off' size inb' := by
    rw [View.readAt_unit m.view _ inb h inb', hm.read_unread]
  unfold owns
  iintro ⟨⟨%f, %hf, H⟩, Hk⟩
  obtain rfl := hm.eq_unread hf
  sl_exec
  sl_step
  iapply Hk
  iexists _; isplitr; swap; · iexact H
  ipureintro; exact hm.read_unread _

/-- A store of a window. -/
theorem store_spec (c : Dev nD) (E : Set ℕ) {s : Shape} {e : EltTy} (m : Memref sig .tc .vmem s e) (hm : m.IsWhole)
    {off off' size : Fin s.rank → ℕ} (inb : ∀ a, off a + size a ≤ s.size a) (h : off = off')
    (w : Vec F (Rect.unit off size inb).shape e)
    (hx : (m.access (Rect.unit off size inb)).Stores Finset.univ)
    (hM : (Finset.univ : Finset (Rect.unit off size inb).shape.Idx) = Finset.univ ∨ ∀ a, (Rect.unit off size inb).stride a = 1)
    (x : Vec F s e) (K : PUnit → sProp 𝕄) :
    iprop(owns (c : Thread nD τ) m fullShare x ∗ (owns (c : Thread nD τ) m fullShare (VecWindow.put x off' size w) -∗ K ⟨⟩))
    ⊢ wp frame (wpE (defs₀ (F := F)) Variants.none c none) E
        (Prog.lift (.store m (Rect.unit off size inb) w Finset.univ hx hM)) K := by
  unfold owns
  iintro ⟨⟨%f, %hf, H⟩, Hk⟩
  obtain rfl := hm.eq_unread hf
  sl_exec
  sl_step
  iapply Hk
  iexists _; isplitr; swap; · iexact H
  ipureintro
  rw [View.read_writes_cons_put m.view _ inb w [] h, View.writes_nil, hm.read_unread]

/-! ## Tiles and strips -/

/-- A normalised tile, of the buffers' values. -/
def normAt (j : Fin 26) (x14 : Vec F S512x128 .f32) (gam : FVec F S1x512 .f32) (x11 : Vec F S26x512x512 .bf16) (s : Fin 16) (g : Fin 4) :
    FVec F S32x128 .f32 :=
  normT (winH x11 j s g) (winL x14 s) gam g

/-- A strip of scales after the four groups of a column block. -/
def scaleStrip (i : grid0.Coords) (x14 : Vec F S512x128 .f32) (gam : FVec F S1x512 .f32) (x11 : Vec F S26x512x512 .bf16) (s : Fin 16)
    (sc : Vec F S32x104 .f32) : FVec F S32x104 .f32 :=
  scaleUpd i 3 (normAt (i 1) x14 gam x11 s 3) (scaleUpd i 2 (normAt (i 1) x14 gam x11 s 2) (scaleUpd i 1 (normAt (i 1) x14 gam x11 s 1)
    (scaleUpd i 0 (normAt (i 1) x14 gam x11 s 0) (shapeCast S32x104 sc shapeCasts_S32x104_S32x104))))

/-- A block of codes. -/
def codesV (j : Fin 26) (x14 : Vec F S512x128 .f32) (gam : FVec F S1x512 .f32) (x11 : Vec F S26x512x512 .bf16) : Vec F S512x512 .fp8e4m3 :=
  fun y => codesT (normAt j x14 gam x11 (sOf (y 0)) (gOf (y 1))) (locB y)

/-- A block of scales. -/
def scaleV (i : grid0.Coords) (x14 : Vec F S512x128 .f32) (gam : FVec F S1x512 .f32) (x11 : Vec F S26x512x512 .bf16) (x10 : Vec F S512x104 .f32) :
    Vec F S512x104 .f32 :=
  fun y => scaleStrip i x14 gam x11 (sOf (y 0)) (winC x10 (sOf (y 0))) (locC y)

/-- A tile of the projection, of the buffers' values. -/
def hAt (acc : FVec F S512x512 .f32) (ws : FVec F S1x512 .f32) (x15 : Vec F S512x128 .f32) (x6 : Vec F S512x512 .bf16) (s : Fin 16) (g : Fin 4) :
    FVec F S32x128 .bf16 :=
  hT acc (winL x15 s) ws (winB x6 s g) s g

/-- A block of the projection. -/
def hV (acc : FVec F S512x512 .f32) (ws : FVec F S1x512 .f32) (x15 : Vec F S512x128 .f32) (x6 : Vec F S512x512 .bf16) : Vec F S512x512 .bf16 :=
  fun y => hAt acc ws x15 x6 (sOf (y 0)) (gOf (y 1)) (locB y)

/-- A strip of running sums of squares after the four groups of a column block. -/
def sqStrip (i : grid0.Coords) (acc : FVec F S512x512 .f32) (ws : FVec F S1x512 .f32) (x15 : Vec F S512x128 .f32) (x6 : Vec F S512x512 .bf16)
    (s : Fin 16) (sq : Vec F S32x128 .f32) : FVec F S32x128 .f32 :=
  shapeCast S32x128 (sqAdd (sqAdd (sqAdd (sqAdd (Scalar.select (oddBit i) sq (broadcast S32x128 (Scalar.ofBits .f32 0x00000000#32)))
    (hAt acc ws x15 x6 s 0)) (hAt acc ws x15 x6 s 1)) (hAt acc ws x15 x6 s 2)) (hAt acc ws x15 x6 s 3)) shapeCasts_S32x128_S32x128

/-- The running sums of squares of a block. -/
def sqV (i : grid0.Coords) (acc : FVec F S512x512 .f32) (ws : FVec F S1x512 .f32) (x15 : Vec F S512x128 .f32) (x6 : Vec F S512x512 .bf16)
    (x12 : Vec F S512x128 .f32) : Vec F S512x128 .f32 :=
  fun y => sqStrip i acc ws x15 x6 (sOf (y 0)) (winL x12 (sOf (y 0))) (locL y)

theorem qTile_spec (c : Dev nD) (E : Set ℕ) (i : grid0.Coords)
    (arg9 : Memref sig .tc .vmem S512x512 .fp8e4m3) (harg9 : arg9.IsWhole)
    (arg11 : Memref sig .tc .vmem S26x512x512 .bf16) (harg11 : arg11.IsWhole)
    (gam : FVec F S1x512 .f32) (ri : Vec F S32x128 .f32) (s : Fin 16) (g : Fin 4) (sc : FVec F S32x104 .f32)
    (x9 : Vec F S512x512 .fp8e4m3) (x11 : Vec F S26x512x512 .bf16) (K : FVec F S32x104 .f32 → sProp 𝕄) :
    iprop(owns (c : Thread nD τ) arg9 fullShare x9 ∗ owns (c : Thread nD τ) arg11 fullShare x11
      ∗ (iprop(owns (c : Thread nD τ) arg9 fullShare (VecWindow.put x9 ![32 * s.val, 128 * g.val] S32x128.size (codesT (normT (winH x11 (i 1) s g) ri gam g)))
          ∗ owns (c : Thread nD τ) arg11 fullShare x11) -∗ K (scaleUpd i g (normT (winH x11 (i 1) s g) ri gam g) sc)))
    ⊢ wp frame (wpE (defs₀ (F := F)) Variants.none c none) E (qTile i arg9 harg9 arg11 gam ri s g sc) K := by
  unfold qTile winH
  rw [wp_bind]
  iintro ⟨H9, H11, Hk⟩
  iapply (load_spec c E arg11 harg11 (hOff_inb i s g) (hOff_eq i s g) (hInb (i 1) s g) _ x11 _)
  isplitl [H11]; · iexact H11
  iintro H11
  rw [wp_bind]
  iapply (load_spec c E arg9 harg9 (tile_inb s g) rfl (tile_inb s g) _ x9 _)
  isplitl [H9]; · iexact H9
  iintro H9
  rw [wp_bind]
  iapply (store_spec c E arg9 harg9 (tile_inb s g) rfl _ _ _ x9 _)
  isplitl [H9]; · iexact H9
  iintro H9
  sl_step
  iapply Hk
  isplitl [H9]; · iexact H9
  iexact H11

/-- What a strip of the quantiser leaves in the block of codes. -/
def codesPut (j : Fin 26) (x14 : Vec F S512x128 .f32) (gam : FVec F S1x512 .f32) (x11 : Vec F S26x512x512 .bf16) (s : Fin 16)
    (x9 : Vec F S512x512 .fp8e4m3) : Vec F S512x512 .fp8e4m3 :=
  VecWindow.put (VecWindow.put (VecWindow.put (VecWindow.put x9
    ![32 * s.val, 128 * (0 : Fin 4).val] S32x128.size (codesT (normAt j x14 gam x11 s 0)))
    ![32 * s.val, 128 * (1 : Fin 4).val] S32x128.size (codesT (normAt j x14 gam x11 s 1)))
    ![32 * s.val, 128 * (2 : Fin 4).val] S32x128.size (codesT (normAt j x14 gam x11 s 2)))
    ![32 * s.val, 128 * (3 : Fin 4).val] S32x128.size (codesT (normAt j x14 gam x11 s 3))

theorem qStrip_spec (c : Dev nD) (E : Set ℕ) (i : grid0.Coords)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (gam : FVec F S1x512 .f32) (s : Fin 16)
    (x9 : Vec F S512x512 .fp8e4m3) (x10 : Vec F S512x104 .f32) (x11 : Vec F S26x512x512 .bf16) (x14 : Vec F S512x128 .f32) (K : PUnit → sProp 𝕄) :
    iprop(owns (c : Thread nD τ) arg9 fullShare x9 ∗ owns (c : Thread nD τ) arg10 fullShare x10
      ∗ owns (c : Thread nD τ) arg11 fullShare x11 ∗ owns (c : Thread nD τ) arg14 fullShare x14
      ∗ (iprop(owns (c : Thread nD τ) arg9 fullShare (codesPut (i 1) x14 gam x11 s x9)
          ∗ owns (c : Thread nD τ) arg10 fullShare (VecWindow.put x10 ![32 * s.val, 0] S32x104.size (scaleStrip i x14 gam x11 s (winC x10 s)))
          ∗ owns (c : Thread nD τ) arg11 fullShare x11 ∗ owns (c : Thread nD τ) arg14 fullShare x14) -∗ K ⟨⟩))
    ⊢ wp frame (wpE (defs₀ (F := F)) Variants.none c none) E (qStrip i arg9 harg9 arg10 arg11 arg14 gam s) K := by
  unfold qStrip
  rw [wp_bind]
  iintro ⟨H9, H10, H11, H14, Hk⟩
  iapply (load_spec c E arg14 harg14 (strip_inb s) rfl (strip_inb s) _ x14 _)
  isplitl [H14]; · iexact H14
  iintro H14
  rw [wp_bind]
  iapply (load_spec c E arg10 harg10 (scale_inb s) rfl (scale_inb s) _ x10 _)
  isplitl [H10]; · iexact H10
  iintro H10
  rw [wp_bind]
  iapply (qTile_spec c E i arg9 harg9 arg11 harg11 gam _ s 0 _ _ x11 _)
  isplitl [H9]; · iexact H9
  isplitl [H11]; · iexact H11
  iintro ⟨H9, H11⟩
  rw [wp_bind]
  iapply (qTile_spec c E i arg9 harg9 arg11 harg11 gam _ s 1 _ _ x11 _)
  isplitl [H9]; · iexact H9
  isplitl [H11]; · iexact H11
  iintro ⟨H9, H11⟩
  rw [wp_bind]
  iapply (qTile_spec c E i arg9 harg9 arg11 harg11 gam _ s 2 _ _ x11 _)
  isplitl [H9]; · iexact H9
  isplitl [H11]; · iexact H11
  iintro ⟨H9, H11⟩
  rw [wp_bind]
  iapply (qTile_spec c E i arg9 harg9 arg11 harg11 gam _ s 3 _ _ x11 _)
  isplitl [H9]; · iexact H9
  isplitl [H11]; · iexact H11
  iintro ⟨H9, H11⟩
  rw [wp_bind]
  iapply (load_spec c E arg10 harg10 (scale_inb s) rfl (scale_inb s) _ x10 _)
  isplitl [H10]; · iexact H10
  iintro H10
  iapply (store_spec c E arg10 harg10 (scale_inb s) rfl _ _ _ x10 _)
  isplitl [H10]; · iexact H10
  iintro H10
  iapply Hk
  isplitl [H9]; · iexact H9
  isplitl [H10]; · iexact H10
  isplitl [H11]; · iexact H11
  iexact H14

theorem hTile_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (acc : FVec F S512x512 .f32) (ws : FVec F S1x512 .f32) (xs : Vec F S32x128 .f32) (s : Fin 16) (g : Fin 4) (sq : FVec F S32x128 .f32)
    (x6 : Vec F S512x512 .bf16) (x8 : Vec F S512x512 .bf16) (x11 : Vec F S26x512x512 .bf16) (K : FVec F S32x128 .f32 → sProp 𝕄) :
    iprop(owns (c : Thread nD τ) arg6 fullShare x6 ∗ owns (c : Thread nD τ) arg8 fullShare x8 ∗ owns (c : Thread nD τ) arg11 fullShare x11
      ∗ (iprop(owns (c : Thread nD τ) arg6 fullShare x6
          ∗ owns (c : Thread nD τ) arg8 fullShare (VecWindow.put x8 ![32 * s.val, 128 * g.val] S32x128.size (hT acc xs ws (winB x6 s g) s g))
          ∗ owns (c : Thread nD τ) arg11 fullShare (VecWindow.put x11 ![(i 1).val, 32 * s.val, 128 * g.val] S1x32x128.size
              (shapeCast S1x32x128 (hT acc xs ws (winB x6 s g) s g) shapeCasts_S32x128_S1x32x128)))
        -∗ K (sqAdd sq (hT acc xs ws (winB x6 s g) s g))))
    ⊢ wp frame (wpE (defs₀ (F := F)) Variants.none c none) E (hTile i arg6 arg8 harg8 arg11 harg11 acc ws xs s g sq) K := by
  unfold hTile winB
  rw [wp_bind]
  iintro ⟨H6, H8, H11, Hk⟩
  iapply (load_spec c E arg6 harg6 (tile_inb s g) rfl (tile_inb s g) _ x6 _)
  isplitl [H6]; · iexact H6
  iintro H6
  rw [wp_bind]
  iapply (load_spec c E arg11 harg11 (hOff_inb i s g) (hOff_eq i s g) (hInb (i 1) s g) _ x11 _)
  isplitl [H11]; · iexact H11
  iintro H11
  rw [wp_bind]
  iapply (store_spec c E arg11 harg11 (hOff_inb i s g) (hOff_eq i s g) _ _ _ x11 _)
  isplitl [H11]; · iexact H11
  iintro H11
  rw [wp_bind]
  iapply (load_spec c E arg8 harg8 (tile_inb s g) rfl (tile_inb s g) _ x8 _)
  isplitl [H8]; · iexact H8
  iintro H8
  rw [wp_bind]
  iapply (store_spec c E arg8 harg8 (tile_inb s g) rfl _ _ _ x8 _)
  isplitl [H8]; · iexact H8
  iintro H8
  sl_step
  iapply Hk
  isplitl [H6]; · iexact H6
  isplitl [H8]; · iexact H8
  iexact H11

/-- What a strip of the projection leaves in the result's block. -/
def hPut (acc : FVec F S512x512 .f32) (ws : FVec F S1x512 .f32) (x15 : Vec F S512x128 .f32) (x6 : Vec F S512x512 .bf16) (s : Fin 16)
    (x8 : Vec F S512x512 .bf16) : Vec F S512x512 .bf16 :=
  VecWindow.put (VecWindow.put (VecWindow.put (VecWindow.put x8
    ![32 * s.val, 128 * (0 : Fin 4).val] S32x128.size (hAt acc ws x15 x6 s 0))
    ![32 * s.val, 128 * (1 : Fin 4).val] S32x128.size (hAt acc ws x15 x6 s 1))
    ![32 * s.val, 128 * (2 : Fin 4).val] S32x128.size (hAt acc ws x15 x6 s 2))
    ![32 * s.val, 128 * (3 : Fin 4).val] S32x128.size (hAt acc ws x15 x6 s 3)

/-- What a strip of the projection leaves in the buffer of blocks. -/
def hbPut (i : grid0.Coords) (acc : FVec F S512x512 .f32) (ws : FVec F S1x512 .f32) (x15 : Vec F S512x128 .f32) (x6 : Vec F S512x512 .bf16) (s : Fin 16)
    (x11 : Vec F S26x512x512 .bf16) : Vec F S26x512x512 .bf16 :=
  VecWindow.put (VecWindow.put (VecWindow.put (VecWindow.put x11
    ![(i 1).val, 32 * s.val, 128 * (0 : Fin 4).val] S1x32x128.size (shapeCast S1x32x128 (hAt acc ws x15 x6 s 0) shapeCasts_S32x128_S1x32x128))
    ![(i 1).val, 32 * s.val, 128 * (1 : Fin 4).val] S1x32x128.size (shapeCast S1x32x128 (hAt acc ws x15 x6 s 1) shapeCasts_S32x128_S1x32x128))
    ![(i 1).val, 32 * s.val, 128 * (2 : Fin 4).val] S1x32x128.size (shapeCast S1x32x128 (hAt acc ws x15 x6 s 2) shapeCasts_S32x128_S1x32x128))
    ![(i 1).val, 32 * s.val, 128 * (3 : Fin 4).val] S1x32x128.size (shapeCast S1x32x128 (hAt acc ws x15 x6 s 3) shapeCasts_S32x128_S1x32x128)

theorem hStrip_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (arg12 : Memref sig .tc .vmem S512x128 .f32) (harg12 : arg12.IsWhole)
    (arg15 : Memref sig .tc .vmem S512x128 .f32) (harg15 : arg15.IsWhole)
    (acc : FVec F S512x512 .f32) (ws : FVec F S1x512 .f32) (s : Fin 16)
    (x6 : Vec F S512x512 .bf16) (x8 : Vec F S512x512 .bf16) (x11 : Vec F S26x512x512 .bf16) (x12 x15 : Vec F S512x128 .f32) (K : PUnit → sProp 𝕄) :
    iprop(owns (c : Thread nD τ) arg6 fullShare x6 ∗ owns (c : Thread nD τ) arg8 fullShare x8 ∗ owns (c : Thread nD τ) arg11 fullShare x11
      ∗ owns (c : Thread nD τ) arg12 fullShare x12 ∗ owns (c : Thread nD τ) arg15 fullShare x15
      ∗ (iprop(owns (c : Thread nD τ) arg6 fullShare x6 ∗ owns (c : Thread nD τ) arg8 fullShare (hPut acc ws x15 x6 s x8)
          ∗ owns (c : Thread nD τ) arg11 fullShare (hbPut i acc ws x15 x6 s x11)
          ∗ owns (c : Thread nD τ) arg12 fullShare (VecWindow.put x12 ![32 * s.val, 0] S32x128.size (sqStrip i acc ws x15 x6 s (winL x12 s)))
          ∗ owns (c : Thread nD τ) arg15 fullShare x15) -∗ K ⟨⟩))
    ⊢ wp frame (wpE (defs₀ (F := F)) Variants.none c none) E (hStrip i arg6 arg8 harg8 arg11 harg11 arg12 arg15 acc ws s) K := by
  unfold hStrip
  rw [wp_bind]
  iintro ⟨H6, H8, H11, H12, H15, Hk⟩
  iapply (load_spec c E arg15 harg15 (strip_inb s) rfl (strip_inb s) _ x15 _)
  isplitl [H15]; · iexact H15
  iintro H15
  rw [wp_bind]
  iapply (load_spec c E arg12 harg12 (strip_inb s) rfl (strip_inb s) _ x12 _)
  isplitl [H12]; · iexact H12
  iintro H12
  rw [wp_bind]
  iapply (hTile_spec c E i arg6 harg6 arg8 harg8 arg11 harg11 acc ws _ s 0 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 1 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 2 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 3 _ x6 _ _ _)
  isplitl [H6]; · iexact H6
  isplitl [H8]; · iexact H8
  isplitl [H11]; · iexact H11
  iintro ⟨H6, H8, H11⟩
  rw [wp_bind]
  iapply (load_spec c E arg12 harg12 (strip_inb s) rfl (strip_inb s) _ x12 _)
  isplitl [H12]; · iexact H12
  iintro H12
  iapply (store_spec c E arg12 harg12 (strip_inb s) rfl _ _ _ x12 _)
  isplitl [H12]; · iexact H12
  iintro H12
  iapply Hk
  isplitl [H6]; · iexact H6
  isplitl [H8]; · iexact H8
  isplitl [H11]; · iexact H11
  isplitl [H12]; · iexact H12
  iexact H15

theorem totQuarter_spec (c : Dev nD) (E : Set ℕ) (i : grid0.Coords)
    (arg12 : Memref sig .tc .vmem S512x128 .f32) (harg12 : arg12.IsWhole)
    (arg13 : Memref sig .tc .vmem S4x128 .f32) (harg13 : arg13.IsWhole) (q : Fin 4)
    (x12 : Vec F S512x128 .f32) (x13 : Vec F S4x128 .f32) (K : PUnit → sProp 𝕄) :
    iprop(owns (c : Thread nD τ) arg12 fullShare x12 ∗ owns (c : Thread nD τ) arg13 fullShare x13
      ∗ (iprop(owns (c : Thread nD τ) arg12 fullShare x12
          ∗ owns (c : Thread nD τ) arg13 fullShare (VecWindow.put x13 ![q.val, 0] S1x128.size (totUpd (oddBit i) (winR x13 q) (winQ x12 q)))) -∗ K ⟨⟩))
    ⊢ wp frame (wpE (defs₀ (F := F)) Variants.none c none) E (totQuarter i arg12 arg13 q) K := by
  unfold totQuarter
  rw [wp_bind]
  iintro ⟨H12, H13, Hk⟩
  iapply (load_spec c E arg12 harg12 (quarter_inb q) rfl (quarter_inb q) _ x12 _)
  isplitl [H12]; · iexact H12
  iintro H12
  rw [wp_bind]
  iapply (load_spec c E arg13 harg13 (row_inb q) rfl (row_inb q) _ x13 _)
  isplitl [H13]; · iexact H13
  iintro H13
  rw [wp_bind]
  iapply (load_spec c E arg13 harg13 (row_inb q) rfl (row_inb q) _ x13 _)
  isplitl [H13]; · iexact H13
  iintro H13
  iapply (store_spec c E arg13 harg13 (row_inb q) rfl _ _ _ x13 _)
  isplitl [H13]; · iexact H13
  iintro H13
  iapply Hk
  isplitl [H12]; · iexact H12
  iexact H13

theorem rinvQuarter_spec (c : Dev nD) (E : Set ℕ)
    (arg14 : Memref sig .tc .vmem S512x128 .f32) (harg14 : arg14.IsWhole) (tot : Vec F S4x128 .f32) (q : Fin 4)
    (x14 : Vec F S512x128 .f32) (K : PUnit → sProp 𝕄) :
    iprop(owns (c : Thread nD τ) arg14 fullShare x14
      ∗ (owns (c : Thread nD τ) arg14 fullShare (VecWindow.put x14 ![128 * q.val, 0] S128x128.size (rinvT tot q)) -∗ K ⟨⟩))
    ⊢ wp frame (wpE (defs₀ (F := F)) Variants.none c none) E (rinvQuarter arg14 tot q) K := by
  unfold rinvQuarter
  rw [wp_bind]
  iintro ⟨H14, Hk⟩
  iapply (load_spec c E arg14 harg14 (quarter_inb q) rfl (quarter_inb q) _ x14 _)
  isplitl [H14]; · iexact H14
  iintro H14
  iapply (store_spec c E arg14 harg14 (quarter_inb q) rfl _ _ _ x14 _)
  isplitl [H14]; · iexact H14
  iintro H14
  iapply Hk
  iexact H14

/-- A sequence of steps, by an assertion that each step moves one further. -/
theorem seq_spec (c : Dev nD) (E : Set ℕ) {N : ℕ} (f : Fin N → Prog (TpuEff nD τ sig (Elt F) Λ₀ .tc) PUnit) (I : ℕ → sProp 𝕄)
    (hf : ∀ (k : Fin N) (K : PUnit → sProp 𝕄), iprop(I k.val ∗ (I (k.val + 1) -∗ K ⟨⟩)) ⊢ wp frame (wpE (defs₀ (F := F)) Variants.none c none) E (f k) K) :
    ∀ (n k : ℕ) (h : n + k = N) (K : PUnit → sProp 𝕄),
      iprop(I k ∗ (I N -∗ K ⟨⟩)) ⊢ wp frame (wpE (defs₀ (F := F)) Variants.none c none) E (seqFrom f n k h) K
  | 0, k, h, K => by
    obtain rfl : k = N := by omega
    unfold seqFrom
    iintro ⟨H, Hk⟩
    sl_step
    iapply Hk
    iexact H
  | n + 1, k, h, K => by
    unfold seqFrom
    rw [wp_bind]
    iintro ⟨H, Hk⟩
    have hk : k < N := by omega
    have hk' : n + (k + 1) = N := by omega
    iapply (hf ⟨k, hk⟩ _)
    isplitl [H]; · iexact H
    iintro H
    iapply (seq_spec c E f I hf n (k + 1) hk' K)
    isplitl [H]; · iexact H
    iexact Hk

end Cert.Kernel.Tiles

end
-- ==== Proof.WordBlockSpecs.lean ====
/-
  What the loops and the four parts of the body do to the buffers.

  This module is `BlockSpecs.lean` for the kernel as printed, before its constant is named.
-/
module

public import proofs.«01_k».proof.Proof.WordTileSpecs
public import Idealize.ShloMosaic.Lib.Pipeline.Value

@[expose] public section

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The vectors while a loop runs -/

theorem four {α : Type} {P S : Prop} [Decidable P] [Decidable S] {g : Fin 4} (t : Fin 4 → α) (z : α) :
    (if P ∧ S ∧ g = 3 then t 3 else if P ∧ S ∧ g = 2 then t 2 else if P ∧ S ∧ g = 1 then t 1 else if P ∧ S ∧ g = 0 then t 0 else z)
      = if P ∧ S then t g else z := by
  by_cases hP : P
  · by_cases hS : S
    · fin_cases g <;> simp [hP, hS]
    · simp [hS]
  · simp [hP]

theorem next {α : Type} {P S : Prop} [Decidable P] [Decidable S] {k s : ℕ} (hS : S ↔ k = s) {a b z : α} (h : S → a = b) :
    (if P ∧ S then a else if P ∧ k < s then b else z) = if P ∧ k < s + 1 then b else z := by
  by_cases hP : P
  · by_cases hs : S
    · have := hS.1 hs
      simp only [hP, hs, true_and, if_true, if_pos (show k < s + 1 by omega), h hs]
    · have hne : k ≠ s := fun e => hs (hS.2 e)
      by_cases hk : k < s
      · simp only [hP, hs, true_and, if_false, if_pos hk, if_pos (show k < s + 1 by omega)]
      · simp only [hP, hs, true_and, if_false, if_neg hk, if_neg (show ¬ k < s + 1 by omega)]
  · simp [hP]

theorem four' {α : Type} {S : Prop} [Decidable S] {g : Fin 4} (t : Fin 4 → α) (z : α) :
    (if S ∧ g = 3 then t 3 else if S ∧ g = 2 then t 2 else if S ∧ g = 1 then t 1 else if S ∧ g = 0 then t 0 else z)
      = if S then t g else z := by
  by_cases hS : S
  · fin_cases g <;> simp [hS]
  · simp [hS]

theorem next' {α : Type} {S : Prop} [Decidable S] {k s : ℕ} (hS : S ↔ k = s) {a b z : α} (h : S → a = b) :
    (if S then a else if k < s then b else z) = if k < s + 1 then b else z := by
  by_cases hs : S
  · have := hS.1 hs
    simp only [hs, if_true, if_pos (show k < s + 1 by omega), h hs]
  · have hne : k ≠ s := fun e => hs (hS.2 e)
    by_cases hk : k < s
    · simp only [hs, if_false, if_pos hk, if_pos (show k < s + 1 by omega)]
    · simp only [hs, if_false, if_neg hk, if_neg (show ¬ k < s + 1 by omega)]

theorem sOf_iff {r : Fin 512} {s : Fin 16} : sOf r = s ↔ (sOf r).val = s.val := ⟨fun h => congrArg Fin.val h, fun h => Fin.ext h⟩

theorem codes_step (j : Fin 26) (x14 : Vec F S512x128 .f32) (gam : FVec F S1x512 .f32) (x11 : Vec F S26x512x512 .bf16) (s : Fin 16)
    (x9 : Vec F S512x512 .fp8e4m3) :
    codesPut j x14 gam x11 s (ovr (fun y => (sOf (y 0)).val < s.val) (codesV j x14 gam x11) x9)
      = ovr (fun y => (sOf (y 0)).val < s.val + 1) (codesV j x14 gam x11) x9 := by
  unfold codesPut
  rw [put_tile, put_tile, put_tile, put_tile]
  funext y
  refine (four' (S := sOf (y 0) = s) (g := gOf (y 1)) (fun g => codesT (normAt j x14 gam x11 s g) (locB y)) _).trans ?_
  refine next' (k := (sOf (y 0)).val) (s := s.val) sOf_iff ?_
  rintro rfl
  rfl

theorem scale_step (i : grid0.Coords) (x14 : Vec F S512x128 .f32) (gam : FVec F S1x512 .f32) (x11 : Vec F S26x512x512 .bf16) (s : Fin 16)
    (x10 : Vec F S512x104 .f32) :
    VecWindow.put (ovr (fun y => (sOf (y 0)).val < s.val) (scaleV i x14 gam x11 x10) x10) ![32 * s.val, 0] S32x104.size
        (scaleStrip i x14 gam x11 s (winC (ovr (fun y => (sOf (y 0)).val < s.val) (scaleV i x14 gam x11 x10) x10) s))
      = ovr (fun y => (sOf (y 0)).val < s.val + 1) (scaleV i x14 gam x11 x10) x10 := by
  have e : winC (ovr (fun y => (sOf (y 0)).val < s.val) (scaleV i x14 gam x11 x10) x10) s = winC x10 s := by
    refine winC_congr fun y hy => if_neg ?_
    have := congrArg Fin.val hy
    show ¬ (sOf (y 0)).val < s.val
    omega
  rw [e, put_scale]
  funext y
  refine next' (k := (sOf (y 0)).val) (s := s.val) sOf_iff ?_
  rintro rfl
  rfl

theorem h_step (acc : FVec F S512x512 .f32) (ws : FVec F S1x512 .f32) (x15 : Vec F S512x128 .f32) (x6 : Vec F S512x512 .bf16) (s : Fin 16)
    (x8 : Vec F S512x512 .bf16) :
    hPut acc ws x15 x6 s (ovr (fun y => (sOf (y 0)).val < s.val) (hV acc ws x15 x6) x8)
      = ovr (fun y => (sOf (y 0)).val < s.val + 1) (hV acc ws x15 x6) x8 := by
  unfold hPut
  rw [put_tile, put_tile, put_tile, put_tile]
  funext y
  refine (four' (S := sOf (y 0) = s) (g := gOf (y 1)) (fun g => hAt acc ws x15 x6 s g (locB y)) _).trans ?_
  refine next' (k := (sOf (y 0)).val) (s := s.val) sOf_iff ?_
  rintro rfl
  rfl

/-- Block `j` of the buffer of blocks replaced. -/
def hbV (j : Fin 26) (h : Vec F S512x512 .bf16) (x11 : Vec F S26x512x512 .bf16) : Vec F S26x512x512 .bf16 :=
  ovr (fun z => (z 0).val = j.val) (fun z => h (bIx (z 1) (z 2))) x11

theorem cast_tile (w : S32x128.Idx → F .bf16) (r : Fin 32) (l : Fin 128) :
    shapeCast S1x32x128 w shapeCasts_S32x128_S1x32x128
      (Fin.cases (0 : Fin 1) fun a => Fin.cases (r : Fin 32) (fun b => Fin.cases (l : Fin 128) (fun k => k.elim0) b) a) = w (tIx r l) :=
  (shapeCast_addUnit_apply ![32, 128] w shapeCasts_S32x128_S1x32x128 _).trans (congrArg w (funext fun a => by fin_cases a <;> rfl))

theorem hb_step (i : grid0.Coords) (acc : FVec F S512x512 .f32) (ws : FVec F S1x512 .f32) (x15 : Vec F S512x128 .f32) (x6 : Vec F S512x512 .bf16) (s : Fin 16)
    (x11 : Vec F S26x512x512 .bf16) :
    hbPut i acc ws x15 x6 s (ovr (fun z => (z 0).val = (i 1).val ∧ (sOf (z 1)).val < s.val) (fun z => hV acc ws x15 x6 (bIx (z 1) (z 2))) x11)
      = ovr (fun z => (z 0).val = (i 1).val ∧ (sOf (z 1)).val < s.val + 1) (fun z => hV acc ws x15 x6 (bIx (z 1) (z 2))) x11 := by
  unfold hbPut
  rw [put_h _ (i 1) s 0 _ _ (cast_tile _), put_h _ (i 1) s 1 _ _ (cast_tile _), put_h _ (i 1) s 2 _ _ (cast_tile _), put_h _ (i 1) s 3 _ _ (cast_tile _)]
  funext y
  refine (four (P := (y 0).val = (i 1).val) (S := sOf (y 1) = s) (g := gOf (y 2)) (fun g => hAt acc ws x15 x6 s g (locB (bIx (y 1) (y 2)))) _).trans ?_
  refine next (P := (y 0).val = (i 1).val) (k := (sOf (y 1)).val) (s := s.val) ⟨fun h => congrArg Fin.val h, fun h => Fin.ext h⟩ ?_
  rintro rfl
  rfl

theorem sq_step (i : grid0.Coords) (acc : FVec F S512x512 .f32) (ws : FVec F S1x512 .f32) (x15 : Vec F S512x128 .f32) (x6 : Vec F S512x512 .bf16) (s : Fin 16)
    (x12 : Vec F S512x128 .f32) :
    VecWindow.put (ovr (fun y => (sOf (y 0)).val < s.val) (sqV i acc ws x15 x6 x12) x12) ![32 * s.val, 0] S32x128.size
        (sqStrip i acc ws x15 x6 s (winL (ovr (fun y => (sOf (y 0)).val < s.val) (sqV i acc ws x15 x6 x12) x12) s))
      = ovr (fun y => (sOf (y 0)).val < s.val + 1) (sqV i acc ws x15 x6 x12) x12 := by
  have e : winL (ovr (fun y => (sOf (y 0)).val < s.val) (sqV i acc ws x15 x6 x12) x12) s = winL x12 s := by
    refine winL_congr fun y hy => if_neg ?_
    have := congrArg Fin.val hy
    show ¬ (sOf (y 0)).val < s.val
    omega
  rw [e, put_strip]
  funext y
  refine next' (k := (sOf (y 0)).val) (s := s.val) sOf_iff ?_
  rintro rfl
  rfl

theorem ovr_none {ι α : Type} (P : ι → Prop) [DecidablePred P] (t x : ι → α) (h : ∀ y, ¬ P y) : ovr P t x = x := funext fun y => if_neg (h y)
theorem ovr_all {ι α : Type} (P : ι → Prop) [DecidablePred P] (t x : ι → α) (h : ∀ y, P y) : ovr P t x = t := funext fun y => if_pos (h y)

/-- The strips of the quantiser, all sixteen. -/
theorem quant_spec (c : Dev nD) (E : Set ℕ) (i : grid0.Coords)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (gam : FVec F S1x512 .f32)
    (x9 : Vec F S512x512 .fp8e4m3) (x10 : Vec F S512x104 .f32) (x11 : Vec F S26x512x512 .bf16) (x14 : Vec F S512x128 .f32) (K : PUnit → sProp 𝕄) :
    iprop((owns (c : Thread nD τ) arg9 fullShare x9 ∗ owns (c : Thread nD τ) arg10 fullShare x10
      ∗ owns (c : Thread nD τ) arg11 fullShare x11 ∗ owns (c : Thread nD τ) arg14 fullShare x14)
      ∗ (iprop(owns (c : Thread nD τ) arg9 fullShare (codesV (i 1) x14 gam x11)
          ∗ owns (c : Thread nD τ) arg10 fullShare (scaleV i x14 gam x11 x10)
          ∗ owns (c : Thread nD τ) arg11 fullShare x11 ∗ owns (c : Thread nD τ) arg14 fullShare x14) -∗ K ⟨⟩))
    ⊢ wp frame (wpE (defs₀ (F := F)) Variants.none c none) E (seqFrom (qStrip i arg9 harg9 arg10 arg11 arg14 gam) 16 0 rfl) K := by
  have h := seq_spec c E (qStrip i arg9 harg9 arg10 arg11 arg14 gam)
    (fun k => iprop(owns (c : Thread nD τ) arg9 fullShare (ovr (fun y => (sOf (y 0)).val < k) (codesV (i 1) x14 gam x11) x9)
      ∗ owns (c : Thread nD τ) arg10 fullShare (ovr (fun y => (sOf (y 0)).val < k) (scaleV i x14 gam x11 x10) x10)
      ∗ owns (c : Thread nD τ) arg11 fullShare x11 ∗ owns (c : Thread nD τ) arg14 fullShare x14))
    (fun s K => by
      have hs := qStrip_spec c E i arg9 harg9 arg10 harg10 arg11 harg11 arg14 harg14 gam s
        (ovr (fun y => (sOf (y 0)).val < s.val) (codesV (i 1) x14 gam x11) x9) (ovr (fun y => (sOf (y 0)).val < s.val) (scaleV i x14 gam x11 x10) x10) x11 x14 K
      rw [codes_step (i 1) x14 gam x11 s x9, scale_step i x14 gam x11 s x10] at hs
      iintro ⟨⟨H9, H10, H11, H14⟩, Hk⟩
      iapply hs
      isplitl [H9]; · iexact H9
      isplitl [H10]; · iexact H10
      isplitl [H11]; · iexact H11
      isplitl [H14]; · iexact H14
      iexact Hk) 16 0 rfl K
  rw [ovr_none _ _ x9 (fun y => Nat.not_lt_zero _), ovr_none _ _ x10 (fun y => Nat.not_lt_zero _),
    ovr_all _ _ x9 (fun y => (sOf (y 0)).isLt), ovr_all _ _ x10 (fun y => (sOf (y 0)).isLt)] at h
  exact h

/-- The strips of the projection, all sixteen. -/
theorem proj_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (arg12 : Memref sig .tc .vmem S512x128 .f32) (harg12 : arg12.IsWhole)
    (arg15 : Memref sig .tc .vmem S512x128 .f32) (harg15 : arg15.IsWhole)
    (acc : FVec F S512x512 .f32) (ws : FVec F S1x512 .f32)
    (x6 : Vec F S512x512 .bf16) (x8 : Vec F S512x512 .bf16) (x11 : Vec F S26x512x512 .bf16) (x12 x15 : Vec F S512x128 .f32) (K : PUnit → sProp 𝕄) :
    iprop((owns (c : Thread nD τ) arg6 fullShare x6 ∗ owns (c : Thread nD τ) arg8 fullShare x8 ∗ owns (c : Thread nD τ) arg11 fullShare x11
      ∗ owns (c : Thread nD τ) arg12 fullShare x12 ∗ owns (c : Thread nD τ) arg15 fullShare x15)
      ∗ (iprop(owns (c : Thread nD τ) arg6 fullShare x6 ∗ owns (c : Thread nD τ) arg8 fullShare (hV acc ws x15 x6)
          ∗ owns (c : Thread nD τ) arg11 fullShare (hbV (i 1) (hV acc ws x15 x6) x11)
          ∗ owns (c : Thread nD τ) arg12 fullShare (sqV i acc ws x15 x6 x12)
          ∗ owns (c : Thread nD τ) arg15 fullShare x15) -∗ K ⟨⟩))
    ⊢ wp frame (wpE (defs₀ (F := F)) Variants.none c none) E (seqFrom (hStrip i arg6 arg8 harg8 arg11 harg11 arg12 arg15 acc ws) 16 0 rfl) K := by
  have h := seq_spec c E (hStrip i arg6 arg8 harg8 arg11 harg11 arg12 arg15 acc ws)
    (fun k => iprop(owns (c : Thread nD τ) arg6 fullShare x6
      ∗ owns (c : Thread nD τ) arg8 fullShare (ovr (fun y => (sOf (y 0)).val < k) (hV acc ws x15 x6) x8)
      ∗ owns (c : Thread nD τ) arg11 fullShare (ovr (fun z => (z 0).val = (i 1).val ∧ (sOf (z 1)).val < k) (fun z => hV acc ws x15 x6 (bIx (z 1) (z 2))) x11)
      ∗ owns (c : Thread nD τ) arg12 fullShare (ovr (fun y => (sOf (y 0)).val < k) (sqV i acc ws x15 x6 x12) x12)
      ∗ owns (c : Thread nD τ) arg15 fullShare x15))
    (fun s K => by
      have hs := hStrip_spec c E i arg6 harg6 arg8 harg8 arg11 harg11 arg12 harg12 arg15 harg15 acc ws s x6
        (ovr (fun y => (sOf (y 0)).val < s.val) (hV acc ws x15 x6) x8)
        (ovr (fun z => (z 0).val = (i 1).val ∧ (sOf (z 1)).val < s.val) (fun z => hV acc ws x15 x6 (bIx (z 1) (z 2))) x11)
        (ovr (fun y => (sOf (y 0)).val < s.val) (sqV i acc ws x15 x6 x12) x12) x15 K
      rw [h_step, hb_step, sq_step] at hs
      iintro ⟨⟨H6, H8, H11, H12, H15⟩, Hk⟩
      iapply hs
      isplitl [H6]; · iexact H6
      isplitl [H8]; · iexact H8
      isplitl [H11]; · iexact H11
      isplitl [H12]; · iexact H12
      isplitl [H15]; · iexact H15
      iexact Hk) 16 0 rfl K
  rw [ovr_none _ _ x8 (fun y => Nat.not_lt_zero _), ovr_none _ _ x11 (fun y h => Nat.not_lt_zero _ h.2), ovr_none _ _ x12 (fun y => Nat.not_lt_zero _),
    ovr_all _ _ x8 (fun y => (sOf (y 0)).isLt), ovr_all _ _ x12 (fun y => (sOf (y 0)).isLt)] at h
  have e : ovr (fun z : S26x512x512.Idx => (z 0).val = (i 1).val ∧ (sOf (z 1)).val < 16) (fun z => hV acc ws x15 x6 (bIx (z 1) (z 2))) x11
      = hbV (i 1) (hV acc ws x15 x6) x11 := by
    funext z
    unfold hbV ovr
    by_cases hz : (z 0).val = (i 1).val
    · rw [if_pos hz]
      exact if_pos ⟨hz, (sOf (z 1)).isLt⟩
    · rw [if_neg hz]
      exact if_neg fun h => hz h.1
  rw [e] at h
  exact h

/-- An index of a row of sums. -/
def rIx (l : Fin 128) : S1x128.Idx := Fin.cases (0 : Fin 1) fun j => Fin.cases l (fun k => k.elim0) j
/-- An index of a quarter. -/
def qIx (r l : Fin 128) : S128x128.Idx := Fin.cases r fun j => Fin.cases l (fun k => k.elim0) j

/-- The row sums after a column block. -/
def totV (i : grid0.Coords) (x12 : Vec F S512x128 .f32) (x13 : Vec F S4x128 .f32) : Vec F S4x128 .f32 :=
  fun y => totUpd (oddBit i) (winR x13 (y 0)) (winQ x12 (y 0)) (rIx (y 1))

/-- The inverse root mean squares of the rows. -/
def rinvV (tot : Vec F S4x128 .f32) : Vec F S512x128 .f32 :=
  fun y => rinvT tot (gOf (y 0)) (qIx ⟨(y 0).val % 128, by omega⟩ (y 1))

theorem put_row {α : Type} (x : S4x128.Idx → α) (q : Fin 4) (w : S1x128.Idx → α) :
    VecWindow.put x ![q.val, 0] S1x128.size w = ovr (fun y => (y 0).val = q.val) (fun y => w (rIx (y 1))) x := by
  funext y
  have h0 : (y 0).val < 4 := (y 0).isLt
  have h1 : (y 1).val < 128 := (y 1).isLt
  unfold VecWindow.put ovr
  by_cases h : (y 0).val = q.val
  · have h' : ∀ a, (![q.val, 0] : Fin 2 → ℕ) a ≤ (y a).val ∧ (y a).val < (![q.val, 0] : Fin 2 → ℕ) a + S1x128.size a := by
      intro a
      fin_cases a
      · show q.val ≤ (y 0).val ∧ (y 0).val < q.val + 1
        omega
      · show 0 ≤ (y 1).val ∧ (y 1).val < 0 + 128
        omega
    rw [if_pos h, dif_pos h']
    refine congrArg w (funext fun a => Fin.ext ?_)
    fin_cases a
    · show (y 0).val - q.val = 0
      omega
    · show (y 1).val - 0 = (y 1).val
      omega
  · rw [if_neg h, dif_neg]
    intro h'
    have a0 : q.val ≤ (y 0).val ∧ (y 0).val < q.val + 1 := h' 0
    omega

theorem put_quarter {α : Type} (x : S512x128.Idx → α) (q : Fin 4) (w : S128x128.Idx → α) :
    VecWindow.put x ![128 * q.val, 0] S128x128.size w
      = ovr (fun y => gOf (y 0) = q) (fun y => w (qIx ⟨(y 0).val % 128, by omega⟩ (y 1))) x := by
  funext y
  have h0 : (y 0).val < 512 := (y 0).isLt
  have h1 : (y 1).val < 128 := (y 1).isLt
  unfold VecWindow.put ovr
  by_cases h : gOf (y 0) = q
  · have e0 : (y 0).val / 128 = q.val := congrArg Fin.val h
    have h' : ∀ a, (![128 * q.val, 0] : Fin 2 → ℕ) a ≤ (y a).val ∧ (y a).val < (![128 * q.val, 0] : Fin 2 → ℕ) a + S128x128.size a := by
      intro a
      fin_cases a
      · show 128 * q.val ≤ (y 0).val ∧ (y 0).val < 128 * q.val + 128
        omega
      · show 0 ≤ (y 1).val ∧ (y 1).val < 0 + 128
        omega
    rw [if_pos h, dif_pos h']
    refine congrArg w (funext fun a => Fin.ext ?_)
    fin_cases a
    · show (y 0).val - 128 * q.val = (y 0).val % 128
      omega
    · show (y 1).val - 0 = (y 1).val
      omega
  · rw [if_neg h, dif_neg]
    intro h'
    apply h
    have a0 : 128 * q.val ≤ (y 0).val ∧ (y 0).val < 128 * q.val + 128 := h' 0
    exact Fin.ext (show (y 0).val / 128 = q.val by omega)

theorem tot_step (i : grid0.Coords) (x12 : Vec F S512x128 .f32) (x13 : Vec F S4x128 .f32) (q : Fin 4) :
    VecWindow.put (ovr (fun y => (y 0).val < q.val) (totV i x12 x13) x13) ![q.val, 0] S1x128.size
        (totUpd (oddBit i) (winR (ovr (fun y => (y 0).val < q.val) (totV i x12 x13) x13) q) (winQ x12 q))
      = ovr (fun y => (y 0).val < q.val + 1) (totV i x12 x13) x13 := by
  have e : winR (ovr (fun y => (y 0).val < q.val) (totV i x12 x13) x13) q = winR x13 q := by
    refine winR_congr fun y hy => if_neg ?_
    show ¬ (y 0).val < q.val
    omega
  rw [e, put_row]
  funext y
  refine next' (k := (y 0).val) (s := q.val) Iff.rfl fun h => ?_
  obtain rfl : y 0 = q := Fin.ext h
  rfl

theorem rinv_step (tot : Vec F S4x128 .f32) (x14 : Vec F S512x128 .f32) (q : Fin 4) :
    VecWindow.put (ovr (fun y => (gOf (y 0)).val < q.val) (rinvV tot) x14) ![128 * q.val, 0] S128x128.size (rinvT tot q)
      = ovr (fun y => (gOf (y 0)).val < q.val + 1) (rinvV tot) x14 := by
  rw [put_quarter]
  funext y
  refine next' (k := (gOf (y 0)).val) (s := q.val) ⟨fun h => congrArg Fin.val h, fun h => Fin.ext h⟩ ?_
  rintro rfl
  rfl

theorem tot_spec (c : Dev nD) (E : Set ℕ) (i : grid0.Coords)
    (arg12 : Memref sig .tc .vmem S512x128 .f32) (harg12 : arg12.IsWhole)
    (arg13 : Memref sig .tc .vmem S4x128 .f32) (harg13 : arg13.IsWhole)
    (x12 : Vec F S512x128 .f32) (x13 : Vec F S4x128 .f32) (K : PUnit → sProp 𝕄) :
    iprop((owns (c : Thread nD τ) arg12 fullShare x12 ∗ owns (c : Thread nD τ) arg13 fullShare x13)
      ∗ (iprop(owns (c : Thread nD τ) arg12 fullShare x12 ∗ owns (c : Thread nD τ) arg13 fullShare (totV i x12 x13)) -∗ K ⟨⟩))
    ⊢ wp frame (wpE (defs₀ (F := F)) Variants.none c none) E (seqFrom (totQuarter i arg12 arg13) 4 0 rfl) K := by
  have h := seq_spec c E (totQuarter i arg12 arg13)
    (fun k => iprop(owns (c : Thread nD τ) arg12 fullShare x12
      ∗ owns (c : Thread nD τ) arg13 fullShare (ovr (fun y => (y 0).val < k) (totV i x12 x13) x13)))
    (fun q K => by
      have hs := totQuarter_spec c E i arg12 harg12 arg13 harg13 q x12 (ovr (fun y => (y 0).val < q.val) (totV i x12 x13) x13) K
      rw [tot_step] at hs
      iintro ⟨⟨H12, H13⟩, Hk⟩
      iapply hs
      isplitl [H12]; · iexact H12
      isplitl [H13]; · iexact H13
      iexact Hk) 4 0 rfl K
  rw [ovr_none _ _ x13 (fun y => Nat.not_lt_zero _), ovr_all (fun y : S4x128.Idx => (y 0).val < 4) _ x13 (fun y => (y 0).isLt)] at h
  exact h

theorem rinv_spec (c : Dev nD) (E : Set ℕ)
    (arg14 : Memref sig .tc .vmem S512x128 .f32) (harg14 : arg14.IsWhole) (tot : Vec F S4x128 .f32)
    (x14 : Vec F S512x128 .f32) (K : PUnit → sProp 𝕄) :
    iprop(owns (c : Thread nD τ) arg14 fullShare x14 ∗ (owns (c : Thread nD τ) arg14 fullShare (rinvV tot) -∗ K ⟨⟩))
    ⊢ wp frame (wpE (defs₀ (F := F)) Variants.none c none) E (seqFrom (rinvQuarter arg14 tot) 4 0 rfl) K := by
  have h := seq_spec c E (rinvQuarter arg14 tot)
    (fun k => owns (c : Thread nD τ) arg14 fullShare (ovr (fun y => (gOf (y 0)).val < k) (rinvV tot) x14))
    (fun q K => by
      have hs := rinvQuarter_spec c E arg14 harg14 tot q (ovr (fun y => (gOf (y 0)).val < q.val) (rinvV tot) x14) K
      rw [rinv_step] at hs
      exact hs) 4 0 rfl K
  rw [ovr_none _ _ x14 (fun y => Nat.not_lt_zero _), ovr_all _ _ x14 (fun y => (gOf (y 0)).isLt)] at h
  exact h

/-! ## The four parts of the body -/

/-- A vector with one value everywhere. -/
def zerosV (s : Shape) {φ : FTy} (b : BitVec φ.bits) : FVec F s φ := fun _ => FloatOps.ofBits φ b

/-- The product of a block of rows and a block of columns. -/
def accV (x : Vec F S512x16384 .fp8e4m3) (w : Vec F S16384x512 .fp8e4m3) : FVec F S512x512 .f32 :=
  matmul dot_S512x16384_S16384x512_S512x512_1_0_0_1_n_n none (shapeCast S512x16384 x shapeCasts_S512x16384_S512x16384) w (constant S512x512 .f32 0x00000000#32)

/-- The column weights, widened. -/
def gamV (x7 : Vec F S1x512 .bf16) : FVec F S1x512 .f32 := extf .f32 (shapeCast S1x512 x7 shapeCasts_S1x512_S1x512) bitsLt_bf16_f32

/-- The column scales. -/
def wsV (x5 : Vec F S1x512 .f32) : FVec F S1x512 .f32 := shapeCast S1x512 x5 shapeCasts_S1x512_S1x512

theorem lastB_spec (c : Dev nD) (E : Set ℕ) (i : grid0.Coords)
    (arg7 : Memref sig .tc .vmem S1x512 .bf16) (harg7 : arg7.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (x7 : Vec F S1x512 .bf16) (x9 : Vec F S512x512 .fp8e4m3) (x10 : Vec F S512x104 .f32) (x11 : Vec F S26x512x512 .bf16)
    (x14 : Vec F S512x128 .f32) (K : PUnit → sProp 𝕄) :
    iprop((owns (c : Thread nD τ) arg7 fullShare x7 ∗ owns (c : Thread nD τ) arg9 fullShare x9 ∗ owns (c : Thread nD τ) arg10 fullShare x10
      ∗ owns (c : Thread nD τ) arg11 fullShare x11 ∗ owns (c : Thread nD τ) arg14 fullShare x14)
      ∗ (iprop(owns (c : Thread nD τ) arg7 fullShare x7 ∗ owns (c : Thread nD τ) arg9 fullShare (codesV (i 1) x14 (gamV x7) x11)
          ∗ owns (c : Thread nD τ) arg10 fullShare (scaleV i x14 (gamV x7) x11 x10)
          ∗ owns (c : Thread nD τ) arg11 fullShare x11 ∗ owns (c : Thread nD τ) arg14 fullShare x14) -∗ K ⟨⟩))
    ⊢ wp frame (wpE (defs₀ (F := F)) Variants.none c none) E (lastB i arg7 arg9 harg9 arg10 arg11 arg14) K := by
  unfold lastB
  rw [wp_bind]
  iintro ⟨⟨H7, H9, H10, H11, H14⟩, Hk⟩
  iapply (load_spec c E arg7 harg7 inb_S1x512_S1x512_0_0 rfl inb_S1x512_S1x512_0_0 _ x7 _)
  isplitl [H7]; · iexact H7
  iintro H7
  rw [show VecWindow.window x7 ![0, 0] S1x512.size inb_S1x512_S1x512_0_0 = x7 from funext fun y => congrArg x7 (Rect.emb_unit_full _ y)]
  iapply (quant_spec c E i arg9 harg9 arg10 harg10 arg11 harg11 arg14 harg14 _ x9 x10 x11 x14 K)
  isplitl [H9 H10 H11 H14]
  · isplitl [H9]; · iexact H9
    isplitl [H10]; · iexact H10
    isplitl [H11]; · iexact H11
    iexact H14
  iintro ⟨H9, H10, H11, H14⟩
  iapply Hk
  isplitl [H7]; · iexact H7
  isplitl [H9]; · iexact H9
  isplitl [H10]; · iexact H10
  isplitl [H11]; · iexact H11
  iexact H14

theorem mainB_spec (c : Dev nD) (E : Set ℕ) (i : grid0.Coords)
    (arg2 : Memref sig .tc .vmem S512x16384 .fp8e4m3) (harg2 : arg2.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (x11 : Vec F S26x512x512 .bf16)
    (x12 : Vec F S512x128 .f32) (x13 : Vec F S4x128 .f32) (x14 x15 : Vec F S512x128 .f32) (K : PUnit → sProp 𝕄) :
    iprop((owns (c : Thread nD τ) arg2 fullShare x2 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10
      ∗ owns (c : Thread nD τ) arg11 fullShare x11 ∗ owns (c : Thread nD τ) arg12 fullShare x12 ∗ owns (c : Thread nD τ) arg13 fullShare x13
      ∗ owns (c : Thread nD τ) arg14 fullShare x14 ∗ owns (c : Thread nD τ) arg15 fullShare x15)
      ∗ (iprop(owns (c : Thread nD τ) arg2 fullShare x2 ∗ owns (c : Thread nD τ) arg4 fullShare x4 ∗ owns (c : Thread nD τ) arg5 fullShare x5
      ∗ owns (c : Thread nD τ) arg6 fullShare x6 ∗ owns (c : Thread nD τ) arg7 fullShare x7
      ∗ owns (c : Thread nD τ) arg8 fullShare (hV (accV x2 x4) (wsV x5) x15 x6)
      ∗ owns (c : Thread nD τ) arg9 fullShare (codesV (i 1) x14 (gamV x7) x11)
      ∗ owns (c : Thread nD τ) arg10 fullShare (scaleV i x14 (gamV x7) x11 x10)
      ∗ owns (c : Thread nD τ) arg11 fullShare (hbV (i 1) (hV (accV x2 x4) (wsV x5) x15 x6) x11)
      ∗ owns (c : Thread nD τ) arg12 fullShare (sqV i (accV x2 x4) (wsV x5) x15 x6 x12)
      ∗ owns (c : Thread nD τ) arg13 fullShare (totV i (sqV i (accV x2 x4) (wsV x5) x15 x6 x12) x13)
      ∗ owns (c : Thread nD τ) arg14 fullShare x14 ∗ owns (c : Thread nD τ) arg15 fullShare x15) -∗ K ⟨⟩))
    ⊢ wp frame (wpE (defs₀ (F := F)) Variants.none c none) E
        (mainB i arg2 arg4 arg5 arg6 arg7 arg8 harg8 arg9 harg9 arg10 arg11 harg11 arg12 arg13 arg14 arg15) K := by
  unfold mainB
  rw [wp_bind]
  iintro ⟨⟨H2, H4, H5, H6, H7, H8, H9, H10, H11, H12, H13, H14, H15⟩, Hk⟩
  iapply (load_spec c E arg2 harg2 inb_S512x16384_S512x16384_0_0 rfl inb_S512x16384_S512x16384_0_0 _ x2 _)
  isplitl [H2]; · iexact H2
  iintro H2
  rw [show VecWindow.window x2 ![0, 0] S512x16384.size inb_S512x16384_S512x16384_0_0 = x2 from funext fun y => congrArg x2 (Rect.emb_unit_full _ y)]
  rw [wp_bind]
  iapply (load_spec c E arg4 harg4 inb_S16384x512_S16384x512_0_0 rfl inb_S16384x512_S16384x512_0_0 _ x4 _)
  isplitl [H4]; · iexact H4
  iintro H4
  rw [show VecWindow.window x4 ![0, 0] S16384x512.size inb_S16384x512_S16384x512_0_0 = x4 from funext fun y => congrArg x4 (Rect.emb_unit_full _ y)]
  rw [wp_bind]
  iapply (load_spec c E arg7 harg7 inb_S1x512_S1x512_0_0 rfl inb_S1x512_S1x512_0_0 _ x7 _)
  isplitl [H7]; · iexact H7
  iintro H7
  rw [show VecWindow.window x7 ![0, 0] S1x512.size inb_S1x512_S1x512_0_0 = x7 from funext fun y => congrArg x7 (Rect.emb_unit_full _ y)]
  rw [wp_bind]
  iapply (quant_spec c E i arg9 harg9 arg10 harg10 arg11 harg11 arg14 harg14 _ x9 x10 x11 x14 _)
  isplitl [H9 H10 H11 H14]
  · isplitl [H9]; · iexact H9
    isplitl [H10]; · iexact H10
    isplitl [H11]; · iexact H11
    iexact H14
  iintro ⟨H9, H10, H11, H14⟩
  rw [wp_bind]
  iapply (load_spec c E arg5 harg5 inb_S1x512_S1x512_0_0 rfl inb_S1x512_S1x512_0_0 _ x5 _)
  isplitl [H5]; · iexact H5
  iintro H5
  rw [show VecWindow.window x5 ![0, 0] S1x512.size inb_S1x512_S1x512_0_0 = x5 from funext fun y => congrArg x5 (Rect.emb_unit_full _ y)]
  rw [wp_bind]
  iapply (proj_spec c E i arg6 harg6 arg8 harg8 arg11 harg11 arg12 harg12 arg15 harg15 _ _ x6 x8 x11 x12 x15 _)
  isplitl [H6 H8 H11 H12 H15]
  · isplitl [H6]; · iexact H6
    isplitl [H8]; · iexact H8
    isplitl [H11]; · iexact H11
    isplitl [H12]; · iexact H12
    iexact H15
  iintro ⟨H6, H8, H11, H12, H15⟩
  iapply (tot_spec c E i arg12 harg12 arg13 harg13 _ x13 _)
  isplitl [H12 H13]
  · isplitl [H12]; · iexact H12
    iexact H13
  iintro ⟨H12, H13⟩
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A store of the whole buffer. -/
theorem put_all {α : Type} {s : Shape} (x : s.Idx → α) (off : Fin s.rank → ℕ) (ho : ∀ a, off a = 0) (w : s.Idx → α) :
    VecWindow.put x off s.size w = w := by
  funext y
  have h : ∀ a, off a ≤ (y a).val ∧ (y a).val < off a + s.size a := fun a => by
    have := (y a).isLt
    rw [ho a]
    omega
  refine (dif_pos h).trans (congrArg w (funext fun a => Fin.ext ?_))
  show (y a).val - off a = (y a).val
  rw [ho a]
  rfl

theorem zero2 : ∀ a : Fin 2, (![0, 0] : Fin 2 → ℕ) a = 0 := by decide
theorem zero3 : ∀ a : Fin 3, (![0, 0, 0] : Fin 3 → ℕ) a = 0 := by decide

/-- The cleared row sums. -/
def zero13 : FVec F S4x128 .f32 := shapeCast S4x128 (broadcast S4x128 (Scalar.ofBits .f32 0x00000000#32)) shapeCasts_S4x128_S4x128

theorem rowB_spec (c : Dev nD) (E : Set ℕ)
    (arg3 : Memref sig .tc .vmem S1x1x512 .f32) (harg3 : arg3.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x3 : Vec F S1x1x512 .f32) (x13 : Vec F S4x128 .f32) (x14 x15 : Vec F S512x128 .f32) (K : PUnit → sProp 𝕄) :
    iprop((owns (c : Thread nD τ) arg3 fullShare x3 ∗ owns (c : Thread nD τ) arg13 fullShare x13
      ∗ owns (c : Thread nD τ) arg14 fullShare x14 ∗ owns (c : Thread nD τ) arg15 fullShare x15)
      ∗ (iprop(owns (c : Thread nD τ) arg3 fullShare x3 ∗ owns (c : Thread nD τ) arg13 fullShare zero13
          ∗ owns (c : Thread nD τ) arg14 fullShare (rinvV x13) ∗ owns (c : Thread nD τ) arg15 fullShare (xsT x3)) -∗ K ⟨⟩))
    ⊢ wp frame (wpE (defs₀ (F := F)) Variants.none c none) E (rowB arg3 arg13 arg14 arg15) K := by
  unfold rowB
  rw [wp_bind]
  iintro ⟨⟨H3, H13, H14, H15⟩, Hk⟩
  iapply (load_spec c E arg13 harg13 inb_S4x128_S4x128_0_0 rfl inb_S4x128_S4x128_0_0 _ x13 _)
  isplitl [H13]; · iexact H13
  iintro H13
  rw [show VecWindow.window x13 ![0, 0] S4x128.size inb_S4x128_S4x128_0_0 = x13 from funext fun y => congrArg x13 (Rect.emb_unit_full _ y)]
  rw [wp_bind]
  iapply (rinv_spec c E arg14 harg14 _ x14 _)
  isplitl [H14]; · iexact H14
  iintro H14
  rw [wp_bind]
  iapply (load_spec c E arg13 harg13 inb_S4x128_S4x128_0_0 rfl inb_S4x128_S4x128_0_0 _ x13 _)
  isplitl [H13]; · iexact H13
  iintro H13
  rw [wp_bind]
  iapply (store_spec c E arg13 harg13 inb_S4x128_S4x128_0_0 rfl _ _ _ x13 _)
  isplitl [H13]; · iexact H13
  rw [put_all (s := S4x128) x13 ![0, 0] zero2 _]
  iintro H13
  rw [wp_bind]
  iapply (load_spec c E arg3 harg3 inb_S1x1x512_S1x1x512_0_0_0 rfl inb_S1x1x512_S1x1x512_0_0_0 _ x3 _)
  isplitl [H3]; · iexact H3
  iintro H3
  rw [show VecWindow.window x3 ![0, 0, 0] S1x1x512.size inb_S1x1x512_S1x1x512_0_0_0 = x3 from funext fun y => congrArg x3 (Rect.emb_unit_full _ y)]
  rw [wp_bind]
  iapply (load_spec c E arg15 harg15 inb_S512x128_S512x128_0_0 rfl inb_S512x128_S512x128_0_0 _ x15 _)
  isplitl [H15]; · iexact H15
  iintro H15
  iapply (store_spec c E arg15 harg15 inb_S512x128_S512x128_0_0 rfl _ _ _ x15 _)
  isplitl [H15]; · iexact H15
  rw [put_all (s := S512x128) x15 ![0, 0] zero2 _]
  iintro H15
  iapply Hk
  isplitl [H3]; · iexact H3
  isplitl [H13]; · iexact H13
  isplitl [H14]; · iexact H14
  iexact H15

/-- The clearing step leaves some contents in the buffers; nothing of them is used later. -/
theorem clearB_spec (c : Dev nD) (E : Set ℕ)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (x11 : Vec F S26x512x512 .bf16) (x12 : Vec F S512x128 .f32) (x13 : Vec F S4x128 .f32) (K : PUnit → sProp 𝕄) :
    iprop((owns (c : Thread nD τ) arg11 fullShare x11 ∗ owns (c : Thread nD τ) arg12 fullShare x12 ∗ owns (c : Thread nD τ) arg13 fullShare x13)
      ∗ ((∃ y11, ∃ y12, ∃ y13, iprop(owns (c : Thread nD τ) arg11 fullShare y11 ∗ owns (c : Thread nD τ) arg12 fullShare y12
          ∗ owns (c : Thread nD τ) arg13 fullShare y13)) -∗ K ⟨⟩))
    ⊢ wp frame (wpE (defs₀ (F := F)) Variants.none c none) E (clearB arg11 harg11 arg12 arg13) K := by
  unfold clearB
  rw [wp_bind]
  iintro ⟨⟨H11, H12, H13⟩, Hk⟩
  iapply (load_spec c E arg11 harg11 inb_S26x512x512_S26x512x512_0_0_0 rfl inb_S26x512x512_S26x512x512_0_0_0 _ x11 _)
  isplitl [H11]; · iexact H11
  iintro H11
  rw [wp_bind]
  iapply (store_spec c E arg11 harg11 inb_S26x512x512_S26x512x512_0_0_0 rfl _ _ _ x11 _)
  isplitl [H11]; · iexact H11
  iintro H11
  rw [wp_bind]
  iapply (load_spec c E arg13 harg13 inb_S4x128_S4x128_0_0 rfl inb_S4x128_S4x128_0_0 _ x13 _)
  isplitl [H13]; · iexact H13
  iintro H13
  rw [wp_bind]
  iapply (store_spec c E arg13 harg13 inb_S4x128_S4x128_0_0 rfl _ _ _ x13 _)
  isplitl [H13]; · iexact H13
  iintro H13
  rw [wp_bind]
  iapply (load_spec c E arg12 harg12 inb_S512x128_S512x128_0_0 rfl inb_S512x128_S512x128_0_0 _ x12 _)
  isplitl [H12]; · iexact H12
  iintro H12
  iapply (store_spec c E arg12 harg12 inb_S512x128_S512x128_0_0 rfl _ _ _ x12 _)
  isplitl [H12]; · iexact H12
  iintro H12
  iapply Hk
  iexists _, _, _
  isplitl [H11]; · iexact H11
  isplitl [H12]; · iexact H12
  iexact H13

end Cert.Kernel.Tiles

end
-- ==== Proof.WordBody.lean ====
/- The printed body is the loops of `WordTiles.lean`: `Body.lean` for the kernel before its constant is named. -/
module

public import proofs.«01_k».proof.Proof.WordTiles
public import Idealize.ShloMosaic.Lib.Pipeline.Regions

@[expose] public section

noncomputable section

namespace Cert.Kernel.Tiles

open Idealize.ShloMosaic Idealize.SL.Sem Cert.Kernel.Gen

variable {F : FTy → Type} [FloatOps F]

set_option maxRecDepth 100000 in
/-- The printed body unrolls the loops: by definitional unfolding. -/
theorem body_eq (i : grid0.Coords) (arg2 : Memref sig .tc .vmem S512x16384 .fp8e4m3) (harg2 : arg2.IsWhole) (arg3 : Memref sig .tc .vmem S1x1x512 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .bf16) (harg7 : arg7.IsWhole) (arg8 : Memref sig .tc .vmem S512x512 .bf16) (harg8 : arg8.IsWhole) (arg9 : Memref sig .tc .vmem S512x512 .fp8e4m3) (harg9 : arg9.IsWhole) (arg10 : Memref sig .tc .vmem S512x104 .f32) (harg10 : arg10.IsWhole) (arg11 : Memref sig .tc .vmem S26x512x512 .bf16) (harg11 : arg11.IsWhole) (arg12 : Memref sig .tc .vmem S512x128 .f32) (harg12 : arg12.IsWhole) (arg13 : Memref sig .tc .vmem S4x128 .f32) (harg13 : arg13.IsWhole) (arg14 : Memref sig .tc .vmem S512x128 .f32) (harg14 : arg14.IsWhole) (arg15 : Memref sig .tc .vmem S512x128 .f32) (harg15 : arg15.IsWhole) :
    cc0_proj_norm_quant (F := F) i arg2 harg2 arg3 harg3 arg4 harg4 arg5 harg5 arg6 harg6 arg7 harg7 arg8 harg8 arg9 harg9 arg10 harg10 arg11 harg11 arg12 harg12 arg13 harg13 arg14 harg14 arg15 harg15 =
      body i arg2 arg3 arg4 arg5 arg6 arg7 arg8 harg8 arg9 harg9 arg10 arg11 harg11 arg12 arg13 arg14 arg15 := by
  chain_rfl

end Cert.Kernel.Tiles

end
-- ==== Proof.WordConds.lean ====
/-
  One grid point of the kernel: which parts of the body run there, the state carried from point to point, and what the whole body does.

  This module is `Conds.lean` for the kernel as printed, before its constant is named.
-/
module

public import proofs.«01_k».proof.Proof.WordBlockSpecs
public import proofs.«01_k».proof.Proof.WordBody
public import proofs.«01_k».proof.Proof.Gen.Kernel.Frame

@[expose] public section

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Where the parts of the body run -/

theorem coord0 (t : Fin cfg0.N) : (grid0.coords t 0).val = t.val / 26 := by
  have ht : t.val < 650 := Nat.lt_of_lt_of_eq t.isLt N_0
  have e0 : (grid0.coords t 0).val = t.val / 26 % 25 := Pipeline.Grid.coords_val t 0 (by decide) rfl
  rw [e0]; omega

theorem coord1 (t : Fin cfg0.N) : (grid0.coords t 1).val = t.val % 26 := by
  have e1 : (grid0.coords t 1).val = t.val / 1 % 26 := Pipeline.Grid.coords_val t 1 (by decide) rfl
  rw [e1]; omega

theorem cond1_iff (t : Fin cfg0.N) : cond1 (grid0.coords t) = 1#1 ↔ t.val = 0 := by
  have ht : t.val < 650 := Nat.lt_of_lt_of_eq t.isLt N_0
  have e0 := coord0 t
  have e1 := coord1 t
  simp only [cond1, e0, e1]
  word_cmp

theorem cond2_iff (t : Fin cfg0.N) : cond2 (grid0.coords t) = 1#1 ↔ t.val % 26 = 0 := by
  have ht : t.val < 650 := Nat.lt_of_lt_of_eq t.isLt N_0
  have e1 := coord1 t
  simp only [cond2, e1]
  word_cmp

theorem cond3_iff (t : Fin cfg0.N) : k0_cond3 (grid0.coords t) = 1#1 ↔ t.val < 624 := by
  have h : ∀ t : Fin grid0.N, k0_cond3 (grid0.coords t) = 1#1 ↔ t.val < 624 := by decide +kernel
  exact h t

theorem cond4_iff (t : Fin cfg0.N) : k0_cond4 (grid0.coords t) = 1#1 ↔ 624 ≤ t.val := by
  have ht : t.val < 650 := Nat.lt_of_lt_of_eq t.isLt N_0
  have e0 := coord0 t
  simp only [k0_cond4, e0]
  word_cmp

/-! ## The buffers of a point -/

abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x104 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S26x512x512 .bf16 := Memref.whole cc0_scratch0
abbrev scM0_1 : Memref sig .tc .vmem S512x128 .f32 := Memref.whole cc0_scratch1
abbrev scM0_2 : Memref sig .tc .vmem S4x128 .f32 := Memref.whole cc0_scratch2
abbrev scM0_3 : Memref sig .tc .vmem S512x128 .f32 := Memref.whole cc0_scratch3
abbrev scM0_4 : Memref sig .tc .vmem S512x128 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Tiles

end
-- ==== Proof.WordPoint.lean ====
/-
  The whole body at one grid point, as one step on the carried state.

  This module is `Point.lean` for the kernel as printed, before its constant is named.
-/
module

public import proofs.«01_k».proof.Proof.WordConds

@[expose] public section

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The carried state and a point's step on it -/

variable (F) in
/-- What the kernel carries from point to point: the row block of `h`, the partial sums of squares of a strip pair, the totals of a row block,
    the reciprocal roots and the row scales. -/
structure St where
  x11 : Vec F S26x512x512 .bf16
  x12 : Vec F S512x128 .f32
  x13 : Vec F S4x128 .f32
  x14 : Vec F S512x128 .f32
  x15 : Vec F S512x128 .f32

/-- At the first column of a row block: the reciprocal roots of the row block before, the row scales of this one, and no total yet. -/
def rowSt (i : grid0.Coords) (x3 : Vec F S1x1x512 .f32) (s : St F) : St F :=
  if cond2 i = 1#1 then ⟨s.x11, s.x12, zero13, rinvV s.x13, xsT x3⟩ else s

/-- The block of `h` of a point. -/
def hOf (x2 : Vec F S512x16384 .fp8e4m3) (x4 : Vec F S16384x512 .fp8e4m3) (x5 : Vec F S1x512 .f32) (x6 : Vec F S512x512 .bf16) (s : St F) :
    Vec F S512x512 .bf16 := hV (accV x2 x4) (wsV x5) s.x15 x6

/-- The partial sums of squares after a point. -/
def sqOf (i : grid0.Coords) (x2 : Vec F S512x16384 .fp8e4m3) (x4 : Vec F S16384x512 .fp8e4m3) (x5 : Vec F S1x512 .f32) (x6 : Vec F S512x512 .bf16)
    (s : St F) : Vec F S512x128 .f32 := sqV i (accV x2 x4) (wsV x5) s.x15 x6 s.x12

/-- The state after a point. -/
def mainSt (i : grid0.Coords) (x2 : Vec F S512x16384 .fp8e4m3) (x4 : Vec F S16384x512 .fp8e4m3) (x5 : Vec F S1x512 .f32) (x6 : Vec F S512x512 .bf16)
    (s : St F) : St F :=
  if k0_cond3 i = 1#1 then
    ⟨hbV (i 1) (hOf x2 x4 x5 x6 s) s.x11, sqOf i x2 x4 x5 x6 s, totV i (sqOf i x2 x4 x5 x6 s) s.x13, s.x14, s.x15⟩
  else s

/-- What a point leaves in the window of `h`. -/
def outH (i : grid0.Coords) (x2 : Vec F S512x16384 .fp8e4m3) (x4 : Vec F S16384x512 .fp8e4m3) (x5 : Vec F S1x512 .f32) (x6 x8 : Vec F S512x512 .bf16)
    (s : St F) : Vec F S512x512 .bf16 := if k0_cond3 i = 1#1 then hOf x2 x4 x5 x6 s else x8

/-- What a point leaves in the window of the codes. -/
def outC (i : grid0.Coords) (x7 : Vec F S1x512 .bf16) (s : St F) : Vec F S512x512 .fp8e4m3 := codesV (i 1) s.x14 (gamV x7) s.x11

/-- What a point leaves in the window of the scales. -/
def outS (i : grid0.Coords) (x7 : Vec F S1x512 .bf16) (s : St F) (x10 : Vec F S512x104 .f32) : Vec F S512x104 .f32 :=
  scaleV i s.x14 (gamV x7) s.x11 x10

/-! ## The conditional parts -/

theorem clearIf_spec (c : Dev nD) (E : Set ℕ) (i : grid0.Coords)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (s : St F) (K : PUnit → sProp 𝕄) :
    iprop((owns (c : Thread nD τ) arg11 fullShare s.x11 ∗ owns (c : Thread nD τ) arg12 fullShare s.x12 ∗ owns (c : Thread nD τ) arg13 fullShare s.x13)
      ∗ ((∃ s', iprop(⌜(¬ cond1 i = 1#1 → s' = s) ∧ s'.x14 = s.x14 ∧ s'.x15 = s.x15⌝ ∗ owns (c : Thread nD τ) arg11 fullShare s'.x11
          ∗ owns (c : Thread nD τ) arg12 fullShare s'.x12 ∗ owns (c : Thread nD τ) arg13 fullShare s'.x13)) -∗ K ⟨⟩))
    ⊢ wp frame (wpE (defs₀ (F := F)) Variants.none c none) E (if cond1 i = 1#1 then clearB arg11 harg11 arg12 arg13 else pure ⟨⟩) K := by
  by_cases h : cond1 i = 1#1
  · rw [if_pos h]
    iintro ⟨⟨H11, H12, H13⟩, HK⟩
    iapply (clearB_spec c E arg11 harg11 arg12 harg12 arg13 harg13 s.x11 s.x12 s.x13 K)
    isplitl [H11 H12 H13]
    · isplitl [H11]; · iexact H11
      isplitl [H12]; · iexact H12
      iexact H13
    iintro ⟨%y11, %y12, %y13, H11, H12, H13⟩
    iapply HK
    iexists (⟨y11, y12, y13, s.x14, s.x15⟩ : St F)
    isplitr
    · ipureintro; exact ⟨fun h' => absurd h h', rfl, rfl⟩
    isplitl [H11]; · iexact H11
    isplitl [H12]; · iexact H12
    iexact H13
  · rw [if_neg h]
    iintro ⟨⟨H11, H12, H13⟩, HK⟩
    sl_step
    iapply HK
    iexists s
    isplitr
    · ipureintro; exact ⟨fun _ => rfl, rfl, rfl⟩
    isplitl [H11]; · iexact H11
    isplitl [H12]; · iexact H12
    iexact H13

theorem rowIf_spec (c : Dev nD) (E : Set ℕ) (i : grid0.Coords)
    (arg3 : Memref sig .tc .vmem S1x1x512 .f32) (harg3 : arg3.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x3 : Vec F S1x1x512 .f32) (s : St F) (K : PUnit → sProp 𝕄) :
    iprop((owns (c : Thread nD τ) arg3 fullShare x3 ∗ owns (c : Thread nD τ) arg13 fullShare s.x13
      ∗ owns (c : Thread nD τ) arg14 fullShare s.x14 ∗ owns (c : Thread nD τ) arg15 fullShare s.x15)
      ∗ (iprop(owns (c : Thread nD τ) arg3 fullShare x3 ∗ owns (c : Thread nD τ) arg13 fullShare (rowSt i x3 s).x13
          ∗ owns (c : Thread nD τ) arg14 fullShare (rowSt i x3 s).x14 ∗ owns (c : Thread nD τ) arg15 fullShare (rowSt i x3 s).x15) -∗ K ⟨⟩))
    ⊢ wp frame (wpE (defs₀ (F := F)) Variants.none c none) E (if cond2 i = 1#1 then rowB arg3 arg13 arg14 arg15 else pure ⟨⟩) K := by
  by_cases h : cond2 i = 1#1
  · rw [if_pos h, show rowSt i x3 s = ⟨s.x11, s.x12, zero13, rinvV s.x13, xsT x3⟩ from if_pos h]
    exact rowB_spec c E arg3 harg3 arg13 harg13 arg14 harg14 arg15 harg15 x3 s.x13 s.x14 s.x15 K
  · rw [if_neg h, show rowSt i x3 s = s from if_neg h]
    iintro ⟨H, HK⟩
    sl_step
    iapply HK
    iexact H

theorem rowSt_x11 (i : grid0.Coords) (x3 : Vec F S1x1x512 .f32) (s : St F) : (rowSt i x3 s).x11 = s.x11 := by
  unfold rowSt; split <;> rfl

theorem rowSt_x12 (i : grid0.Coords) (x3 : Vec F S1x1x512 .f32) (s : St F) : (rowSt i x3 s).x12 = s.x12 := by
  unfold rowSt; split <;> rfl

/-! ## The body -/

/-- The last two parts of the body, of which exactly one runs. -/
theorem mainIf_spec (c : Dev nD) (E : Set ℕ) (i : grid0.Coords) (h34 : k0_cond4 i = 1#1 ↔ ¬ k0_cond3 i = 1#1)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x3 : Vec F S1x1x512 .f32) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (s : St F) (K : PUnit → sProp 𝕄) :
    iprop((owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14
      ∗ owns (c : Thread nD τ) arg15 fullShare s.x15)
    ∗ (iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare (outH i x2 x4 x5 x6 x8 s)
      ∗ owns (c : Thread nD τ) arg9 fullShare (outC i x7 s)
      ∗ owns (c : Thread nD τ) arg10 fullShare (outS i x7 s x10)
      ∗ owns (c : Thread nD τ) arg11 fullShare (mainSt i x2 x4 x5 x6 s).x11
      ∗ owns (c : Thread nD τ) arg12 fullShare (mainSt i x2 x4 x5 x6 s).x12
      ∗ owns (c : Thread nD τ) arg13 fullShare (mainSt i x2 x4 x5 x6 s).x13
      ∗ owns (c : Thread nD τ) arg14 fullShare (mainSt i x2 x4 x5 x6 s).x14
      ∗ owns (c : Thread nD τ) arg15 fullShare (mainSt i x2 x4 x5 x6 s).x15) -∗ K ⟨⟩))
    ⊢ wp frame (wpE (defs₀ (F := F)) Variants.none c none) E
        ((if k0_cond3 i = 1#1 then mainB i arg2 arg4 arg5 arg6 arg7 arg8 harg8 arg9 harg9 arg10 arg11 harg11 arg12 arg13 arg14 arg15 else pure ⟨⟩) >>= fun _ =>
          (if k0_cond4 i = 1#1 then lastB i arg7 arg9 harg9 arg10 arg11 arg14 else pure ⟨⟩) >>= fun _ => pure ⟨⟩) K := by
  by_cases h : k0_cond3 i = 1#1
  · rw [if_pos h, if_neg (fun h' => h34.mp h' h),
      show mainSt i x2 x4 x5 x6 s = ⟨hbV (i 1) (hOf x2 x4 x5 x6 s) s.x11, sqOf i x2 x4 x5 x6 s, totV i (sqOf i x2 x4 x5 x6 s) s.x13, s.x14, s.x15⟩ from if_pos h,
      show outH i x2 x4 x5 x6 x8 s = hOf x2 x4 x5 x6 s from if_pos h]
    unfold hOf sqOf outC outS
    simp only [pure_bind]
    rw [wp_bind]
    iintro ⟨⟨H2, H3, H4, H5, H6, H7, H8, H9, H10, H11, H12, H13, H14, H15⟩, HK⟩
    iapply (mainB_spec c E i arg2 harg2 arg4 harg4 arg5 harg5 arg6 harg6 arg7 harg7 arg8 harg8 arg9 harg9 arg10 harg10 arg11 harg11 arg12 harg12 arg13 harg13
      arg14 harg14 arg15 harg15 x2 x4 x5 x6 x7 x8 x9 x10 s.x11 s.x12 s.x13 s.x14 s.x15 _)
    isplitl [H2 H4 H5 H6 H7 H8 H9 H10 H11 H12 H13 H14 H15]
    · isplitl [H2]; · iexact H2
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro ⟨H2, H4, H5, H6, H7, H8, H9, H10, H11, H12, H13, H14, H15⟩
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [if_neg h, if_pos (h34.mpr h),
      show mainSt i x2 x4 x5 x6 s = s from if_neg h,
      show outH i x2 x4 x5 x6 x8 s = x8 from if_neg h]
    unfold outC outS
    rw [pure_bind, wp_bind]
    iintro ⟨⟨H2, H3, H4, H5, H6, H7, H8, H9, H10, H11, H12, H13, H14, H15⟩, HK⟩
    iapply (lastB_spec c E i arg7 harg7 arg9 harg9 arg10 harg10 arg11 harg11 arg14 harg14 x7 x9 x10 s.x11 s.x14 _)
    isplitl [H7 H9 H10 H11 H14]
    · isplitl [H7]; · iexact H7
      isplitl [H9]; · iexact H9
      isplitl [H10]; · iexact H10
      isplitl [H11]; · iexact H11
      iexact H14
    iintro ⟨H7, H9, H10, H11, H14⟩
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body with its four parts bound one after another. -/
theorem body_binds (i : grid0.Coords)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    :
    body (F := F) i arg2 arg3 arg4 arg5 arg6 arg7 arg8 harg8 arg9 harg9 arg10 arg11 harg11 arg12 arg13 arg14 arg15 =
      ((if cond1 i = 1#1 then clearB arg11 harg11 arg12 arg13 else pure ⟨⟩) >>= fun _ =>
        (if cond2 i = 1#1 then rowB arg3 arg13 arg14 arg15 else pure ⟨⟩) >>= fun _ =>
        (if k0_cond3 i = 1#1 then mainB i arg2 arg4 arg5 arg6 arg7 arg8 harg8 arg9 harg9 arg10 arg11 harg11 arg12 arg13 arg14 arg15 else pure ⟨⟩) >>= fun _ =>
          (if k0_cond4 i = 1#1 then lastB i arg7 arg9 harg9 arg10 arg11 arg14 else pure ⟨⟩) >>= fun _ => pure ⟨⟩) := by
  unfold body
  by_cases h1 : cond1 i = 1#1 <;> by_cases h2 : cond2 i = 1#1 <;> by_cases h3 : k0_cond3 i = 1#1 <;> by_cases h4 : k0_cond4 i = 1#1 <;>
    simp only [h1, h2, h3, h4, if_true, if_false, pure_bind]

/-- The body at a point: from the state `s` it goes on from some `s'`, which is `s` except at the first point, and makes one step. -/
theorem body_spec (c : Dev nD) (E : Set ℕ) (i : grid0.Coords) (h34 : k0_cond4 i = 1#1 ↔ ¬ k0_cond3 i = 1#1)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x3 : Vec F S1x1x512 .f32) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (s : St F) (K : PUnit → sProp 𝕄) :
    iprop((owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14
      ∗ owns (c : Thread nD τ) arg15 fullShare s.x15)
    ∗ ((∃ s', iprop(⌜¬ cond1 i = 1#1 → s' = s⌝ ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare (outH i x2 x4 x5 x6 x8 (rowSt i x3 s'))
      ∗ owns (c : Thread nD τ) arg9 fullShare (outC i x7 (rowSt i x3 s'))
      ∗ owns (c : Thread nD τ) arg10 fullShare (outS i x7 (rowSt i x3 s') x10)
      ∗ owns (c : Thread nD τ) arg11 fullShare (mainSt i x2 x4 x5 x6 (rowSt i x3 s')).x11
      ∗ owns (c : Thread nD τ) arg12 fullShare (mainSt i x2 x4 x5 x6 (rowSt i x3 s')).x12
      ∗ owns (c : Thread nD τ) arg13 fullShare (mainSt i x2 x4 x5 x6 (rowSt i x3 s')).x13
      ∗ owns (c : Thread nD τ) arg14 fullShare (mainSt i x2 x4 x5 x6 (rowSt i x3 s')).x14
      ∗ owns (c : Thread nD τ) arg15 fullShare (mainSt i x2 x4 x5 x6 (rowSt i x3 s')).x15)) -∗ K ⟨⟩))
    ⊢ wp frame (wpE (defs₀ (F := F)) Variants.none c none) E
        (body i arg2 arg3 arg4 arg5 arg6 arg7 arg8 harg8 arg9 harg9 arg10 arg11 harg11 arg12 arg13 arg14 arg15) K := by
  rw [body_binds i arg2 harg2 arg3 harg3 arg4 harg4 arg5 harg5 arg6 harg6 arg7 harg7 arg8 harg8 arg9 harg9 arg10 harg10 arg11 harg11 arg12 harg12 arg13 harg13 arg14 harg14 arg15 harg15, wp_bind]
  iintro ⟨⟨H2, H3, H4, H5, H6, H7, H8, H9, H10, H11, H12, H13, H14, H15⟩, HK⟩
  iapply (clearIf_spec c E i arg11 harg11 arg12 harg12 arg13 harg13 s _)
  isplitl [H11 H12 H13]
  · isplitl [H11]; · iexact H11
    isplitl [H12]; · iexact H12
    iexact H13
  iintro ⟨%s', %hs, H11, H12, H13⟩
  rw [← hs.2.1, ← hs.2.2, wp_bind]
  iapply (rowIf_spec c E i arg3 harg3 arg13 harg13 arg14 harg14 arg15 harg15 x3 s' _)
  isplitl [H3 H13 H14 H15]
  · isplitl [H3]; · iexact H3
    isplitl [H13]; · iexact H13
    isplitl [H14]; · iexact H14
    iexact H15
  iintro ⟨H3, H13, H14, H15⟩
  rw [← rowSt_x11 i x3 s', ← rowSt_x12 i x3 s']
  iapply (mainIf_spec c E i h34 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 (rowSt i x3 s') K)
  isplitl [H2 H3 H4 H5 H6 H7 H8 H9 H10 H11 H12 H13 H14 H15]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H2, H3, H4, H5, H6, H7, H8, H9, H10, H11, H12, H13, H14, H15⟩
  iapply HK
  iexists s'
  isplitr
  · ipureintro; exact hs.1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Kernel.Tiles

end
-- ==== Proof.WordRegion.lean ====
/-
  The run of the kernel's grid: what is carried from point to point and what the body leaves in each window.

  This module is `Region.lean` for the kernel as printed, before its constant is named.
-/
module

public import proofs.«01_k».proof.Proof.WordPoint
public import Idealize.ShloMosaic.Lib.Pipeline.ArrRel

@[expose] public section

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a point -/

def bX (c : Dev nD) (t : Fin cfg0.N) : Vec F S512x16384 .fp8e4m3 := iblk m c 0 t
def bXs (c : Dev nD) (t : Fin cfg0.N) : Vec F S1x1x512 .f32 := iblk m c 1 t
def bW (c : Dev nD) (t : Fin cfg0.N) : Vec F S16384x512 .fp8e4m3 := iblk m c 2 t
def bWs (c : Dev nD) (t : Fin cfg0.N) : Vec F S1x512 .f32 := iblk m c 3 t
def bRes (c : Dev nD) (t : Fin cfg0.N) : Vec F S512x512 .bf16 := iblk m c 4 t
def bGam (c : Dev nD) (t : Fin cfg0.N) : Vec F S1x512 .bf16 := iblk m c 5 t

/-- The state in which point `t`'s products start, from the state before it. -/
def midSt (c : Dev nD) (t : Fin cfg0.N) (s : St F) : St F := rowSt (grid0.coords t) (bXs m c t) s

/-- The state after point `t`. -/
def nextSt (c : Dev nD) (t : Fin cfg0.N) (s : St F) : St F :=
  mainSt (grid0.coords t) (bX m c t) (bW m c t) (bWs m c t) (bRes m c t) (midSt m c t s)

/-- The state before point `n` of a run that starts from `s`. -/
def stBefore (c : Dev nD) (s : St F) : ℕ → St F
  | 0 => s
  | n + 1 => if h : n < cfg0.N then nextSt m c ⟨n, h⟩ (stBefore c s n) else stBefore c s n

theorem stBefore_succ (c : Dev nD) (s : St F) (t : Fin cfg0.N) : stBefore m c s (t.val + 1) = nextSt m c t (stBefore m c s t.val) :=
  dif_pos t.isLt

/-- The state in which point `t`'s products start, in a run that starts from `s`. -/
def stMid (c : Dev nD) (s : St F) (t : Fin cfg0.N) : St F := midSt m c t (stBefore m c s t.val)

/-! ## The proof data -/

/-- What the body may leave in each window at a point: an input as found, an output as some run computes it. -/
def leftIn (c : Dev nD) : (w : Fin cfg0.W) → Fin cfg0.N → ((cfg0.win w).block.Idx → Elt F (cfg0.win w).elt) → ((cfg0.win w).block.Idx → Elt F (cfg0.win w).elt) → Prop
  | ⟨0, _⟩, _, Y, X | ⟨1, _⟩, _, Y, X | ⟨2, _⟩, _, Y, X | ⟨3, _⟩, _, Y, X | ⟨4, _⟩, _, Y, X | ⟨5, _⟩, _, Y, X => X = Y
  | ⟨6, _⟩, t, Y, X => ∃ s, X = outH (F := F) (grid0.coords t) (bX m c t) (bW m c t) (bWs m c t) (bRes m c t) Y (stMid m c s t)
  | ⟨7, _⟩, t, _, X => ∃ s, X = outC (F := F) (grid0.coords t) (bGam m c t) (stMid m c s t)
  | ⟨8, _⟩, t, Y, X => ∃ s, X = outS (F := F) (grid0.coords t) (bGam m c t) (stMid m c s t) Y
  | ⟨n + 9, h⟩, _, _, _ => absurd (show n + 9 < 9 from h) (by omega)

/-- The scratch buffers before point `n`: at anything before the first point, then at the state of some run. -/
def PhiN (c : Dev nD) : ℕ → sProp 𝕄
  | 0 => Pipeline.ΦA spec0 c
  | n + 1 => iprop((∃ s : St F, iprop(owns (c : Thread nD τ) scM0_0 fullShare (stBefore m c s (n + 1)).x11 ∗ owns (c : Thread nD τ) scM0_1 fullShare (stBefore m c s (n + 1)).x12 ∗ owns (c : Thread nD τ) scM0_2 fullShare (stBefore m c s (n + 1)).x13 ∗ owns (c : Thread nD τ) scM0_3 fullShare (stBefore m c s (n + 1)).x14 ∗ owns (c : Thread nD τ) scM0_4 fullShare (stBefore m c s (n + 1)).x15)) ∗ (∃ r, prngReg c r))

def rdat (c : Dev nD) : Pipeline.RDat τ (Elt F) Unit ℕ (UR sig nD τ) ℕ cfg0 c where
  A w := V m c (Pipeline.arrRef spec0 w)
  after := leftIn m c
  Φ t := PhiN m c t.val
  q _ := fullShare
  owed _ := 0
  recorded _ := Set.univ

/-- Before a point the scratch buffers hold some state; but for the first point, that of some run. -/
theorem PhiN_at (c : Dev nD) (n : ℕ) :
    PhiN (F := F) m c n ⊢ iprop((∃ s, ∃ s0 : St F, iprop(⌜n ≠ 0 → s = stBefore m c s0 n⌝ ∗ owns (c : Thread nD τ) scM0_0 fullShare s.x11 ∗ owns (c : Thread nD τ) scM0_1 fullShare s.x12 ∗ owns (c : Thread nD τ) scM0_2 fullShare s.x13 ∗ owns (c : Thread nD τ) scM0_3 fullShare s.x14 ∗ owns (c : Thread nD τ) scM0_4 fullShare s.x15)) ∗ (∃ r, prngReg c r)) := by
  cases n with
  | zero =>
    rw [show PhiN (F := F) m c 0 = Pipeline.ΦA spec0 c from rfl, PhiA0_eq]
    iintro ⟨⟨⟨%d0, H0⟩, ⟨%d1, H1⟩, ⟨%d2, H2⟩, ⟨%d3, H3⟩, ⟨%d4, H4⟩⟩, Hg⟩
    isplitl [H0 H1 H2 H3 H4]
    · iexists (⟨d0, d1, d2, d3, d4⟩ : St F)
      iexists (⟨d0, d1, d2, d3, d4⟩ : St F)
      isplitr
      · ipureintro; exact fun h => absurd rfl h
      isplitl [H0]; · iexact H0
      isplitl [H1]; · iexact H1
      isplitl [H2]; · iexact H2
      isplitl [H3]; · iexact H3
      iexact H4
    iexact Hg
  | succ n =>
    unfold PhiN
    iintro ⟨⟨%s, H⟩, Hg⟩
    isplitl [H]
    · iexists (stBefore m c s (n + 1))
      iexists s
      isplitr
      · ipureintro; exact fun _ => rfl
      iexact H
    iexact Hg

theorem hin (c : Dev nD) : Pipeline.ΦA spec0 c ⊢ (rdat (F := F) m c).Φ 0 := Idealize.SL.BI.Entails.refl _

theorem hout (c : Dev nD) : (rdat (F := F) m c).Φ (Fin.last cfg0.N) ⊢ Pipeline.ΦA spec0 c := by
  show PhiN (F := F) m c (Fin.last cfg0.N).val ⊢ _
  refine (PhiN_at m c _).trans ?_
  rw [PhiA0_eq]
  iintro ⟨⟨%s, %s0, -, H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

/-! ## What the body finds in the input windows -/

theorem finds_0 (c : Dev nD) (t : Fin cfg0.N) (Y) (h : (rdat (F := F) m c).Finds 0 t Y) : Y = bX m c t := by
  obtain ⟨d, hd⟩ := (rdat (F := F) m c).finds_in_eq_fetched 0 rfl (fun _ _ _ => rfl) (fun _ _ _ h => h) t Y h
  exact hd
theorem finds_1 (c : Dev nD) (t : Fin cfg0.N) (Y) (h : (rdat (F := F) m c).Finds 1 t Y) : Y = bXs m c t := by
  obtain ⟨d, hd⟩ := (rdat (F := F) m c).finds_in_eq_fetched 1 rfl (fun _ _ _ => rfl) (fun _ _ _ h => h) t Y h
  exact hd
theorem finds_2 (c : Dev nD) (t : Fin cfg0.N) (Y) (h : (rdat (F := F) m c).Finds 2 t Y) : Y = bW m c t := by
  obtain ⟨d, hd⟩ := (rdat (F := F) m c).finds_in_eq_fetched 2 rfl (fun _ _ _ => rfl) (fun _ _ _ h => h) t Y h
  exact hd
theorem finds_3 (c : Dev nD) (t : Fin cfg0.N) (Y) (h : (rdat (F := F) m c).Finds 3 t Y) : Y = bWs m c t := by
  obtain ⟨d, hd⟩ := (rdat (F := F) m c).finds_in_eq_fetched 3 rfl (fun _ _ _ => rfl) (fun _ _ _ h => h) t Y h
  exact hd
theorem finds_4 (c : Dev nD) (t : Fin cfg0.N) (Y) (h : (rdat (F := F) m c).Finds 4 t Y) : Y = bRes m c t := by
  obtain ⟨d, hd⟩ := (rdat (F := F) m c).finds_in_eq_fetched 4 rfl (fun _ _ _ => rfl) (fun _ _ _ h => h) t Y h
  exact hd
theorem finds_5 (c : Dev nD) (t : Fin cfg0.N) (Y) (h : (rdat (F := F) m c).Finds 5 t Y) : Y = bGam m c t := by
  obtain ⟨d, hd⟩ := (rdat (F := F) m c).finds_in_eq_fetched 5 rfl (fun _ _ _ => rfl) (fun _ _ _ h => h) t Y h
  exact hd

/-! ## The body obligation -/

theorem defs₀_row (t : Fin cfg0.N) :
    defs₀ (F := F) .tc cfg0.body (cfg0.bodyArgs t (cfg0.slots t)) = bodyAt0 t := by
  unfold defs₀; rw [Defs.onTc_tc]

theorem cond34 (t : Fin cfg0.N) : k0_cond4 (grid0.coords t) = 1#1 ↔ ¬ k0_cond3 (grid0.coords t) = 1#1 := by
  rw [cond4_iff, cond3_iff]; omega

theorem point_triple (c : Dev nD) (t : Fin cfg0.N) (Y6 : Vec F S512x512 .bf16) (Y7 : Vec F S512x512 .fp8e4m3) (Y8 : Vec F S512x104 .f32) :
    iprop((rdat (F := F) m c).Φ t.castSucc ∗ (rdat (F := F) m c).owesAt () t.castSucc
      ∗ owns (c : Thread nD τ) (ms0_0 t) fullShare (bX m c t) ∗ owns (c : Thread nD τ) (ms0_1 t) fullShare (bXs m c t)
      ∗ owns (c : Thread nD τ) (ms0_2 t) fullShare (bW m c t) ∗ owns (c : Thread nD τ) (ms0_3 t) fullShare (bWs m c t)
      ∗ owns (c : Thread nD τ) (ms0_4 t) fullShare (bRes m c t) ∗ owns (c : Thread nD τ) (ms0_5 t) fullShare (bGam m c t)
      ∗ owns (c : Thread nD τ) (ms0_6 t) fullShare Y6 ∗ owns (c : Thread nD τ) (ms0_7 t) fullShare Y7 ∗ owns (c : Thread nD τ) (ms0_8 t) fullShare Y8)
    ⊢ wp frame (wpE (defs₀ (F := F)) Variants.none c none) Set.univ (bodyAt0 t) fun _ =>
      iprop((rdat (F := F) m c).Φ t.succ ∗ (rdat (F := F) m c).owesAt () t.succ
      ∗ (∃ X, ⌜X = bX m c t⌝ ∗ owns (c : Thread nD τ) (ms0_0 t) fullShare X) ∗ (∃ X, ⌜X = bXs m c t⌝ ∗ owns (c : Thread nD τ) (ms0_1 t) fullShare X)
      ∗ (∃ X, ⌜X = bW m c t⌝ ∗ owns (c : Thread nD τ) (ms0_2 t) fullShare X) ∗ (∃ X, ⌜X = bWs m c t⌝ ∗ owns (c : Thread nD τ) (ms0_3 t) fullShare X)
      ∗ (∃ X, ⌜X = bRes m c t⌝ ∗ owns (c : Thread nD τ) (ms0_4 t) fullShare X) ∗ (∃ X, ⌜X = bGam m c t⌝ ∗ owns (c : Thread nD τ) (ms0_5 t) fullShare X)
      ∗ (∃ X, ⌜leftIn m c 6 t Y6 X⌝ ∗ owns (c : Thread nD τ) (ms0_6 t) fullShare X)
      ∗ (∃ X, ⌜leftIn m c 7 t Y7 X⌝ ∗ owns (c : Thread nD τ) (ms0_7 t) fullShare X)
      ∗ (∃ X, ⌜leftIn m c 8 t Y8 X⌝ ∗ owns (c : Thread nD τ) (ms0_8 t) fullShare X)) := by
  rw [show (rdat (F := F) m c).owesAt () t.succ = (rdat (F := F) m c).owesAt () t.castSucc from rfl,
    show (rdat (F := F) m c).Φ t.castSucc = PhiN m c t.val from rfl, show (rdat (F := F) m c).Φ t.succ = PhiN m c (t.val + 1) from rfl]
  refine (sep_mono (PhiN_at m c t.val) .rfl).trans ?_
  unfold bodyAt0
  rw [body_eq]
  iintro ⟨⟨⟨%s, %s0, %hs, HS0, HS1, HS2, HS3, HS4⟩, Hg⟩, Ho, H0, H1, H2, H3, H4, H5, H6, H7, H8⟩
  iapply (body_spec c Set.univ (grid0.coords t) (cond34 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)
    (bX m c t) (bXs m c t) (bW m c t) (bWs m c t) (bRes m c t) (bGam m c t) Y6 Y7 Y8 s _)
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iintro ⟨%s', %hs', H0, H1, H2, H3, H4, H5, H6, H7, H8, HS0, HS1, HS2, HS3, HS4⟩
  have hrun : ∃ r, s' = stBefore m c r t.val := by
    by_cases ht : t.val = 0
    · exact ⟨s', by rw [ht]; rfl⟩
    · exact ⟨s0, (hs' fun h => ht ((cond1_iff t).mp h)).trans (hs ht)⟩
  obtain ⟨r, rfl⟩ := hrun
  isplitl [HS0 HS1 HS2 HS3 HS4 Hg]
  · unfold PhiN
    isplitl [HS0 HS1 HS2 HS3 HS4]
    · iexists r
      rw [stBefore_succ m c r t]
      isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; exact ⟨r, rfl⟩
  isplitl [H7]
  · iexists _; isplitr
    swap; · iexact H7
    ipureintro; exact ⟨r, rfl⟩
  iexists _; isplitr
  swap; · iexact H8
  ipureintro; exact ⟨r, rfl⟩

theorem body_obligation (c : Dev nD) : (rdat (F := F) m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  have h5 := finds_5 m c t _ (hY 5)
  rw [bigSep_W0, bigSep_W0, defs₀_row]
  have key := point_triple m c t (Y 6) (Y 7) (Y 8)
  rw [← h0, ← h1, ← h2, ← h3, ← h4, ← h5] at key
  exact triple_restated key rfl .rfl fun _ => .rfl

/-! ## The run -/

set_option backward.isDefEq.respectTransparency.types false in
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => (rdat m c).share_full (fun _ => rfl) w)
    (howed := fun _ _ => rfl) (V := V m) (hmain := hmain m Variants.none) (hA := fun _ _ => rfl) (hin := hin m) (hout := hout m)

end Cert.Kernel.Tiles

end
-- ==== Proof.WordFrame.lean ====
/-
  The printed kernel's frame: it ends without a fault, its arguments as they were and every semaphore at zero.
-/
module

public import proofs.«01_k».proof.Proof.WordRegion

@[expose] public section

set_option maxRecDepth 16384

noncomputable section

namespace Cert.Kernel.Tiles

open Idealize.ShloMosaic Idealize.ShloMosaic.TcCoe
open Idealize.SL.Sem
open Cert.Kernel.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => And.intro (fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) h.2) (run_main m ρ)

end Cert.Kernel.Tiles

end
-- ==== Proof.Tiles.lean ====
/-
  The kernel's body written as loops over tiles.

  The printed body unrolls every loop: 16 strips of 32 rows, 4 groups of 128 columns in a strip. Here
  one tile and one strip are written once, with the strip and the group as parameters; `Body.lean`
  proves that the printed body is these loops.
-/
module

public import proofs.«01_k».proof.Proof.Gen.KernelIdeal

@[expose] public section

noncomputable section

namespace Cert.KernelIdeal.Tiles

open Idealize.ShloMosaic Idealize.SL.Sem Cert.KernelIdeal.Gen

variable {F : FTy → Type} [FloatOps F] [Named F]

/-! ## Rectangles -/

/-- Where tile `(s, g)` of column block `i 1` lies in the buffer of projected blocks. -/
def hOff (i : grid0.Coords) (s : Fin 16) (g : Fin 4) : Fin 3 → Nat :=
  ![(Scalar.indexCast (BitVec.ofNat 32 (i 1).val)).toNat, 32 * s.val, 128 * g.val]

theorem hOff_eq (i : grid0.Coords) (s : Fin 16) (g : Fin 4) : hOff i s g = ![(i 1).val, 32 * s.val, 128 * g.val] := by
  have h := congrFun (k0_off1_eq i) 0
  have h' : (Scalar.indexCast (BitVec.ofNat 32 (i 1).val)).toNat = (i 1).val := h
  unfold hOff
  rw [h']

theorem hOff_inb (i : grid0.Coords) (s : Fin 16) (g : Fin 4) : ∀ a, hOff i s g a + S1x32x128.size a ≤ S26x512x512.size a := by
  have h1 : (i 1).val < 26 := (i 1).isLt
  have h2 := s.isLt
  have h3 := g.isLt
  rw [hOff_eq]
  intro a
  fin_cases a
  · show (i 1).val + 1 ≤ 26
    omega
  · show 32 * s.val + 32 ≤ 512
    omega
  · show 128 * g.val + 128 ≤ 512
    omega

theorem hOff_packed (i : grid0.Coords) (s : Fin 16) (g : Fin 4) :
    (Rect.unit (s := S26x512x512) (hOff i s g) S1x32x128.size (hOff_inb i s g)).PackedRows (EltTy.packing .bf16) := by
  refine .inr ⟨(by decide : 2 ≤ S26x512x512.rank), rfl, .inl ⟨?_, ?_⟩⟩
  · show 2 ∣ 32 * s.val
    omega
  · show 2 ∣ 32
    decide

theorem tile_inb (s : Fin 16) (g : Fin 4) : ∀ a, (![32 * s.val, 128 * g.val] : Fin 2 → Nat) a + S32x128.size a ≤ S512x512.size a := by
  have h2 := s.isLt
  have h3 := g.isLt
  intro a
  fin_cases a
  · show 32 * s.val + 32 ≤ 512
    omega
  · show 128 * g.val + 128 ≤ 512
    omega

theorem tile_packed8 (s : Fin 16) (g : Fin 4) :
    (Rect.unit (s := S512x512) ![32 * s.val, 128 * g.val] S32x128.size (tile_inb s g)).PackedRows (EltTy.packing .fp8e4m3) := by
  refine .inr ⟨(by decide : 2 ≤ S512x512.rank), rfl, .inl ⟨?_, ?_⟩⟩
  · show 4 ∣ 32 * s.val
    omega
  · show 4 ∣ 32
    decide

theorem tile_packed16 (s : Fin 16) (g : Fin 4) :
    (Rect.unit (s := S512x512) ![32 * s.val, 128 * g.val] S32x128.size (tile_inb s g)).PackedRows (EltTy.packing .bf16) := by
  refine .inr ⟨(by decide : 2 ≤ S512x512.rank), rfl, .inl ⟨?_, ?_⟩⟩
  · show 2 ∣ 32 * s.val
    omega
  · show 2 ∣ 32
    decide

theorem strip_inb (s : Fin 16) : ∀ a, (![32 * s.val, 0] : Fin 2 → Nat) a + S32x128.size a ≤ S512x128.size a := by
  have h2 := s.isLt
  intro a
  fin_cases a
  · show 32 * s.val + 32 ≤ 512
    omega
  · show 0 + 128 ≤ 128
    omega

theorem scale_inb (s : Fin 16) : ∀ a, (![32 * s.val, 0] : Fin 2 → Nat) a + S32x104.size a ≤ S512x104.size a := by
  have h2 := s.isLt
  intro a
  fin_cases a
  · show 32 * s.val + 32 ≤ 512
    omega
  · show 0 + 104 ≤ 104
    omega

theorem quarter_inb (q : Fin 4) : ∀ a, (![128 * q.val, 0] : Fin 2 → Nat) a + S128x128.size a ≤ S512x128.size a := by
  have h2 := q.isLt
  intro a
  fin_cases a
  · show 128 * q.val + 128 ≤ 512
    omega
  · show 0 + 128 ≤ 128
    omega

theorem row_inb (q : Fin 4) : ∀ a, (![q.val, 0] : Fin 2 → Nat) a + S1x128.size a ≤ S4x128.size a := by
  have h2 := q.isLt
  intro a
  fin_cases a
  · show q.val + 1 ≤ 4
    omega
  · show 0 + 128 ≤ 128
    omega

theorem slices_cols : ∀ g : Fin 4, S1x512.Slices ![0, 128 * g.val] S1x128 := by decide
theorem slices_tile : ∀ (s : Fin 16) (g : Fin 4), S512x512.Slices ![32 * s.val, 128 * g.val] S32x128 := by decide
theorem slices_row : ∀ q : Fin 4, S4x128.Slices ![q.val, 0] S1x128 := by decide
theorem slices_oct : ∀ k : Fin 16, S128x128.Slices ![8 * k.val, 0] S8x128 := by decide

/-! ## What one tile computes -/

/-- A tile of the normalised rows: the stored block times the row's inverse root mean square times the
    column's weight. -/
def normT (h : Vec F S1x32x128 .bf16) (ri : Vec F S32x128 .f32) (gam : FVec F S1x512 .f32) (g : Fin 4) : FVec F S32x128 .f32 :=
  mulf (mulf (extf .f32 (shapeCast S32x128 h shapeCasts_S1x32x128_S32x128) bitsLt_bf16_f32) ri)
    (broadcastTo S32x128 (extractStridedSlice S1x128 ![0, 128 * g.val] gam (slices_cols g)) broadcasts_S1x128_S32x128)

/-- The bound of each row of a tile: its greatest absolute value over 448. -/
def boundT (n : FVec F S32x128 .f32) : FVec F S32x1 .f32 :=
  mulf (shapeCast S32x1 (multiReduction .maximumf [1] S32 (absf n) 0xFF800000#32 reduces_S32x128_S32 (.inl rfl) rfl) shapeCasts_S32_S32x1)
    (broadcast S32x1 (Scalar.ofBits .f32 0x3B124925#32))

/-- The 256 thresholds, as bit patterns: lane `k` holds `k` shifted into the exponent field. -/
def thrBits : IVec S32x256 32 :=
  shli (iota .tc S32x256 32 [1] iota_S32x256_d1_w32) (broadcast S32x256 23#32)

/-- The exponent field of each row's bound: the greatest threshold the bound reaches. -/
def fieldT (t : FVec F S32x1 .f32) : IVec S32x1 32 :=
  andi (shapeCast S32x1 (multiReductionI .maxsi [1] S32
      (select (cmpf .oge (broadcastTo S32x256 t broadcasts_S32x1_S32x256) (bitcastToFloat .f32 thrBits)) thrBits (broadcast S32x256 0#32))
      2147483648#32 reduces_S32x256_S32 rfl) shapeCasts_S32_S32x1)
    (broadcast S32x1 2139095040#32)

/-- The bit pattern of each row's scale. -/
def scaleBits (f : IVec S32x1 32) : IVec S32x1 32 :=
  select (andi (cmpi .ne f (broadcast S32x1 0#32)) (cmpi .ne f (broadcast S32x1 2139095040#32)))
    (addi f (broadcast S32x1 8388608#32)) (broadcast S32x1 1065353216#32)

/-- The bit pattern of each row's scale, from the normalised tile. -/
def sbT (n : FVec F S32x128 .f32) : IVec S32x1 32 := scaleBits (fieldT (boundT n))

/-- Each row's scale. -/
def scaleT (n : FVec F S32x128 .f32) : FVec F S32x1 .f32 := bitcastToFloat .f32 (sbT n)

/-- The reciprocal of each row's scale. -/
def invT (n : FVec F S32x128 .f32) : FVec F S32x1 .f32 :=
  bitcastToFloat .f32 (subi (broadcast S32x1 2130706432#32) (sbT n))

/-- A tile of codes. -/
def codesT (n : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf n (broadcastTo S32x128 (invT n) broadcasts_S32x1_S32x128)))) bitsLt_fp8e4m3_f32

/-- A strip of scales with the column of group `g` of column block `i 1` replaced. -/
def scaleUpd (i : grid0.Coords) (g : Fin 4) (n : FVec F S32x128 .f32) (sc : FVec F S32x104 .f32) : FVec F S32x104 .f32 :=
  select (cmpi .eq (iota .tc S32x104 32 [1] iota_S32x104_d1_w32)
      (broadcast S32x104 (Scalar.addi (Scalar.muli (BitVec.ofNat 32 (i 1).val) 4#32) (BitVec.ofNat 32 g.val))))
    (broadcastTo S32x104 (shapeCast S32x1 (scaleT n) shapeCasts_S32x1_S32x1) broadcasts_S32x1_S32x104) sc

/-- A tile of the projection plus the residual. -/
def hT (acc : FVec F S512x512 .f32) (xs : Vec F S32x128 .f32) (ws : FVec F S1x512 .f32) (res : Vec F S32x128 .bf16) (s : Fin 16) (g : Fin 4) :
    FVec F S32x128 .bf16 :=
  truncf .bf16 (addf (extf .f32 (shapeCast S32x128 res shapeCasts_S32x128_S32x128) bitsLt_bf16_f32)
    (mulf (mulf (extractStridedSlice S32x128 ![32 * s.val, 128 * g.val] acc (slices_tile s g)) xs)
      (broadcastTo S32x128 (extractStridedSlice S1x128 ![0, 128 * g.val] ws (slices_cols g)) broadcasts_S1x128_S32x128))) bitsLt_bf16_f32

/-- A running sum of squares with one tile's squares added. -/
def sqAdd (sq : FVec F S32x128 .f32) (h : FVec F S32x128 .bf16) : FVec F S32x128 .f32 :=
  addf sq (mulf (extf .f32 h bitsLt_bf16_f32) (extf .f32 h bitsLt_bf16_f32))

/-- Group `k` of eight rows of a quarter. -/
def oct (v : FVec F S128x128 .f32) (k : Fin 16) : FVec F S8x128 .f32 := extractStridedSlice S8x128 ![8 * k.val, 0] v (slices_oct k)

/-- The sixteen groups of eight rows added up. -/
def octSum (v : FVec F S128x128 .f32) : FVec F S8x128 .f32 :=
  addf (addf (addf (addf (addf (addf (addf (addf (addf (addf (addf (addf (addf (addf (addf (oct v 0) (oct v 1)) (oct v 2)) (oct v 3)) (oct v 4)) (oct v 5)) (oct v 6)) (oct v 7)) (oct v 8)) (oct v 9)) (oct v 10)) (oct v 11)) (oct v 12)) (oct v 13)) (oct v 14)) (oct v 15)

/-- Eight rows with the rows `n` places away added. -/
def rot (n : BitVec 32) (v : FVec F S8x128 .f32) : FVec F S8x128 .f32 := addf v (dynamicRotate 0 n none v rotates_S8x128_d0)

/-- The sums of the rows of a quarter, along the lanes. -/
def laneSums (v : Vec F S128x128 .f32) : FVec F S1x128 .f32 :=
  extractStridedSlice S1x128 ![0, 0]
    (rot 1#32 (rot 2#32 (rot 4#32 (octSum (transpose S128x128 [1, 0] v transposes_S128x128_p1_0_S128x128))))) slices_S8x128_o0_0_S1x128

/-- A row of sums with a quarter's sums added, when the pair of column blocks is complete. -/
def totUpd (odd : BitVec 1) (tot : Vec F S1x128 .f32) (v : Vec F S128x128 .f32) : FVec F S1x128 .f32 :=
  shapeCast S1x128 (addf tot (Scalar.select odd (laneSums v) (broadcast S1x128 (Scalar.ofBits .f32 0x00000000#32)))) shapeCasts_S1x128_S1x128

/-- A quarter of the inverse root mean squares, spread along the lanes. -/
def rinvT (tot : Vec F S4x128 .f32) (q : Fin 4) : FVec F S128x128 .f32 :=
  shapeCast S128x128 (transpose S128x128 [1, 0] (broadcastTo S128x128 (shapeCast S1x128 (extractStridedSlice S1x128 ![q.val, 0]
    (rsqrt (addf (mulf tot (broadcast S4x128 (Named.named κ "inv_n" 0x389D89D9#32))) (broadcast S4x128 (Scalar.ofBits .f32 0x3727C5AC#32))))
    (slices_row q)) shapeCasts_S1x128_S1x128) broadcasts_S1x128_S128x128) transposes_S128x128_p1_0_S128x128) shapeCasts_S128x128_S128x128

/-- The row scales of the left operand, spread along the lanes. -/
def xsT (xs : Vec F S1x1x512 .f32) : FVec F S512x128 .f32 :=
  shapeCast S512x128 (transpose S512x128 [1, 0] (broadcastTo S128x512 (shapeCast S1x512 (shapeCast S1x512 xs shapeCasts_S1x1x512_S1x512)
    shapeCasts_S1x512_S1x512) broadcasts_S1x512_S128x512) transposes_S128x512_p1_0_S512x128) shapeCasts_S512x128_S512x128

/-- Whether the column block is odd: whether it completes a pair. -/
def oddBit (i : grid0.Coords) : BitVec 1 :=
  let arg1 : BitVec 32 := BitVec.ofNat 32 (i 1).val
  let v9 : BitVec 32 := Scalar.select (Scalar.cmpi .eq 2#32 0#32) 1#32 2#32
  let v10 : BitVec 32 := Scalar.remsi arg1 v9
  let v15 : BitVec 1 := Scalar.andi (Scalar.xori (Scalar.cmpi .slt v10 0#32) (Scalar.cmpi .slt v9 0#32)) (Scalar.cmpi .ne v10 0#32)
  Scalar.cmpi .eq (Scalar.select v15 (Scalar.addi v10 v9) v10) 1#32

/-! ## The loops -/

/-- `f k`, `f (k+1)`, …, `f (N-1)` in order. -/
def seqFrom {N : Nat} (f : Fin N → Prog (TpuEff nD τ sig (Elt F) Λ₀ .tc) PUnit) : (n k : Nat) → n + k = N → Prog (TpuEff nD τ sig (Elt F) Λ₀ .tc) PUnit
  | 0, _, _ => pure ⟨⟩
  | n + 1, k, h => do
      f ⟨k, by omega⟩
      seqFrom f n (k + 1) (by omega)

section
variable (i : grid0.Coords)
  (arg2 : Memref sig .tc .vmem S512x16384 .fp8e4m3) (harg2 : arg2.IsWhole)
  (arg3 : Memref sig .tc .vmem S1x1x512 .f32) (harg3 : arg3.IsWhole)
  (arg4 : Memref sig .tc .vmem S16384x512 .fp8e4m3) (harg4 : arg4.IsWhole)
  (arg5 : Memref sig .tc .vmem S1x512 .f32) (harg5 : arg5.IsWhole)
  (arg6 : Memref sig .tc .vmem S512x512 .bf16) (harg6 : arg6.IsWhole)
  (arg7 : Memref sig .tc .vmem S1x512 .bf16) (harg7 : arg7.IsWhole)
  (arg8 : Memref sig .tc .vmem S512x512 .bf16) (harg8 : arg8.IsWhole)
  (arg9 : Memref sig .tc .vmem S512x512 .fp8e4m3) (harg9 : arg9.IsWhole)
  (arg10 : Memref sig .tc .vmem S512x104 .f32) (harg10 : arg10.IsWhole)
  (arg11 : Memref sig .tc .vmem S26x512x512 .bf16) (harg11 : arg11.IsWhole)
  (arg12 : Memref sig .tc .vmem S512x128 .f32) (harg12 : arg12.IsWhole)
  (arg13 : Memref sig .tc .vmem S4x128 .f32) (harg13 : arg13.IsWhole)
  (arg14 : Memref sig .tc .vmem S512x128 .f32) (harg14 : arg14.IsWhole)
  (arg15 : Memref sig .tc .vmem S512x128 .f32) (harg15 : arg15.IsWhole)

/-- One tile of the quantiser: reads a tile of the stored block, writes its codes, updates the strip of scales. -/
def qTile (gam : FVec F S1x512 .f32) (ri : Vec F S32x128 .f32) (s : Fin 16) (g : Fin 4) (sc : FVec F S32x104 .f32) :
    Prog (TpuEff nD τ sig (Elt F) Λ₀ .tc) (FVec F S32x104 .f32) := do
  let h : Vec F S1x32x128 .bf16 ← Prog.lift (.load arg11 (Rect.unit (s := S26x512x512) (hOff i s g) S1x32x128.size (hOff_inb i s g)).toLoadRect (View.loadsAt_vmem h_S1x32x128))
  let _o : Vec F S32x128 .fp8e4m3 ← Prog.lift (.load arg9 (Rect.unit (s := S512x512) ![32 * s.val, 128 * g.val] S32x128.size (tile_inb s g)).toLoadRect (View.loadsAt_vmem h_S32x128))
  Prog.lift (.store arg9 (Rect.unit (s := S512x512) ![32 * s.val, 128 * g.val] S32x128.size (tile_inb s g)) (codesT (normT h ri gam g)) Finset.univ (View.stores_vmem h_S32x128 (harg9.storeExact_slice rfl _ (tile_packed8 s g)) (fun _ => rfl)) (.inl rfl))
  pure (scaleUpd i g (normT h ri gam g) sc)

/-- One strip of the quantiser. -/
def qStrip (gam : FVec F S1x512 .f32) (s : Fin 16) : Prog (TpuEff nD τ sig (Elt F) Λ₀ .tc) PUnit := do
  let ri : Vec F S32x128 .f32 ← Prog.lift (.load arg14 (Rect.unit (s := S512x128) ![32 * s.val, 0] S32x128.size (strip_inb s)).toLoadRect (View.loadsAt_vmem h_S32x128))
  let sc : Vec F S32x104 .f32 ← Prog.lift (.load arg10 (Rect.unit (s := S512x104) ![32 * s.val, 0] S32x104.size (scale_inb s)).toLoadRect (View.loadsAt_vmem h_S32x104))
  let sc0 ← qTile i arg9 harg9 arg11 gam ri s 0 (shapeCast S32x104 sc shapeCasts_S32x104_S32x104)
  let sc1 ← qTile i arg9 harg9 arg11 gam ri s 1 sc0
  let sc2 ← qTile i arg9 harg9 arg11 gam ri s 2 sc1
  let sc3 ← qTile i arg9 harg9 arg11 gam ri s 3 sc2
  let _o : Vec F S32x104 .f32 ← Prog.lift (.load arg10 (Rect.unit (s := S512x104) ![32 * s.val, 0] S32x104.size (scale_inb s)).toLoadRect (View.loadsAt_vmem h_S32x104))
  Prog.lift (.store arg10 (Rect.unit (s := S512x104) ![32 * s.val, 0] S32x104.size (scale_inb s)) sc3 Finset.univ (View.stores_vmem_bits_univ h_S32x104 rfl) (.inl rfl))

/-- One tile of the projection: reads a tile of the residual, writes the tile into the buffer of projected
    blocks and into the result, adds its squares. -/
def hTile (acc : FVec F S512x512 .f32) (ws : FVec F S1x512 .f32) (xs : Vec F S32x128 .f32) (s : Fin 16) (g : Fin 4) (sq : FVec F S32x128 .f32) :
    Prog (TpuEff nD τ sig (Elt F) Λ₀ .tc) (FVec F S32x128 .f32) := do
  let res : Vec F S32x128 .bf16 ← Prog.lift (.load arg6 (Rect.unit (s := S512x512) ![32 * s.val, 128 * g.val] S32x128.size (tile_inb s g)).toLoadRect (View.loadsAt_vmem h_S32x128))
  let _o : Vec F S1x32x128 .bf16 ← Prog.lift (.load arg11 (Rect.unit (s := S26x512x512) (hOff i s g) S1x32x128.size (hOff_inb i s g)).toLoadRect (View.loadsAt_vmem h_S1x32x128))
  Prog.lift (.store arg11 (Rect.unit (s := S26x512x512) (hOff i s g) S1x32x128.size (hOff_inb i s g)) (shapeCast S1x32x128 (hT acc xs ws res s g) shapeCasts_S32x128_S1x32x128) Finset.univ (View.stores_vmem h_S1x32x128 (harg11.storeExact_slice rfl _ (hOff_packed i s g)) (fun _ => rfl)) (.inl rfl))
  let _o : Vec F S32x128 .bf16 ← Prog.lift (.load arg8 (Rect.unit (s := S512x512) ![32 * s.val, 128 * g.val] S32x128.size (tile_inb s g)).toLoadRect (View.loadsAt_vmem h_S32x128))
  Prog.lift (.store arg8 (Rect.unit (s := S512x512) ![32 * s.val, 128 * g.val] S32x128.size (tile_inb s g)) (hT acc xs ws res s g) Finset.univ (View.stores_vmem h_S32x128 (harg8.storeExact_slice rfl _ (tile_packed16 s g)) (fun _ => rfl)) (.inl rfl))
  pure (sqAdd sq (hT acc xs ws res s g))

/-- One strip of the projection. -/
def hStrip (acc : FVec F S512x512 .f32) (ws : FVec F S1x512 .f32) (s : Fin 16) : Prog (TpuEff nD τ sig (Elt F) Λ₀ .tc) PUnit := do
  let xs : Vec F S32x128 .f32 ← Prog.lift (.load arg15 (Rect.unit (s := S512x128) ![32 * s.val, 0] S32x128.size (strip_inb s)).toLoadRect (View.loadsAt_vmem h_S32x128))
  let sq : Vec F S32x128 .f32 ← Prog.lift (.load arg12 (Rect.unit (s := S512x128) ![32 * s.val, 0] S32x128.size (strip_inb s)).toLoadRect (View.loadsAt_vmem h_S32x128))
  let sq0 ← hTile i arg6 arg8 harg8 arg11 harg11 acc ws xs s 0 (Scalar.select (oddBit i) sq (broadcast S32x128 (Scalar.ofBits .f32 0x00000000#32)))
  let sq1 ← hTile i arg6 arg8 harg8 arg11 harg11 acc ws xs s 1 sq0
  let sq2 ← hTile i arg6 arg8 harg8 arg11 harg11 acc ws xs s 2 sq1
  let sq3 ← hTile i arg6 arg8 harg8 arg11 harg11 acc ws xs s 3 sq2
  let _o : Vec F S32x128 .f32 ← Prog.lift (.load arg12 (Rect.unit (s := S512x128) ![32 * s.val, 0] S32x128.size (strip_inb s)).toLoadRect (View.loadsAt_vmem h_S32x128))
  Prog.lift (.store arg12 (Rect.unit (s := S512x128) ![32 * s.val, 0] S32x128.size (strip_inb s)) (shapeCast S32x128 sq3 shapeCasts_S32x128_S32x128) Finset.univ (View.stores_vmem_bits_univ h_S32x128 rfl) (.inl rfl))

/-- One quarter of the row sums. -/
def totQuarter (q : Fin 4) : Prog (TpuEff nD τ sig (Elt F) Λ₀ .tc) PUnit := do
  let v : Vec F S128x128 .f32 ← Prog.lift (.load arg12 (Rect.unit (s := S512x128) ![128 * q.val, 0] S128x128.size (quarter_inb q)).toLoadRect (View.loadsAt_vmem h_S128x128))
  let t : Vec F S1x128 .f32 ← Prog.lift (.load arg13 (Rect.unit (s := S4x128) ![q.val, 0] S1x128.size (row_inb q)).toLoadRect (View.loadsAt_vmem h_S1x128))
  let _o : Vec F S1x128 .f32 ← Prog.lift (.load arg13 (Rect.unit (s := S4x128) ![q.val, 0] S1x128.size (row_inb q)).toLoadRect (View.loadsAt_vmem h_S1x128))
  Prog.lift (.store arg13 (Rect.unit (s := S4x128) ![q.val, 0] S1x128.size (row_inb q)) (totUpd (oddBit i) t v) Finset.univ (View.stores_vmem_bits_univ h_S1x128 rfl) (.inl rfl))

/-- The first step clears the scratch buffers. -/
def clearB : Prog (TpuEff nD τ sig (Elt F) Λ₀ .tc) PUnit := do
  let _o : Vec F S26x512x512 .bf16 ← Prog.lift (.load arg11 (Rect.unit (s := S26x512x512) ![0, 0, 0] S26x512x512.size inb_S26x512x512_S26x512x512_0_0_0).toLoadRect (View.loadsAt_vmem h_S26x512x512))
  Prog.lift (.store arg11 (Rect.unit (s := S26x512x512) ![0, 0, 0] S26x512x512.size inb_S26x512x512_S26x512x512_0_0_0) (shapeCast S26x512x512 (broadcast S26x512x512 (Scalar.ofBits .bf16 0x0000#16)) shapeCasts_S26x512x512_S26x512x512) Finset.univ (View.stores_vmem h_S26x512x512 (harg11.storeExact_slice rfl _ packedbf16_S26x512x512_S26x512x512_0_0_0) (fun _ => rfl)) (.inl rfl))
  let _o : Vec F S4x128 .f32 ← Prog.lift (.load arg13 (Rect.unit (s := S4x128) ![0, 0] S4x128.size inb_S4x128_S4x128_0_0).toLoadRect (View.loadsAt_vmem h_S4x128))
  Prog.lift (.store arg13 (Rect.unit (s := S4x128) ![0, 0] S4x128.size inb_S4x128_S4x128_0_0) (shapeCast S4x128 (broadcast S4x128 (Scalar.ofBits .f32 0x00000000#32)) shapeCasts_S4x128_S4x128) Finset.univ (View.stores_vmem_bits_univ h_S4x128 rfl) (.inl rfl))
  let _o : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (shapeCast S512x128 (broadcast S512x128 (Scalar.ofBits .f32 0x00000000#32)) shapeCasts_S512x128_S512x128) Finset.univ (View.stores_vmem_bits_univ h_S512x128 rfl) (.inl rfl))

/-- One quarter of the inverse root mean squares. -/
def rinvQuarter (tot : Vec F S4x128 .f32) (q : Fin 4) : Prog (TpuEff nD τ sig (Elt F) Λ₀ .tc) PUnit := do
  let _o : Vec F S128x128 .f32 ← Prog.lift (.load arg14 (Rect.unit (s := S512x128) ![128 * q.val, 0] S128x128.size (quarter_inb q)).toLoadRect (View.loadsAt_vmem h_S128x128))
  Prog.lift (.store arg14 (Rect.unit (s := S512x128) ![128 * q.val, 0] S128x128.size (quarter_inb q)) (rinvT tot q) Finset.univ (View.stores_vmem_bits_univ h_S128x128 rfl) (.inl rfl))

/-- The first step of a row of blocks: the inverse root mean squares of the rows before, the row sums cleared, the
    row scales spread. -/
def rowB : Prog (TpuEff nD τ sig (Elt F) Λ₀ .tc) PUnit := do
  let tot : Vec F S4x128 .f32 ← Prog.lift (.load arg13 (Rect.unit (s := S4x128) ![0, 0] S4x128.size inb_S4x128_S4x128_0_0).toLoadRect (View.loadsAt_vmem h_S4x128))
  seqFrom (rinvQuarter arg14 tot) 4 0 rfl
  let _o : Vec F S4x128 .f32 ← Prog.lift (.load arg13 (Rect.unit (s := S4x128) ![0, 0] S4x128.size inb_S4x128_S4x128_0_0).toLoadRect (View.loadsAt_vmem h_S4x128))
  Prog.lift (.store arg13 (Rect.unit (s := S4x128) ![0, 0] S4x128.size inb_S4x128_S4x128_0_0) (shapeCast S4x128 (broadcast S4x128 (Scalar.ofBits .f32 0x00000000#32)) shapeCasts_S4x128_S4x128) Finset.univ (View.stores_vmem_bits_univ h_S4x128 rfl) (.inl rfl))
  let xs : Vec F S1x1x512 .f32 ← Prog.lift (.load arg3 (Rect.unit (s := S1x1x512) ![0, 0, 0] S1x1x512.size inb_S1x1x512_S1x1x512_0_0_0).toLoadRect (View.loadsAt_vmem h_S1x1x512))
  let _o : Vec F S512x128 .f32 ← Prog.lift (.load arg15 (Rect.unit (s := S512x128) ![0, 0] S512x128.size inb_S512x128_S512x128_0_0).toLoadRect (View.loadsAt_vmem h_S512x128))
  Prog.lift (.store arg15 (Rect.unit (s := S512x128) ![0, 0] S512x128.size inb_S512x128_S512x128_0_0) (xsT xs) Finset.univ (View.stores_vmem_bits_univ h_S512x128 rfl) (.inl rfl))

/-- A step that projects: the product, then the quantiser of the rows before, then the projection, then the row sums. -/
def mainB : Prog (TpuEff nD τ sig (Elt F) Λ₀ .tc) PUnit := do
  let x : Vec F S512x16384 .fp8e4m3 ← Prog.lift (.load arg2 (Rect.unit (s := S512x16384) ![0, 0] S512x16384.size inb_S512x16384_S512x16384_0_0).toLoadRect (View.loadsAt_vmem h_S512x16384))
  let w : Vec F S16384x512 .fp8e4m3 ← Prog.lift (.load arg4 (Rect.unit (s := S16384x512) ![0, 0] S16384x512.size inb_S16384x512_S16384x512_0_0).toLoadRect (View.loadsAt_vmem h_S16384x512))
  let gam : Vec F S1x512 .bf16 ← Prog.lift (.load arg7 (Rect.unit (s := S1x512) ![0, 0] S1x512.size inb_S1x512_S1x512_0_0).toLoadRect (View.loadsAt_vmem h_S1x512))
  seqFrom (qStrip i arg9 harg9 arg10 arg11 arg14 (extf .f32 (shapeCast S1x512 gam shapeCasts_S1x512_S1x512) bitsLt_bf16_f32)) 16 0 rfl
  let ws : Vec F S1x512 .f32 ← Prog.lift (.load arg5 (Rect.unit (s := S1x512) ![0, 0] S1x512.size inb_S1x512_S1x512_0_0).toLoadRect (View.loadsAt_vmem h_S1x512))
  seqFrom (hStrip i arg6 arg8 harg8 arg11 harg11 arg12 arg15
    (matmul dot_S512x16384_S16384x512_S512x512_1_0_0_1_n_n none (shapeCast S512x16384 x shapeCasts_S512x16384_S512x16384) w (constant S512x512 .f32 0x00000000#32))
    (shapeCast S1x512 ws shapeCasts_S1x512_S1x512)) 16 0 rfl
  seqFrom (totQuarter i arg12 arg13) 4 0 rfl

/-- A last step, which only quantises. -/
def lastB : Prog (TpuEff nD τ sig (Elt F) Λ₀ .tc) PUnit := do
  let gam : Vec F S1x512 .bf16 ← Prog.lift (.load arg7 (Rect.unit (s := S1x512) ![0, 0] S1x512.size inb_S1x512_S1x512_0_0).toLoadRect (View.loadsAt_vmem h_S1x512))
  seqFrom (qStrip i arg9 harg9 arg10 arg11 arg14 (extf .f32 (shapeCast S1x512 gam shapeCasts_S1x512_S1x512) bitsLt_bf16_f32)) 16 0 rfl

/-- The conditions of the clearing step and of the first step of a row. -/
def cond1 : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
@[inherit_doc cond1] def cond2 : BitVec 1 :=
  Scalar.cmpi .ne (Scalar.extui (Scalar.cmpi .eq (BitVec.ofNat 32 (i 1).val) 0#32) : BitVec 32) 0#32

/-- The body. -/
def body : Prog (TpuEff nD τ sig (Elt F) Λ₀ .tc) PUnit := do
  if cond1 i = 1#1 then clearB arg11 harg11 arg12 arg13 else pure ⟨⟩
  if cond2 i = 1#1 then rowB arg3 arg13 arg14 arg15 else pure ⟨⟩
  if k0_cond3 i = 1#1 then mainB i arg2 arg4 arg5 arg6 arg7 arg8 harg8 arg9 harg9 arg10 arg11 harg11 arg12 arg13 arg14 arg15 else pure ⟨⟩
  if k0_cond4 i = 1#1 then lastB i arg7 arg9 harg9 arg10 arg11 arg14 else pure ⟨⟩
  pure ⟨⟩

end

end Cert.KernelIdeal.Tiles

end
-- ==== Proof.Windows.lean ====
/-
  Vectors changed on part of their indices, and the windows the tiles read.

  A store of a tile puts the tile's values over a window of the buffer. Here such a buffer is written
  with one condition on the index: where it holds the new vector's value, elsewhere the old one's.
-/
module

public import proofs.«01_k».proof.Proof.Tiles
public import Idealize.ShloMosaic.Lib.VecWindow

@[expose] public section

noncomputable section

namespace Cert.KernelIdeal.Tiles

open Idealize.ShloMosaic Idealize.SL.Sem Cert.KernelIdeal.Gen

/-- `x` with `t` in place of it where `P` holds. -/
def ovr {ι α : Type} (P : ι → Prop) [DecidablePred P] (t x : ι → α) : ι → α := fun y => if P y then t y else x y

/-! ## The tile and the place in it of an index -/

/-- The strip of a row. -/
def sOf (r : Fin 512) : Fin 16 := ⟨r.val / 32, by omega⟩
/-- The group of a column. -/
def gOf (r : Fin 512) : Fin 4 := ⟨r.val / 128, by omega⟩

/-- An index of a tile. -/
def tIx (r : Fin 32) (l : Fin 128) : S32x128.Idx := Fin.cases r fun j => Fin.cases l (fun k => k.elim0) j
/-- An index of a block. -/
def bIx (r : Fin 512) (l : Fin 512) : S512x512.Idx := Fin.cases r fun j => Fin.cases l (fun k => k.elim0) j
/-- An index of the buffer of blocks. -/
def hIx (j : Fin 26) (r : Fin 512) (l : Fin 512) : S26x512x512.Idx := Fin.cases j fun a => Fin.cases r (fun b => Fin.cases l (fun k => k.elim0) b) a
/-- An index of a block of one group's width. -/
def lIx (r : Fin 512) (l : Fin 128) : S512x128.Idx := Fin.cases r fun j => Fin.cases l (fun k => k.elim0) j
/-- An index of a strip of scales. -/
def cIx (r : Fin 32) (l : Fin 104) : S32x104.Idx := Fin.cases r fun j => Fin.cases l (fun k => k.elim0) j

/-- Where a block's index lies in its tile. -/
def locB (y : S512x512.Idx) : S32x128.Idx := tIx ⟨(y 0).val % 32, by omega⟩ ⟨(y 1).val % 128, by omega⟩
@[inherit_doc locB] def locL (y : S512x128.Idx) : S32x128.Idx := tIx ⟨(y 0).val % 32, by omega⟩ (y 1)
@[inherit_doc locB] def locC (y : S512x104.Idx) : S32x104.Idx := cIx ⟨(y 0).val % 32, by omega⟩ (y 1)

variable {α : Type}

theorem put_tile (x : S512x512.Idx → α) (s : Fin 16) (g : Fin 4) (w : S32x128.Idx → α) :
    VecWindow.put x ![32 * s.val, 128 * g.val] S32x128.size w
      = ovr (fun y => sOf (y 0) = s ∧ gOf (y 1) = g) (fun y => w (locB y)) x := by
  funext y
  have h0 : (y 0).val < 512 := (y 0).isLt
  have h1 : (y 1).val < 512 := (y 1).isLt
  unfold VecWindow.put ovr
  by_cases h : sOf (y 0) = s ∧ gOf (y 1) = g
  · have e0 : (y 0).val / 32 = s.val := congrArg Fin.val h.1
    have e1 : (y 1).val / 128 = g.val := congrArg Fin.val h.2
    have h' : ∀ a, (![32 * s.val, 128 * g.val] : Fin 2 → ℕ) a ≤ (y a).val ∧ (y a).val < (![32 * s.val, 128 * g.val] : Fin 2 → ℕ) a + S32x128.size a := by
      intro a
      fin_cases a
      · show 32 * s.val ≤ (y 0).val ∧ (y 0).val < 32 * s.val + 32
        omega
      · show 128 * g.val ≤ (y 1).val ∧ (y 1).val < 128 * g.val + 128
        omega
    rw [if_pos h, dif_pos h']
    refine congrArg w (funext fun a => Fin.ext ?_)
    fin_cases a
    · show (y 0).val - 32 * s.val = (y 0).val % 32
      omega
    · show (y 1).val - 128 * g.val = (y 1).val % 128
      omega
  · rw [if_neg h, dif_neg]
    intro h'
    apply h
    have a0 : 32 * s.val ≤ (y 0).val ∧ (y 0).val < 32 * s.val + 32 := h' 0
    have a1 : 128 * g.val ≤ (y 1).val ∧ (y 1).val < 128 * g.val + 128 := h' 1
    constructor
    · exact Fin.ext (show (y 0).val / 32 = s.val by omega)
    · exact Fin.ext (show (y 1).val / 128 = g.val by omega)

theorem put_strip (x : S512x128.Idx → α) (s : Fin 16) (w : S32x128.Idx → α) :
    VecWindow.put x ![32 * s.val, 0] S32x128.size w
      = ovr (fun y => sOf (y 0) = s) (fun y => w (locL y)) x := by
  funext y
  have h0 : (y 0).val < 512 := (y 0).isLt
  have h1 : (y 1).val < 128 := (y 1).isLt
  unfold VecWindow.put ovr
  by_cases h : sOf (y 0) = s
  · have e0 : (y 0).val / 32 = s.val := congrArg Fin.val h
    have h' : ∀ a, (![32 * s.val, 0] : Fin 2 → ℕ) a ≤ (y a).val ∧ (y a).val < (![32 * s.val, 0] : Fin 2 → ℕ) a + S32x128.size a := by
      intro a
      fin_cases a
      · show 32 * s.val ≤ (y 0).val ∧ (y 0).val < 32 * s.val + 32
        omega
      · show 0 ≤ (y 1).val ∧ (y 1).val < 0 + 128
        omega
    rw [if_pos h, dif_pos h']
    refine congrArg w (funext fun a => Fin.ext ?_)
    fin_cases a
    · show (y 0).val - 32 * s.val = (y 0).val % 32
      omega
    · show (y 1).val - 0 = (y 1).val
      omega
  · rw [if_neg h, dif_neg]
    intro h'
    apply h
    have a0 : 32 * s.val ≤ (y 0).val ∧ (y 0).val < 32 * s.val + 32 := h' 0
    exact Fin.ext (show (y 0).val / 32 = s.val by omega)

theorem put_scale (x : S512x104.Idx → α) (s : Fin 16) (w : S32x104.Idx → α) :
    VecWindow.put x ![32 * s.val, 0] S32x104.size w
      = ovr (fun y => sOf (y 0) = s) (fun y => w (locC y)) x := by
  funext y
  have h0 : (y 0).val < 512 := (y 0).isLt
  have h1 : (y 1).val < 104 := (y 1).isLt
  unfold VecWindow.put ovr
  by_cases h : sOf (y 0) = s
  · have e0 : (y 0).val / 32 = s.val := congrArg Fin.val h
    have h' : ∀ a, (![32 * s.val, 0] : Fin 2 → ℕ) a ≤ (y a).val ∧ (y a).val < (![32 * s.val, 0] : Fin 2 → ℕ) a + S32x104.size a := by
      intro a
      fin_cases a
      · show 32 * s.val ≤ (y 0).val ∧ (y 0).val < 32 * s.val + 32
        omega
      · show 0 ≤ (y 1).val ∧ (y 1).val < 0 + 104
        omega
    rw [if_pos h, dif_pos h']
    refine congrArg w (funext fun a => Fin.ext ?_)
    fin_cases a
    · show (y 0).val - 32 * s.val = (y 0).val % 32
      omega
    · show (y 1).val - 0 = (y 1).val
      omega
  · rw [if_neg h, dif_neg]
    intro h'
    apply h
    have a0 : 32 * s.val ≤ (y 0).val ∧ (y 0).val < 32 * s.val + 32 := h' 0
    exact Fin.ext (show (y 0).val / 32 = s.val by omega)

theorem put_h (x : S26x512x512.Idx → α) (j : Fin 26) (s : Fin 16) (g : Fin 4) (w : S1x32x128.Idx → α) (w' : S32x128.Idx → α)
    (hw : ∀ r l, w (Fin.cases (0 : Fin 1) fun a => Fin.cases (r : Fin 32) (fun b => Fin.cases (l : Fin 128) (fun k => k.elim0) b) a) = w' (tIx r l)) :
    VecWindow.put x ![j.val, 32 * s.val, 128 * g.val] S1x32x128.size w
      = ovr (fun z => (z 0).val = j.val ∧ sOf (z 1) = s ∧ gOf (z 2) = g) (fun z => w' (locB (bIx (z 1) (z 2)))) x := by
  funext y
  have hj : (y 0).val < 26 := (y 0).isLt
  have h0 : (y 1).val < 512 := (y 1).isLt
  have h1 : (y 2).val < 512 := (y 2).isLt
  unfold VecWindow.put ovr
  by_cases h : (y 0).val = j.val ∧ sOf (y 1) = s ∧ gOf (y 2) = g
  · have ej : (y 0).val = j.val := h.1
    have e0 : (y 1).val / 32 = s.val := congrArg Fin.val h.2.1
    have e1 : (y 2).val / 128 = g.val := congrArg Fin.val h.2.2
    have h' : ∀ a, (![j.val, 32 * s.val, 128 * g.val] : Fin 3 → ℕ) a ≤ (y a).val ∧ (y a).val < (![j.val, 32 * s.val, 128 * g.val] : Fin 3 → ℕ) a + S1x32x128.size a := by
      intro a
      fin_cases a
      · show j.val ≤ (y 0).val ∧ (y 0).val < j.val + 1
        omega
      · show 32 * s.val ≤ (y 1).val ∧ (y 1).val < 32 * s.val + 32
        omega
      · show 128 * g.val ≤ (y 2).val ∧ (y 2).val < 128 * g.val + 128
        omega
    rw [if_pos h, dif_pos h']
    refine Eq.trans (congrArg w (funext fun a => Fin.ext ?_)) (hw ⟨(y 1).val % 32, by omega⟩ ⟨(y 2).val % 128, by omega⟩)
    fin_cases a
    · show (y 0).val - j.val = 0
      omega
    · show (y 1).val - 32 * s.val = (y 1).val % 32
      omega
    · show (y 2).val - 128 * g.val = (y 2).val % 128
      omega
  · rw [if_neg h, dif_neg]
    intro h'
    apply h
    have aj : j.val ≤ (y 0).val ∧ (y 0).val < j.val + 1 := h' 0
    have a0 : 32 * s.val ≤ (y 1).val ∧ (y 1).val < 32 * s.val + 32 := h' 1
    have a1 : 128 * g.val ≤ (y 2).val ∧ (y 2).val < 128 * g.val + 128 := h' 2
    refine ⟨by omega, ?_, ?_⟩
    · exact Fin.ext (show (y 1).val / 32 = s.val by omega)
    · exact Fin.ext (show (y 2).val / 128 = g.val by omega)

/-! ## The windows read -/

theorem hInb (j : Fin 26) (s : Fin 16) (g : Fin 4) :
    ∀ a, (![j.val, 32 * s.val, 128 * g.val] : Fin 3 → Nat) a + S1x32x128.size a ≤ S26x512x512.size a := by
  intro a
  fin_cases a
  · show j.val + 1 ≤ 26
    omega
  · show 32 * s.val + 32 ≤ 512
    omega
  · show 128 * g.val + 128 ≤ 512
    omega

/-- A tile of block `j` of the buffer of blocks. -/
def winH (x : S26x512x512.Idx → α) (j : Fin 26) (s : Fin 16) (g : Fin 4) : S1x32x128.Idx → α :=
  VecWindow.window x ![j.val, 32 * s.val, 128 * g.val] S1x32x128.size (hInb j s g)
/-- A tile of a block. -/
def winB (x : S512x512.Idx → α) (s : Fin 16) (g : Fin 4) : S32x128.Idx → α :=
  VecWindow.window x ![32 * s.val, 128 * g.val] S32x128.size (tile_inb s g)
/-- A strip. -/
def winL (x : S512x128.Idx → α) (s : Fin 16) : S32x128.Idx → α :=
  VecWindow.window x ![32 * s.val, 0] S32x128.size (strip_inb s)
/-- A strip of scales. -/
def winC (x : S512x104.Idx → α) (s : Fin 16) : S32x104.Idx → α :=
  VecWindow.window x ![32 * s.val, 0] S32x104.size (scale_inb s)
/-- A quarter. -/
def winQ (x : S512x128.Idx → α) (q : Fin 4) : S128x128.Idx → α :=
  VecWindow.window x ![128 * q.val, 0] S128x128.size (quarter_inb q)
/-- A row of sums. -/
def winR (x : S4x128.Idx → α) (q : Fin 4) : S1x128.Idx → α :=
  VecWindow.window x ![q.val, 0] S1x128.size (row_inb q)

/-- Two vectors that agree on a strip have the same window there. -/
theorem winL_congr {x x' : S512x128.Idx → α} {s : Fin 16} (h : ∀ y, sOf (y 0) = s → x y = x' y) : winL x s = winL x' s := by
  funext y
  refine h _ (Fin.ext ?_)
  have h0 : (y 0).val < 32 := (y 0).isLt
  show (32 * s.val + 1 * (y 0).val) / 32 = s.val
  omega
theorem winC_congr {x x' : S512x104.Idx → α} {s : Fin 16} (h : ∀ y, sOf (y 0) = s → x y = x' y) : winC x s = winC x' s := by
  funext y
  refine h _ (Fin.ext ?_)
  have h0 : (y 0).val < 32 := (y 0).isLt
  show (32 * s.val + 1 * (y 0).val) / 32 = s.val
  omega
theorem winR_congr {x x' : S4x128.Idx → α} {q : Fin 4} (h : ∀ y, (y 0).val = q.val → x y = x' y) : winR x q = winR x' q := by
  funext y
  refine h _ ?_
  have h0 : (y 0).val < 1 := (y 0).isLt
  show q.val + 1 * (y 0).val = q.val
  omega

end Cert.KernelIdeal.Tiles

end
-- ==== Proof.TileSpecs.lean ====
/-
  What one tile of each loop does to the buffers: a load reads a window, a store puts one.
-/
module

public import proofs.«01_k».proof.Proof.Windows
public import proofs.«01_k».proof.Proof.Gen.KernelIdeal.Frame

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- A load of a window. -/
theorem load_spec (c : Dev nD) (E : Set ℕ) {s : Shape} {e : EltTy} (m : Memref sig .tc .vmem s e) (hm : m.IsWhole)
    {off off' size : Fin s.rank → ℕ} (inb : ∀ a, off a + size a ≤ s.size a) (h : off = off') (inb' : ∀ a, off' a + size a ≤ s.size a)
    (hl : m.view.LoadsAt (Rect.unit off size inb).toLoadRect)
    (x : Vec F s e) (K : Vec F (Rect.unit off size inb).shape e → sProp 𝕄) :
    iprop(owns (c : Thread nD τ) m fullShare x ∗ (owns (c : Thread nD τ) m fullShare x -∗ K (VecWindow.window x off' size inb')))
    ⊢ wp frame (wpE (defs₀ (F := F)) Variants.none c none) E
        (Prog.lift (.load m (Rect.unit off size inb).toLoadRect hl)) K := by
  have key : View.readAt (Elt F) m.view (Rect.unit off size inb).toLoadRect (hm.unread x) = VecWindow.window x off' size inb' := by
    rw [View.readAt_unit m.view _ inb h inb', hm.read_unread]
  unfold owns
  iintro ⟨⟨%f, %hf, H⟩, Hk⟩
  obtain rfl := hm.eq_unread hf
  sl_exec
  sl_step
  iapply Hk
  iexists _; isplitr; swap; · iexact H
  ipureintro; exact hm.read_unread _

/-- A store of a window. -/
theorem store_spec (c : Dev nD) (E : Set ℕ) {s : Shape} {e : EltTy} (m : Memref sig .tc .vmem s e) (hm : m.IsWhole)
    {off off' size : Fin s.rank → ℕ} (inb : ∀ a, off a + size a ≤ s.size a) (h : off = off')
    (w : Vec F (Rect.unit off size inb).shape e)
    (hx : (m.access (Rect.unit off size inb)).Stores Finset.univ)
    (hM : (Finset.univ : Finset (Rect.unit off size inb).shape.Idx) = Finset.univ ∨ ∀ a, (Rect.unit off size inb).stride a = 1)
    (x : Vec F s e) (K : PUnit → sProp 𝕄) :
    iprop(owns (c : Thread nD τ) m fullShare x ∗ (owns (c : Thread nD τ) m fullShare (VecWindow.put x off' size w) -∗ K ⟨⟩))
    ⊢ wp frame (wpE (defs₀ (F := F)) Variants.none c none) E
        (Prog.lift (.store m (Rect.unit off size inb) w Finset.univ hx hM)) K := by
  unfold owns
  iintro ⟨⟨%f, %hf, H⟩, Hk⟩
  obtain rfl := hm.eq_unread hf
  sl_exec
  sl_step
  iapply Hk
  iexists _; isplitr; swap; · iexact H
  ipureintro
  rw [View.read_writes_cons_put m.view _ inb w [] h, View.writes_nil, hm.read_unread]

/-! ## Tiles and strips -/

/-- A normalised tile, of the buffers' values. -/
def normAt (j : Fin 26) (x14 : Vec F S512x128 .f32) (gam : FVec F S1x512 .f32) (x11 : Vec F S26x512x512 .bf16) (s : Fin 16) (g : Fin 4) :
    FVec F S32x128 .f32 :=
  normT (winH x11 j s g) (winL x14 s) gam g

/-- A strip of scales after the four groups of a column block. -/
def scaleStrip (i : grid0.Coords) (x14 : Vec F S512x128 .f32) (gam : FVec F S1x512 .f32) (x11 : Vec F S26x512x512 .bf16) (s : Fin 16)
    (sc : Vec F S32x104 .f32) : FVec F S32x104 .f32 :=
  scaleUpd i 3 (normAt (i 1) x14 gam x11 s 3) (scaleUpd i 2 (normAt (i 1) x14 gam x11 s 2) (scaleUpd i 1 (normAt (i 1) x14 gam x11 s 1)
    (scaleUpd i 0 (normAt (i 1) x14 gam x11 s 0) (shapeCast S32x104 sc shapeCasts_S32x104_S32x104))))

/-- A block of codes. -/
def codesV (j : Fin 26) (x14 : Vec F S512x128 .f32) (gam : FVec F S1x512 .f32) (x11 : Vec F S26x512x512 .bf16) : Vec F S512x512 .fp8e4m3 :=
  fun y => codesT (normAt j x14 gam x11 (sOf (y 0)) (gOf (y 1))) (locB y)

/-- A block of scales. -/
def scaleV (i : grid0.Coords) (x14 : Vec F S512x128 .f32) (gam : FVec F S1x512 .f32) (x11 : Vec F S26x512x512 .bf16) (x10 : Vec F S512x104 .f32) :
    Vec F S512x104 .f32 :=
  fun y => scaleStrip i x14 gam x11 (sOf (y 0)) (winC x10 (sOf (y 0))) (locC y)

/-- A tile of the projection, of the buffers' values. -/
def hAt (acc : FVec F S512x512 .f32) (ws : FVec F S1x512 .f32) (x15 : Vec F S512x128 .f32) (x6 : Vec F S512x512 .bf16) (s : Fin 16) (g : Fin 4) :
    FVec F S32x128 .bf16 :=
  hT acc (winL x15 s) ws (winB x6 s g) s g

/-- A block of the projection. -/
def hV (acc : FVec F S512x512 .f32) (ws : FVec F S1x512 .f32) (x15 : Vec F S512x128 .f32) (x6 : Vec F S512x512 .bf16) : Vec F S512x512 .bf16 :=
  fun y => hAt acc ws x15 x6 (sOf (y 0)) (gOf (y 1)) (locB y)

/-- A strip of running sums of squares after the four groups of a column block. -/
def sqStrip (i : grid0.Coords) (acc : FVec F S512x512 .f32) (ws : FVec F S1x512 .f32) (x15 : Vec F S512x128 .f32) (x6 : Vec F S512x512 .bf16)
    (s : Fin 16) (sq : Vec F S32x128 .f32) : FVec F S32x128 .f32 :=
  shapeCast S32x128 (sqAdd (sqAdd (sqAdd (sqAdd (Scalar.select (oddBit i) sq (broadcast S32x128 (Scalar.ofBits .f32 0x00000000#32)))
    (hAt acc ws x15 x6 s 0)) (hAt acc ws x15 x6 s 1)) (hAt acc ws x15 x6 s 2)) (hAt acc ws x15 x6 s 3)) shapeCasts_S32x128_S32x128

/-- The running sums of squares of a block. -/
def sqV (i : grid0.Coords) (acc : FVec F S512x512 .f32) (ws : FVec F S1x512 .f32) (x15 : Vec F S512x128 .f32) (x6 : Vec F S512x512 .bf16)
    (x12 : Vec F S512x128 .f32) : Vec F S512x128 .f32 :=
  fun y => sqStrip i acc ws x15 x6 (sOf (y 0)) (winL x12 (sOf (y 0))) (locL y)

theorem qTile_spec (c : Dev nD) (E : Set ℕ) (i : grid0.Coords)
    (arg9 : Memref sig .tc .vmem S512x512 .fp8e4m3) (harg9 : arg9.IsWhole)
    (arg11 : Memref sig .tc .vmem S26x512x512 .bf16) (harg11 : arg11.IsWhole)
    (gam : FVec F S1x512 .f32) (ri : Vec F S32x128 .f32) (s : Fin 16) (g : Fin 4) (sc : FVec F S32x104 .f32)
    (x9 : Vec F S512x512 .fp8e4m3) (x11 : Vec F S26x512x512 .bf16) (K : FVec F S32x104 .f32 → sProp 𝕄) :
    iprop(owns (c : Thread nD τ) arg9 fullShare x9 ∗ owns (c : Thread nD τ) arg11 fullShare x11
      ∗ (iprop(owns (c : Thread nD τ) arg9 fullShare (VecWindow.put x9 ![32 * s.val, 128 * g.val] S32x128.size (codesT (normT (winH x11 (i 1) s g) ri gam g)))
          ∗ owns (c : Thread nD τ) arg11 fullShare x11) -∗ K (scaleUpd i g (normT (winH x11 (i 1) s g) ri gam g) sc)))
    ⊢ wp frame (wpE (defs₀ (F := F)) Variants.none c none) E (qTile i arg9 harg9 arg11 gam ri s g sc) K := by
  unfold qTile winH
  rw [wp_bind]
  iintro ⟨H9, H11, Hk⟩
  iapply (load_spec c E arg11 harg11 (hOff_inb i s g) (hOff_eq i s g) (hInb (i 1) s g) _ x11 _)
  isplitl [H11]; · iexact H11
  iintro H11
  rw [wp_bind]
  iapply (load_spec c E arg9 harg9 (tile_inb s g) rfl (tile_inb s g) _ x9 _)
  isplitl [H9]; · iexact H9
  iintro H9
  rw [wp_bind]
  iapply (store_spec c E arg9 harg9 (tile_inb s g) rfl _ _ _ x9 _)
  isplitl [H9]; · iexact H9
  iintro H9
  sl_step
  iapply Hk
  isplitl [H9]; · iexact H9
  iexact H11

/-- What a strip of the quantiser leaves in the block of codes. -/
def codesPut (j : Fin 26) (x14 : Vec F S512x128 .f32) (gam : FVec F S1x512 .f32) (x11 : Vec F S26x512x512 .bf16) (s : Fin 16)
    (x9 : Vec F S512x512 .fp8e4m3) : Vec F S512x512 .fp8e4m3 :=
  VecWindow.put (VecWindow.put (VecWindow.put (VecWindow.put x9
    ![32 * s.val, 128 * (0 : Fin 4).val] S32x128.size (codesT (normAt j x14 gam x11 s 0)))
    ![32 * s.val, 128 * (1 : Fin 4).val] S32x128.size (codesT (normAt j x14 gam x11 s 1)))
    ![32 * s.val, 128 * (2 : Fin 4).val] S32x128.size (codesT (normAt j x14 gam x11 s 2)))
    ![32 * s.val, 128 * (3 : Fin 4).val] S32x128.size (codesT (normAt j x14 gam x11 s 3))

theorem qStrip_spec (c : Dev nD) (E : Set ℕ) (i : grid0.Coords)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (gam : FVec F S1x512 .f32) (s : Fin 16)
    (x9 : Vec F S512x512 .fp8e4m3) (x10 : Vec F S512x104 .f32) (x11 : Vec F S26x512x512 .bf16) (x14 : Vec F S512x128 .f32) (K : PUnit → sProp 𝕄) :
    iprop(owns (c : Thread nD τ) arg9 fullShare x9 ∗ owns (c : Thread nD τ) arg10 fullShare x10
      ∗ owns (c : Thread nD τ) arg11 fullShare x11 ∗ owns (c : Thread nD τ) arg14 fullShare x14
      ∗ (iprop(owns (c : Thread nD τ) arg9 fullShare (codesPut (i 1) x14 gam x11 s x9)
          ∗ owns (c : Thread nD τ) arg10 fullShare (VecWindow.put x10 ![32 * s.val, 0] S32x104.size (scaleStrip i x14 gam x11 s (winC x10 s)))
          ∗ owns (c : Thread nD τ) arg11 fullShare x11 ∗ owns (c : Thread nD τ) arg14 fullShare x14) -∗ K ⟨⟩))
    ⊢ wp frame (wpE (defs₀ (F := F)) Variants.none c none) E (qStrip i arg9 harg9 arg10 arg11 arg14 gam s) K := by
  unfold qStrip
  rw [wp_bind]
  iintro ⟨H9, H10, H11, H14, Hk⟩
  iapply (load_spec c E arg14 harg14 (strip_inb s) rfl (strip_inb s) _ x14 _)
  isplitl [H14]; · iexact H14
  iintro H14
  rw [wp_bind]
  iapply (load_spec c E arg10 harg10 (scale_inb s) rfl (scale_inb s) _ x10 _)
  isplitl [H10]; · iexact H10
  iintro H10
  rw [wp_bind]
  iapply (qTile_spec c E i arg9 harg9 arg11 harg11 gam _ s 0 _ _ x11 _)
  isplitl [H9]; · iexact H9
  isplitl [H11]; · iexact H11
  iintro ⟨H9, H11⟩
  rw [wp_bind]
  iapply (qTile_spec c E i arg9 harg9 arg11 harg11 gam _ s 1 _ _ x11 _)
  isplitl [H9]; · iexact H9
  isplitl [H11]; · iexact H11
  iintro ⟨H9, H11⟩
  rw [wp_bind]
  iapply (qTile_spec c E i arg9 harg9 arg11 harg11 gam _ s 2 _ _ x11 _)
  isplitl [H9]; · iexact H9
  isplitl [H11]; · iexact H11
  iintro ⟨H9, H11⟩
  rw [wp_bind]
  iapply (qTile_spec c E i arg9 harg9 arg11 harg11 gam _ s 3 _ _ x11 _)
  isplitl [H9]; · iexact H9
  isplitl [H11]; · iexact H11
  iintro ⟨H9, H11⟩
  rw [wp_bind]
  iapply (load_spec c E arg10 harg10 (scale_inb s) rfl (scale_inb s) _ x10 _)
  isplitl [H10]; · iexact H10
  iintro H10
  iapply (store_spec c E arg10 harg10 (scale_inb s) rfl _ _ _ x10 _)
  isplitl [H10]; · iexact H10
  iintro H10
  iapply Hk
  isplitl [H9]; · iexact H9
  isplitl [H10]; · iexact H10
  isplitl [H11]; · iexact H11
  iexact H14

theorem hTile_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (acc : FVec F S512x512 .f32) (ws : FVec F S1x512 .f32) (xs : Vec F S32x128 .f32) (s : Fin 16) (g : Fin 4) (sq : FVec F S32x128 .f32)
    (x6 : Vec F S512x512 .bf16) (x8 : Vec F S512x512 .bf16) (x11 : Vec F S26x512x512 .bf16) (K : FVec F S32x128 .f32 → sProp 𝕄) :
    iprop(owns (c : Thread nD τ) arg6 fullShare x6 ∗ owns (c : Thread nD τ) arg8 fullShare x8 ∗ owns (c : Thread nD τ) arg11 fullShare x11
      ∗ (iprop(owns (c : Thread nD τ) arg6 fullShare x6
          ∗ owns (c : Thread nD τ) arg8 fullShare (VecWindow.put x8 ![32 * s.val, 128 * g.val] S32x128.size (hT acc xs ws (winB x6 s g) s g))
          ∗ owns (c : Thread nD τ) arg11 fullShare (VecWindow.put x11 ![(i 1).val, 32 * s.val, 128 * g.val] S1x32x128.size
              (shapeCast S1x32x128 (hT acc xs ws (winB x6 s g) s g) shapeCasts_S32x128_S1x32x128)))
        -∗ K (sqAdd sq (hT acc xs ws (winB x6 s g) s g))))
    ⊢ wp frame (wpE (defs₀ (F := F)) Variants.none c none) E (hTile i arg6 arg8 harg8 arg11 harg11 acc ws xs s g sq) K := by
  unfold hTile winB
  rw [wp_bind]
  iintro ⟨H6, H8, H11, Hk⟩
  iapply (load_spec c E arg6 harg6 (tile_inb s g) rfl (tile_inb s g) _ x6 _)
  isplitl [H6]; · iexact H6
  iintro H6
  rw [wp_bind]
  iapply (load_spec c E arg11 harg11 (hOff_inb i s g) (hOff_eq i s g) (hInb (i 1) s g) _ x11 _)
  isplitl [H11]; · iexact H11
  iintro H11
  rw [wp_bind]
  iapply (store_spec c E arg11 harg11 (hOff_inb i s g) (hOff_eq i s g) _ _ _ x11 _)
  isplitl [H11]; · iexact H11
  iintro H11
  rw [wp_bind]
  iapply (load_spec c E arg8 harg8 (tile_inb s g) rfl (tile_inb s g) _ x8 _)
  isplitl [H8]; · iexact H8
  iintro H8
  rw [wp_bind]
  iapply (store_spec c E arg8 harg8 (tile_inb s g) rfl _ _ _ x8 _)
  isplitl [H8]; · iexact H8
  iintro H8
  sl_step
  iapply Hk
  isplitl [H6]; · iexact H6
  isplitl [H8]; · iexact H8
  iexact H11

/-- What a strip of the projection leaves in the result's block. -/
def hPut (acc : FVec F S512x512 .f32) (ws : FVec F S1x512 .f32) (x15 : Vec F S512x128 .f32) (x6 : Vec F S512x512 .bf16) (s : Fin 16)
    (x8 : Vec F S512x512 .bf16) : Vec F S512x512 .bf16 :=
  VecWindow.put (VecWindow.put (VecWindow.put (VecWindow.put x8
    ![32 * s.val, 128 * (0 : Fin 4).val] S32x128.size (hAt acc ws x15 x6 s 0))
    ![32 * s.val, 128 * (1 : Fin 4).val] S32x128.size (hAt acc ws x15 x6 s 1))
    ![32 * s.val, 128 * (2 : Fin 4).val] S32x128.size (hAt acc ws x15 x6 s 2))
    ![32 * s.val, 128 * (3 : Fin 4).val] S32x128.size (hAt acc ws x15 x6 s 3)

/-- What a strip of the projection leaves in the buffer of blocks. -/
def hbPut (i : grid0.Coords) (acc : FVec F S512x512 .f32) (ws : FVec F S1x512 .f32) (x15 : Vec F S512x128 .f32) (x6 : Vec F S512x512 .bf16) (s : Fin 16)
    (x11 : Vec F S26x512x512 .bf16) : Vec F S26x512x512 .bf16 :=
  VecWindow.put (VecWindow.put (VecWindow.put (VecWindow.put x11
    ![(i 1).val, 32 * s.val, 128 * (0 : Fin 4).val] S1x32x128.size (shapeCast S1x32x128 (hAt acc ws x15 x6 s 0) shapeCasts_S32x128_S1x32x128))
    ![(i 1).val, 32 * s.val, 128 * (1 : Fin 4).val] S1x32x128.size (shapeCast S1x32x128 (hAt acc ws x15 x6 s 1) shapeCasts_S32x128_S1x32x128))
    ![(i 1).val, 32 * s.val, 128 * (2 : Fin 4).val] S1x32x128.size (shapeCast S1x32x128 (hAt acc ws x15 x6 s 2) shapeCasts_S32x128_S1x32x128))
    ![(i 1).val, 32 * s.val, 128 * (3 : Fin 4).val] S1x32x128.size (shapeCast S1x32x128 (hAt acc ws x15 x6 s 3) shapeCasts_S32x128_S1x32x128)

theorem hStrip_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (arg12 : Memref sig .tc .vmem S512x128 .f32) (harg12 : arg12.IsWhole)
    (arg15 : Memref sig .tc .vmem S512x128 .f32) (harg15 : arg15.IsWhole)
    (acc : FVec F S512x512 .f32) (ws : FVec F S1x512 .f32) (s : Fin 16)
    (x6 : Vec F S512x512 .bf16) (x8 : Vec F S512x512 .bf16) (x11 : Vec F S26x512x512 .bf16) (x12 x15 : Vec F S512x128 .f32) (K : PUnit → sProp 𝕄) :
    iprop(owns (c : Thread nD τ) arg6 fullShare x6 ∗ owns (c : Thread nD τ) arg8 fullShare x8 ∗ owns (c : Thread nD τ) arg11 fullShare x11
      ∗ owns (c : Thread nD τ) arg12 fullShare x12 ∗ owns (c : Thread nD τ) arg15 fullShare x15
      ∗ (iprop(owns (c : Thread nD τ) arg6 fullShare x6 ∗ owns (c : Thread nD τ) arg8 fullShare (hPut acc ws x15 x6 s x8)
          ∗ owns (c : Thread nD τ) arg11 fullShare (hbPut i acc ws x15 x6 s x11)
          ∗ owns (c : Thread nD τ) arg12 fullShare (VecWindow.put x12 ![32 * s.val, 0] S32x128.size (sqStrip i acc ws x15 x6 s (winL x12 s)))
          ∗ owns (c : Thread nD τ) arg15 fullShare x15) -∗ K ⟨⟩))
    ⊢ wp frame (wpE (defs₀ (F := F)) Variants.none c none) E (hStrip i arg6 arg8 harg8 arg11 harg11 arg12 arg15 acc ws s) K := by
  unfold hStrip
  rw [wp_bind]
  iintro ⟨H6, H8, H11, H12, H15, Hk⟩
  iapply (load_spec c E arg15 harg15 (strip_inb s) rfl (strip_inb s) _ x15 _)
  isplitl [H15]; · iexact H15
  iintro H15
  rw [wp_bind]
  iapply (load_spec c E arg12 harg12 (strip_inb s) rfl (strip_inb s) _ x12 _)
  isplitl [H12]; · iexact H12
  iintro H12
  rw [wp_bind]
  iapply (hTile_spec c E i arg6 harg6 arg8 harg8 arg11 harg11 acc ws _ s 0 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 1 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 2 _ x6 _ _ _)
  isplitl [H6]; · iexact H6
  isplitl [H8]; · iexact H8
  isplitl [H11]; · iexact H11
  iintro ⟨H6, H8, H11⟩
  rw [wp_bind]
  iapply (hTile_spec c E i arg6 harg6 arg8 harg8 arg11 harg11 acc ws _ s 3 _ x6 _ _ _)
  isplitl [H6]; · iexact H6
  isplitl [H8]; · iexact H8
  isplitl [H11]; · iexact H11
  iintro ⟨H6, H8, H11⟩
  rw [wp_bind]
  iapply (load_spec c E arg12 harg12 (strip_inb s) rfl (strip_inb s) _ x12 _)
  isplitl [H12]; · iexact H12
  iintro H12
  iapply (store_spec c E arg12 harg12 (strip_inb s) rfl _ _ _ x12 _)
  isplitl [H12]; · iexact H12
  iintro H12
  iapply Hk
  isplitl [H6]; · iexact H6
  isplitl [H8]; · iexact H8
  isplitl [H11]; · iexact H11
  isplitl [H12]; · iexact H12
  iexact H15

theorem totQuarter_spec (c : Dev nD) (E : Set ℕ) (i : grid0.Coords)
    (arg12 : Memref sig .tc .vmem S512x128 .f32) (harg12 : arg12.IsWhole)
    (arg13 : Memref sig .tc .vmem S4x128 .f32) (harg13 : arg13.IsWhole) (q : Fin 4)
    (x12 : Vec F S512x128 .f32) (x13 : Vec F S4x128 .f32) (K : PUnit → sProp 𝕄) :
    iprop(owns (c : Thread nD τ) arg12 fullShare x12 ∗ owns (c : Thread nD τ) arg13 fullShare x13
      ∗ (iprop(owns (c : Thread nD τ) arg12 fullShare x12
          ∗ owns (c : Thread nD τ) arg13 fullShare (VecWindow.put x13 ![q.val, 0] S1x128.size (totUpd (oddBit i) (winR x13 q) (winQ x12 q)))) -∗ K ⟨⟩))
    ⊢ wp frame (wpE (defs₀ (F := F)) Variants.none c none) E (totQuarter i arg12 arg13 q) K := by
  unfold totQuarter
  rw [wp_bind]
  iintro ⟨H12, H13, Hk⟩
  iapply (load_spec c E arg12 harg12 (quarter_inb q) rfl (quarter_inb q) _ x12 _)
  isplitl [H12]; · iexact H12
  iintro H12
  rw [wp_bind]
  iapply (load_spec c E arg13 harg13 (row_inb q) rfl (row_inb q) _ x13 _)
  isplitl [H13]; · iexact H13
  iintro H13
  rw [wp_bind]
  iapply (load_spec c E arg13 harg13 (row_inb q) rfl (row_inb q) _ x13 _)
  isplitl [H13]; · iexact H13
  iintro H13
  iapply (store_spec c E arg13 harg13 (row_inb q) rfl _ _ _ x13 _)
  isplitl [H13]; · iexact H13
  iintro H13
  iapply Hk
  isplitl [H12]; · iexact H12
  iexact H13

theorem rinvQuarter_spec (c : Dev nD) (E : Set ℕ)
    (arg14 : Memref sig .tc .vmem S512x128 .f32) (harg14 : arg14.IsWhole) (tot : Vec F S4x128 .f32) (q : Fin 4)
    (x14 : Vec F S512x128 .f32) (K : PUnit → sProp 𝕄) :
    iprop(owns (c : Thread nD τ) arg14 fullShare x14
      ∗ (owns (c : Thread nD τ) arg14 fullShare (VecWindow.put x14 ![128 * q.val, 0] S128x128.size (rinvT tot q)) -∗ K ⟨⟩))
    ⊢ wp frame (wpE (defs₀ (F := F)) Variants.none c none) E (rinvQuarter arg14 tot q) K := by
  unfold rinvQuarter
  rw [wp_bind]
  iintro ⟨H14, Hk⟩
  iapply (load_spec c E arg14 harg14 (quarter_inb q) rfl (quarter_inb q) _ x14 _)
  isplitl [H14]; · iexact H14
  iintro H14
  iapply (store_spec c E arg14 harg14 (quarter_inb q) rfl _ _ _ x14 _)
  isplitl [H14]; · iexact H14
  iintro H14
  iapply Hk
  iexact H14

/-- A sequence of steps, by an assertion that each step moves one further. -/
theorem seq_spec (c : Dev nD) (E : Set ℕ) {N : ℕ} (f : Fin N → Prog (TpuEff nD τ sig (Elt F) Λ₀ .tc) PUnit) (I : ℕ → sProp 𝕄)
    (hf : ∀ (k : Fin N) (K : PUnit → sProp 𝕄), iprop(I k.val ∗ (I (k.val + 1) -∗ K ⟨⟩)) ⊢ wp frame (wpE (defs₀ (F := F)) Variants.none c none) E (f k) K) :
    ∀ (n k : ℕ) (h : n + k = N) (K : PUnit → sProp 𝕄),
      iprop(I k ∗ (I N -∗ K ⟨⟩)) ⊢ wp frame (wpE (defs₀ (F := F)) Variants.none c none) E (seqFrom f n k h) K
  | 0, k, h, K => by
    obtain rfl : k = N := by omega
    unfold seqFrom
    iintro ⟨H, Hk⟩
    sl_step
    iapply Hk
    iexact H
  | n + 1, k, h, K => by
    unfold seqFrom
    rw [wp_bind]
    iintro ⟨H, Hk⟩
    have hk : k < N := by omega
    have hk' : n + (k + 1) = N := by omega
    iapply (hf ⟨k, hk⟩ _)
    isplitl [H]; · iexact H
    iintro H
    iapply (seq_spec c E f I hf n (k + 1) hk' K)
    isplitl [H]; · iexact H
    iexact Hk

end Cert.KernelIdeal.Tiles

end
-- ==== Proof.BlockSpecs.lean ====
/-
  What the loops and the four parts of the body do to the buffers.
-/
module

public import proofs.«01_k».proof.Proof.TileSpecs
public import Idealize.ShloMosaic.Lib.Pipeline.Value

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The vectors while a loop runs -/

theorem four {α : Type} {P S : Prop} [Decidable P] [Decidable S] {g : Fin 4} (t : Fin 4 → α) (z : α) :
    (if P ∧ S ∧ g = 3 then t 3 else if P ∧ S ∧ g = 2 then t 2 else if P ∧ S ∧ g = 1 then t 1 else if P ∧ S ∧ g = 0 then t 0 else z)
      = if P ∧ S then t g else z := by
  by_cases hP : P
  · by_cases hS : S
    · fin_cases g <;> simp [hP, hS]
    · simp [hS]
  · simp [hP]

theorem next {α : Type} {P S : Prop} [Decidable P] [Decidable S] {k s : ℕ} (hS : S ↔ k = s) {a b z : α} (h : S → a = b) :
    (if P ∧ S then a else if P ∧ k < s then b else z) = if P ∧ k < s + 1 then b else z := by
  by_cases hP : P
  · by_cases hs : S
    · have := hS.1 hs
      simp only [hP, hs, true_and, if_true, if_pos (show k < s + 1 by omega), h hs]
    · have hne : k ≠ s := fun e => hs (hS.2 e)
      by_cases hk : k < s
      · simp only [hP, hs, true_and, if_false, if_pos hk, if_pos (show k < s + 1 by omega)]
      · simp only [hP, hs, true_and, if_false, if_neg hk, if_neg (show ¬ k < s + 1 by omega)]
  · simp [hP]

theorem four' {α : Type} {S : Prop} [Decidable S] {g : Fin 4} (t : Fin 4 → α) (z : α) :
    (if S ∧ g = 3 then t 3 else if S ∧ g = 2 then t 2 else if S ∧ g = 1 then t 1 else if S ∧ g = 0 then t 0 else z)
      = if S then t g else z := by
  by_cases hS : S
  · fin_cases g <;> simp [hS]
  · simp [hS]

theorem next' {α : Type} {S : Prop} [Decidable S] {k s : ℕ} (hS : S ↔ k = s) {a b z : α} (h : S → a = b) :
    (if S then a else if k < s then b else z) = if k < s + 1 then b else z := by
  by_cases hs : S
  · have := hS.1 hs
    simp only [hs, if_true, if_pos (show k < s + 1 by omega), h hs]
  · have hne : k ≠ s := fun e => hs (hS.2 e)
    by_cases hk : k < s
    · simp only [hs, if_false, if_pos hk, if_pos (show k < s + 1 by omega)]
    · simp only [hs, if_false, if_neg hk, if_neg (show ¬ k < s + 1 by omega)]

theorem sOf_iff {r : Fin 512} {s : Fin 16} : sOf r = s ↔ (sOf r).val = s.val := ⟨fun h => congrArg Fin.val h, fun h => Fin.ext h⟩

theorem codes_step (j : Fin 26) (x14 : Vec F S512x128 .f32) (gam : FVec F S1x512 .f32) (x11 : Vec F S26x512x512 .bf16) (s : Fin 16)
    (x9 : Vec F S512x512 .fp8e4m3) :
    codesPut j x14 gam x11 s (ovr (fun y => (sOf (y 0)).val < s.val) (codesV j x14 gam x11) x9)
      = ovr (fun y => (sOf (y 0)).val < s.val + 1) (codesV j x14 gam x11) x9 := by
  unfold codesPut
  rw [put_tile, put_tile, put_tile, put_tile]
  funext y
  refine (four' (S := sOf (y 0) = s) (g := gOf (y 1)) (fun g => codesT (normAt j x14 gam x11 s g) (locB y)) _).trans ?_
  refine next' (k := (sOf (y 0)).val) (s := s.val) sOf_iff ?_
  rintro rfl
  rfl

theorem scale_step (i : grid0.Coords) (x14 : Vec F S512x128 .f32) (gam : FVec F S1x512 .f32) (x11 : Vec F S26x512x512 .bf16) (s : Fin 16)
    (x10 : Vec F S512x104 .f32) :
    VecWindow.put (ovr (fun y => (sOf (y 0)).val < s.val) (scaleV i x14 gam x11 x10) x10) ![32 * s.val, 0] S32x104.size
        (scaleStrip i x14 gam x11 s (winC (ovr (fun y => (sOf (y 0)).val < s.val) (scaleV i x14 gam x11 x10) x10) s))
      = ovr (fun y => (sOf (y 0)).val < s.val + 1) (scaleV i x14 gam x11 x10) x10 := by
  have e : winC (ovr (fun y => (sOf (y 0)).val < s.val) (scaleV i x14 gam x11 x10) x10) s = winC x10 s := by
    refine winC_congr fun y hy => if_neg ?_
    have := congrArg Fin.val hy
    show ¬ (sOf (y 0)).val < s.val
    omega
  rw [e, put_scale]
  funext y
  refine next' (k := (sOf (y 0)).val) (s := s.val) sOf_iff ?_
  rintro rfl
  rfl

theorem h_step (acc : FVec F S512x512 .f32) (ws : FVec F S1x512 .f32) (x15 : Vec F S512x128 .f32) (x6 : Vec F S512x512 .bf16) (s : Fin 16)
    (x8 : Vec F S512x512 .bf16) :
    hPut acc ws x15 x6 s (ovr (fun y => (sOf (y 0)).val < s.val) (hV acc ws x15 x6) x8)
      = ovr (fun y => (sOf (y 0)).val < s.val + 1) (hV acc ws x15 x6) x8 := by
  unfold hPut
  rw [put_tile, put_tile, put_tile, put_tile]
  funext y
  refine (four' (S := sOf (y 0) = s) (g := gOf (y 1)) (fun g => hAt acc ws x15 x6 s g (locB y)) _).trans ?_
  refine next' (k := (sOf (y 0)).val) (s := s.val) sOf_iff ?_
  rintro rfl
  rfl

/-- Block `j` of the buffer of blocks replaced. -/
def hbV (j : Fin 26) (h : Vec F S512x512 .bf16) (x11 : Vec F S26x512x512 .bf16) : Vec F S26x512x512 .bf16 :=
  ovr (fun z => (z 0).val = j.val) (fun z => h (bIx (z 1) (z 2))) x11

theorem cast_tile (w : S32x128.Idx → F .bf16) (r : Fin 32) (l : Fin 128) :
    shapeCast S1x32x128 w shapeCasts_S32x128_S1x32x128
      (Fin.cases (0 : Fin 1) fun a => Fin.cases (r : Fin 32) (fun b => Fin.cases (l : Fin 128) (fun k => k.elim0) b) a) = w (tIx r l) :=
  (shapeCast_addUnit_apply ![32, 128] w shapeCasts_S32x128_S1x32x128 _).trans (congrArg w (funext fun a => by fin_cases a <;> rfl))

theorem hb_step (i : grid0.Coords) (acc : FVec F S512x512 .f32) (ws : FVec F S1x512 .f32) (x15 : Vec F S512x128 .f32) (x6 : Vec F S512x512 .bf16) (s : Fin 16)
    (x11 : Vec F S26x512x512 .bf16) :
    hbPut i acc ws x15 x6 s (ovr (fun z => (z 0).val = (i 1).val ∧ (sOf (z 1)).val < s.val) (fun z => hV acc ws x15 x6 (bIx (z 1) (z 2))) x11)
      = ovr (fun z => (z 0).val = (i 1).val ∧ (sOf (z 1)).val < s.val + 1) (fun z => hV acc ws x15 x6 (bIx (z 1) (z 2))) x11 := by
  unfold hbPut
  rw [put_h _ (i 1) s 0 _ _ (cast_tile _), put_h _ (i 1) s 1 _ _ (cast_tile _), put_h _ (i 1) s 2 _ _ (cast_tile _), put_h _ (i 1) s 3 _ _ (cast_tile _)]
  funext y
  refine (four (P := (y 0).val = (i 1).val) (S := sOf (y 1) = s) (g := gOf (y 2)) (fun g => hAt acc ws x15 x6 s g (locB (bIx (y 1) (y 2)))) _).trans ?_
  refine next (P := (y 0).val = (i 1).val) (k := (sOf (y 1)).val) (s := s.val) ⟨fun h => congrArg Fin.val h, fun h => Fin.ext h⟩ ?_
  rintro rfl
  rfl

theorem sq_step (i : grid0.Coords) (acc : FVec F S512x512 .f32) (ws : FVec F S1x512 .f32) (x15 : Vec F S512x128 .f32) (x6 : Vec F S512x512 .bf16) (s : Fin 16)
    (x12 : Vec F S512x128 .f32) :
    VecWindow.put (ovr (fun y => (sOf (y 0)).val < s.val) (sqV i acc ws x15 x6 x12) x12) ![32 * s.val, 0] S32x128.size
        (sqStrip i acc ws x15 x6 s (winL (ovr (fun y => (sOf (y 0)).val < s.val) (sqV i acc ws x15 x6 x12) x12) s))
      = ovr (fun y => (sOf (y 0)).val < s.val + 1) (sqV i acc ws x15 x6 x12) x12 := by
  have e : winL (ovr (fun y => (sOf (y 0)).val < s.val) (sqV i acc ws x15 x6 x12) x12) s = winL x12 s := by
    refine winL_congr fun y hy => if_neg ?_
    have := congrArg Fin.val hy
    show ¬ (sOf (y 0)).val < s.val
    omega
  rw [e, put_strip]
  funext y
  refine next' (k := (sOf (y 0)).val) (s := s.val) sOf_iff ?_
  rintro rfl
  rfl

theorem ovr_none {ι α : Type} (P : ι → Prop) [DecidablePred P] (t x : ι → α) (h : ∀ y, ¬ P y) : ovr P t x = x := funext fun y => if_neg (h y)
theorem ovr_all {ι α : Type} (P : ι → Prop) [DecidablePred P] (t x : ι → α) (h : ∀ y, P y) : ovr P t x = t := funext fun y => if_pos (h y)

/-- The strips of the quantiser, all sixteen. -/
theorem quant_spec (c : Dev nD) (E : Set ℕ) (i : grid0.Coords)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (gam : FVec F S1x512 .f32)
    (x9 : Vec F S512x512 .fp8e4m3) (x10 : Vec F S512x104 .f32) (x11 : Vec F S26x512x512 .bf16) (x14 : Vec F S512x128 .f32) (K : PUnit → sProp 𝕄) :
    iprop((owns (c : Thread nD τ) arg9 fullShare x9 ∗ owns (c : Thread nD τ) arg10 fullShare x10
      ∗ owns (c : Thread nD τ) arg11 fullShare x11 ∗ owns (c : Thread nD τ) arg14 fullShare x14)
      ∗ (iprop(owns (c : Thread nD τ) arg9 fullShare (codesV (i 1) x14 gam x11)
          ∗ owns (c : Thread nD τ) arg10 fullShare (scaleV i x14 gam x11 x10)
          ∗ owns (c : Thread nD τ) arg11 fullShare x11 ∗ owns (c : Thread nD τ) arg14 fullShare x14) -∗ K ⟨⟩))
    ⊢ wp frame (wpE (defs₀ (F := F)) Variants.none c none) E (seqFrom (qStrip i arg9 harg9 arg10 arg11 arg14 gam) 16 0 rfl) K := by
  have h := seq_spec c E (qStrip i arg9 harg9 arg10 arg11 arg14 gam)
    (fun k => iprop(owns (c : Thread nD τ) arg9 fullShare (ovr (fun y => (sOf (y 0)).val < k) (codesV (i 1) x14 gam x11) x9)
      ∗ owns (c : Thread nD τ) arg10 fullShare (ovr (fun y => (sOf (y 0)).val < k) (scaleV i x14 gam x11 x10) x10)
      ∗ owns (c : Thread nD τ) arg11 fullShare x11 ∗ owns (c : Thread nD τ) arg14 fullShare x14))
    (fun s K => by
      have hs := qStrip_spec c E i arg9 harg9 arg10 harg10 arg11 harg11 arg14 harg14 gam s
        (ovr (fun y => (sOf (y 0)).val < s.val) (codesV (i 1) x14 gam x11) x9) (ovr (fun y => (sOf (y 0)).val < s.val) (scaleV i x14 gam x11 x10) x10) x11 x14 K
      rw [codes_step (i 1) x14 gam x11 s x9, scale_step i x14 gam x11 s x10] at hs
      iintro ⟨⟨H9, H10, H11, H14⟩, Hk⟩
      iapply hs
      isplitl [H9]; · iexact H9
      isplitl [H10]; · iexact H10
      isplitl [H11]; · iexact H11
      isplitl [H14]; · iexact H14
      iexact Hk) 16 0 rfl K
  rw [ovr_none _ _ x9 (fun y => Nat.not_lt_zero _), ovr_none _ _ x10 (fun y => Nat.not_lt_zero _),
    ovr_all _ _ x9 (fun y => (sOf (y 0)).isLt), ovr_all _ _ x10 (fun y => (sOf (y 0)).isLt)] at h
  exact h

/-- The strips of the projection, all sixteen. -/
theorem proj_spec (c : Dev nD) (E : Set ℕ) (i : grid0.Coords)
    (arg6 : Memref sig .tc .vmem S512x512 .bf16) (harg6 : arg6.IsWhole)
    (arg8 : Memref sig .tc .vmem S512x512 .bf16) (harg8 : arg8.IsWhole)
    (arg11 : Memref sig .tc .vmem S26x512x512 .bf16) (harg11 : arg11.IsWhole)
    (arg12 : Memref sig .tc .vmem S512x128 .f32) (harg12 : arg12.IsWhole)
    (arg15 : Memref sig .tc .vmem S512x128 .f32) (harg15 : arg15.IsWhole)
    (acc : FVec F S512x512 .f32) (ws : FVec F S1x512 .f32)
    (x6 : Vec F S512x512 .bf16) (x8 : Vec F S512x512 .bf16) (x11 : Vec F S26x512x512 .bf16) (x12 x15 : Vec F S512x128 .f32) (K : PUnit → sProp 𝕄) :
    iprop((owns (c : Thread nD τ) arg6 fullShare x6 ∗ owns (c : Thread nD τ) arg8 fullShare x8 ∗ owns (c : Thread nD τ) arg11 fullShare x11
      ∗ owns (c : Thread nD τ) arg12 fullShare x12 ∗ owns (c : Thread nD τ) arg15 fullShare x15)
      ∗ (iprop(owns (c : Thread nD τ) arg6 fullShare x6 ∗ owns (c : Thread nD τ) arg8 fullShare (hV acc ws x15 x6)
          ∗ owns (c : Thread nD τ) arg11 fullShare (hbV (i 1) (hV acc ws x15 x6) x11)
          ∗ owns (c : Thread nD τ) arg12 fullShare (sqV i acc ws x15 x6 x12)
          ∗ owns (c : Thread nD τ) arg15 fullShare x15) -∗ K ⟨⟩))
    ⊢ wp frame (wpE (defs₀ (F := F)) Variants.none c none) E (seqFrom (hStrip i arg6 arg8 harg8 arg11 harg11 arg12 arg15 acc ws) 16 0 rfl) K := by
  have h := seq_spec c E (hStrip i arg6 arg8 harg8 arg11 harg11 arg12 arg15 acc ws)
    (fun k => iprop(owns (c : Thread nD τ) arg6 fullShare x6
      ∗ owns (c : Thread nD τ) arg8 fullShare (ovr (fun y => (sOf (y 0)).val < k) (hV acc ws x15 x6) x8)
      ∗ owns (c : Thread nD τ) arg11 fullShare (ovr (fun z => (z 0).val = (i 1).val ∧ (sOf (z 1)).val < k) (fun z => hV acc ws x15 x6 (bIx (z 1) (z 2))) x11)
      ∗ owns (c : Thread nD τ) arg12 fullShare (ovr (fun y => (sOf (y 0)).val < k) (sqV i acc ws x15 x6 x12) x12)
      ∗ owns (c : Thread nD τ) arg15 fullShare x15))
    (fun s K => by
      have hs := hStrip_spec c E i arg6 harg6 arg8 harg8 arg11 harg11 arg12 harg12 arg15 harg15 acc ws s x6
        (ovr (fun y => (sOf (y 0)).val < s.val) (hV acc ws x15 x6) x8)
        (ovr (fun z => (z 0).val = (i 1).val ∧ (sOf (z 1)).val < s.val) (fun z => hV acc ws x15 x6 (bIx (z 1) (z 2))) x11)
        (ovr (fun y => (sOf (y 0)).val < s.val) (sqV i acc ws x15 x6 x12) x12) x15 K
      rw [h_step, hb_step, sq_step] at hs
      iintro ⟨⟨H6, H8, H11, H12, H15⟩, Hk⟩
      iapply hs
      isplitl [H6]; · iexact H6
      isplitl [H8]; · iexact H8
      isplitl [H11]; · iexact H11
      isplitl [H12]; · iexact H12
      isplitl [H15]; · iexact H15
      iexact Hk) 16 0 rfl K
  rw [ovr_none _ _ x8 (fun y => Nat.not_lt_zero _), ovr_none _ _ x11 (fun y h => Nat.not_lt_zero _ h.2), ovr_none _ _ x12 (fun y => Nat.not_lt_zero _),
    ovr_all _ _ x8 (fun y => (sOf (y 0)).isLt), ovr_all _ _ x12 (fun y => (sOf (y 0)).isLt)] at h
  have e : ovr (fun z : S26x512x512.Idx => (z 0).val = (i 1).val ∧ (sOf (z 1)).val < 16) (fun z => hV acc ws x15 x6 (bIx (z 1) (z 2))) x11
      = hbV (i 1) (hV acc ws x15 x6) x11 := by
    funext z
    unfold hbV ovr
    by_cases hz : (z 0).val = (i 1).val
    · rw [if_pos hz]
      exact if_pos ⟨hz, (sOf (z 1)).isLt⟩
    · rw [if_neg hz]
      exact if_neg fun h => hz h.1
  rw [e] at h
  exact h

/-- An index of a row of sums. -/
def rIx (l : Fin 128) : S1x128.Idx := Fin.cases (0 : Fin 1) fun j => Fin.cases l (fun k => k.elim0) j
/-- An index of a quarter. -/
def qIx (r l : Fin 128) : S128x128.Idx := Fin.cases r fun j => Fin.cases l (fun k => k.elim0) j

/-- The row sums after a column block. -/
def totV (i : grid0.Coords) (x12 : Vec F S512x128 .f32) (x13 : Vec F S4x128 .f32) : Vec F S4x128 .f32 :=
  fun y => totUpd (oddBit i) (winR x13 (y 0)) (winQ x12 (y 0)) (rIx (y 1))

/-- The inverse root mean squares of the rows. -/
def rinvV (tot : Vec F S4x128 .f32) : Vec F S512x128 .f32 :=
  fun y => rinvT tot (gOf (y 0)) (qIx ⟨(y 0).val % 128, by omega⟩ (y 1))

theorem put_row {α : Type} (x : S4x128.Idx → α) (q : Fin 4) (w : S1x128.Idx → α) :
    VecWindow.put x ![q.val, 0] S1x128.size w = ovr (fun y => (y 0).val = q.val) (fun y => w (rIx (y 1))) x := by
  funext y
  have h0 : (y 0).val < 4 := (y 0).isLt
  have h1 : (y 1).val < 128 := (y 1).isLt
  unfold VecWindow.put ovr
  by_cases h : (y 0).val = q.val
  · have h' : ∀ a, (![q.val, 0] : Fin 2 → ℕ) a ≤ (y a).val ∧ (y a).val < (![q.val, 0] : Fin 2 → ℕ) a + S1x128.size a := by
      intro a
      fin_cases a
      · show q.val ≤ (y 0).val ∧ (y 0).val < q.val + 1
        omega
      · show 0 ≤ (y 1).val ∧ (y 1).val < 0 + 128
        omega
    rw [if_pos h, dif_pos h']
    refine congrArg w (funext fun a => Fin.ext ?_)
    fin_cases a
    · show (y 0).val - q.val = 0
      omega
    · show (y 1).val - 0 = (y 1).val
      omega
  · rw [if_neg h, dif_neg]
    intro h'
    have a0 : q.val ≤ (y 0).val ∧ (y 0).val < q.val + 1 := h' 0
    omega

theorem put_quarter {α : Type} (x : S512x128.Idx → α) (q : Fin 4) (w : S128x128.Idx → α) :
    VecWindow.put x ![128 * q.val, 0] S128x128.size w
      = ovr (fun y => gOf (y 0) = q) (fun y => w (qIx ⟨(y 0).val % 128, by omega⟩ (y 1))) x := by
  funext y
  have h0 : (y 0).val < 512 := (y 0).isLt
  have h1 : (y 1).val < 128 := (y 1).isLt
  unfold VecWindow.put ovr
  by_cases h : gOf (y 0) = q
  · have e0 : (y 0).val / 128 = q.val := congrArg Fin.val h
    have h' : ∀ a, (![128 * q.val, 0] : Fin 2 → ℕ) a ≤ (y a).val ∧ (y a).val < (![128 * q.val, 0] : Fin 2 → ℕ) a + S128x128.size a := by
      intro a
      fin_cases a
      · show 128 * q.val ≤ (y 0).val ∧ (y 0).val < 128 * q.val + 128
        omega
      · show 0 ≤ (y 1).val ∧ (y 1).val < 0 + 128
        omega
    rw [if_pos h, dif_pos h']
    refine congrArg w (funext fun a => Fin.ext ?_)
    fin_cases a
    · show (y 0).val - 128 * q.val = (y 0).val % 128
      omega
    · show (y 1).val - 0 = (y 1).val
      omega
  · rw [if_neg h, dif_neg]
    intro h'
    apply h
    have a0 : 128 * q.val ≤ (y 0).val ∧ (y 0).val < 128 * q.val + 128 := h' 0
    exact Fin.ext (show (y 0).val / 128 = q.val by omega)

theorem tot_step (i : grid0.Coords) (x12 : Vec F S512x128 .f32) (x13 : Vec F S4x128 .f32) (q : Fin 4) :
    VecWindow.put (ovr (fun y => (y 0).val < q.val) (totV i x12 x13) x13) ![q.val, 0] S1x128.size
        (totUpd (oddBit i) (winR (ovr (fun y => (y 0).val < q.val) (totV i x12 x13) x13) q) (winQ x12 q))
      = ovr (fun y => (y 0).val < q.val + 1) (totV i x12 x13) x13 := by
  have e : winR (ovr (fun y => (y 0).val < q.val) (totV i x12 x13) x13) q = winR x13 q := by
    refine winR_congr fun y hy => if_neg ?_
    show ¬ (y 0).val < q.val
    omega
  rw [e, put_row]
  funext y
  refine next' (k := (y 0).val) (s := q.val) Iff.rfl fun h => ?_
  obtain rfl : y 0 = q := Fin.ext h
  rfl

theorem rinv_step (tot : Vec F S4x128 .f32) (x14 : Vec F S512x128 .f32) (q : Fin 4) :
    VecWindow.put (ovr (fun y => (gOf (y 0)).val < q.val) (rinvV tot) x14) ![128 * q.val, 0] S128x128.size (rinvT tot q)
      = ovr (fun y => (gOf (y 0)).val < q.val + 1) (rinvV tot) x14 := by
  rw [put_quarter]
  funext y
  refine next' (k := (gOf (y 0)).val) (s := q.val) ⟨fun h => congrArg Fin.val h, fun h => Fin.ext h⟩ ?_
  rintro rfl
  rfl

theorem tot_spec (c : Dev nD) (E : Set ℕ) (i : grid0.Coords)
    (arg12 : Memref sig .tc .vmem S512x128 .f32) (harg12 : arg12.IsWhole)
    (arg13 : Memref sig .tc .vmem S4x128 .f32) (harg13 : arg13.IsWhole)
    (x12 : Vec F S512x128 .f32) (x13 : Vec F S4x128 .f32) (K : PUnit → sProp 𝕄) :
    iprop((owns (c : Thread nD τ) arg12 fullShare x12 ∗ owns (c : Thread nD τ) arg13 fullShare x13)
      ∗ (iprop(owns (c : Thread nD τ) arg12 fullShare x12 ∗ owns (c : Thread nD τ) arg13 fullShare (totV i x12 x13)) -∗ K ⟨⟩))
    ⊢ wp frame (wpE (defs₀ (F := F)) Variants.none c none) E (seqFrom (totQuarter i arg12 arg13) 4 0 rfl) K := by
  have h := seq_spec c E (totQuarter i arg12 arg13)
    (fun k => iprop(owns (c : Thread nD τ) arg12 fullShare x12
      ∗ owns (c : Thread nD τ) arg13 fullShare (ovr (fun y => (y 0).val < k) (totV i x12 x13) x13)))
    (fun q K => by
      have hs := totQuarter_spec c E i arg12 harg12 arg13 harg13 q x12 (ovr (fun y => (y 0).val < q.val) (totV i x12 x13) x13) K
      rw [tot_step] at hs
      iintro ⟨⟨H12, H13⟩, Hk⟩
      iapply hs
      isplitl [H12]; · iexact H12
      isplitl [H13]; · iexact H13
      iexact Hk) 4 0 rfl K
  rw [ovr_none _ _ x13 (fun y => Nat.not_lt_zero _), ovr_all (fun y : S4x128.Idx => (y 0).val < 4) _ x13 (fun y => (y 0).isLt)] at h
  exact h

theorem rinv_spec (c : Dev nD) (E : Set ℕ)
    (arg14 : Memref sig .tc .vmem S512x128 .f32) (harg14 : arg14.IsWhole) (tot : Vec F S4x128 .f32)
    (x14 : Vec F S512x128 .f32) (K : PUnit → sProp 𝕄) :
    iprop(owns (c : Thread nD τ) arg14 fullShare x14 ∗ (owns (c : Thread nD τ) arg14 fullShare (rinvV tot) -∗ K ⟨⟩))
    ⊢ wp frame (wpE (defs₀ (F := F)) Variants.none c none) E (seqFrom (rinvQuarter arg14 tot) 4 0 rfl) K := by
  have h := seq_spec c E (rinvQuarter arg14 tot)
    (fun k => owns (c : Thread nD τ) arg14 fullShare (ovr (fun y => (gOf (y 0)).val < k) (rinvV tot) x14))
    (fun q K => by
      have hs := rinvQuarter_spec c E arg14 harg14 tot q (ovr (fun y => (gOf (y 0)).val < q.val) (rinvV tot) x14) K
      rw [rinv_step] at hs
      exact hs) 4 0 rfl K
  rw [ovr_none _ _ x14 (fun y => Nat.not_lt_zero _), ovr_all _ _ x14 (fun y => (gOf (y 0)).isLt)] at h
  exact h

/-! ## The four parts of the body -/

/-- A vector with one value everywhere. -/
def zerosV (s : Shape) {φ : FTy} (b : BitVec φ.bits) : FVec F s φ := fun _ => FloatOps.ofBits φ b

/-- The product of a block of rows and a block of columns. -/
def accV (x : Vec F S512x16384 .fp8e4m3) (w : Vec F S16384x512 .fp8e4m3) : FVec F S512x512 .f32 :=
  matmul dot_S512x16384_S16384x512_S512x512_1_0_0_1_n_n none (shapeCast S512x16384 x shapeCasts_S512x16384_S512x16384) w (constant S512x512 .f32 0x00000000#32)

/-- The column weights, widened. -/
def gamV (x7 : Vec F S1x512 .bf16) : FVec F S1x512 .f32 := extf .f32 (shapeCast S1x512 x7 shapeCasts_S1x512_S1x512) bitsLt_bf16_f32

/-- The column scales. -/
def wsV (x5 : Vec F S1x512 .f32) : FVec F S1x512 .f32 := shapeCast S1x512 x5 shapeCasts_S1x512_S1x512

theorem lastB_spec (c : Dev nD) (E : Set ℕ) (i : grid0.Coords)
    (arg7 : Memref sig .tc .vmem S1x512 .bf16) (harg7 : arg7.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg14 : Memref sig .tc .vmem S512x128 .f32) (harg14 : arg14.IsWhole)
    (x7 : Vec F S1x512 .bf16) (x9 : Vec F S512x512 .fp8e4m3) (x10 : Vec F S512x104 .f32) (x11 : Vec F S26x512x512 .bf16)
    (x14 : Vec F S512x128 .f32) (K : PUnit → sProp 𝕄) :
    iprop((owns (c : Thread nD τ) arg7 fullShare x7 ∗ owns (c : Thread nD τ) arg9 fullShare x9 ∗ owns (c : Thread nD τ) arg10 fullShare x10
      ∗ owns (c : Thread nD τ) arg11 fullShare x11 ∗ owns (c : Thread nD τ) arg14 fullShare x14)
      ∗ (iprop(owns (c : Thread nD τ) arg7 fullShare x7 ∗ owns (c : Thread nD τ) arg9 fullShare (codesV (i 1) x14 (gamV x7) x11)
          ∗ owns (c : Thread nD τ) arg10 fullShare (scaleV i x14 (gamV x7) x11 x10)
          ∗ owns (c : Thread nD τ) arg11 fullShare x11 ∗ owns (c : Thread nD τ) arg14 fullShare x14) -∗ K ⟨⟩))
    ⊢ wp frame (wpE (defs₀ (F := F)) Variants.none c none) E (lastB i arg7 arg9 harg9 arg10 arg11 arg14) K := by
  unfold lastB
  rw [wp_bind]
  iintro ⟨⟨H7, H9, H10, H11, H14⟩, Hk⟩
  iapply (load_spec c E arg7 harg7 inb_S1x512_S1x512_0_0 rfl inb_S1x512_S1x512_0_0 _ x7 _)
  isplitl [H7]; · iexact H7
  iintro H7
  rw [show VecWindow.window x7 ![0, 0] S1x512.size inb_S1x512_S1x512_0_0 = x7 from funext fun y => congrArg x7 (Rect.emb_unit_full _ y)]
  iapply (quant_spec c E i arg9 harg9 arg10 harg10 arg11 harg11 arg14 harg14 _ x9 x10 x11 x14 K)
  isplitl [H9 H10 H11 H14]
  · isplitl [H9]; · iexact H9
    isplitl [H10]; · iexact H10
    isplitl [H11]; · iexact H11
    iexact H14
  iintro ⟨H9, H10, H11, H14⟩
  iapply Hk
  isplitl [H7]; · iexact H7
  isplitl [H9]; · iexact H9
  isplitl [H10]; · iexact H10
  isplitl [H11]; · iexact H11
  iexact H14

theorem mainB_spec (c : Dev nD) (E : Set ℕ) (i : grid0.Coords)
    (arg2 : Memref sig .tc .vmem S512x16384 .fp8e4m3) (harg2 : arg2.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (x11 : Vec F S26x512x512 .bf16)
    (x12 : Vec F S512x128 .f32) (x13 : Vec F S4x128 .f32) (x14 x15 : Vec F S512x128 .f32) (K : PUnit → sProp 𝕄) :
    iprop((owns (c : Thread nD τ) arg2 fullShare x2 ∗ owns (c : Thread nD τ) arg4 fullShare x4 ∗ owns (c : Thread nD τ) arg5 fullShare x5
      ∗ owns (c : Thread nD τ) arg6 fullShare x6 ∗ owns (c : Thread nD τ) arg7 fullShare x7 ∗ owns (c : Thread nD τ) arg8 fullShare x8
      ∗ owns (c : Thread nD τ) arg9 fullShare x9 ∗ owns (c : Thread nD τ) arg10 fullShare x10
      ∗ owns (c : Thread nD τ) arg11 fullShare x11 ∗ owns (c : Thread nD τ) arg12 fullShare x12 ∗ owns (c : Thread nD τ) arg13 fullShare x13
      ∗ owns (c : Thread nD τ) arg14 fullShare x14 ∗ owns (c : Thread nD τ) arg15 fullShare x15)
      ∗ (iprop(owns (c : Thread nD τ) arg2 fullShare x2 ∗ owns (c : Thread nD τ) arg4 fullShare x4 ∗ owns (c : Thread nD τ) arg5 fullShare x5
      ∗ owns (c : Thread nD τ) arg6 fullShare x6 ∗ owns (c : Thread nD τ) arg7 fullShare x7
      ∗ owns (c : Thread nD τ) arg8 fullShare (hV (accV x2 x4) (wsV x5) x15 x6)
      ∗ owns (c : Thread nD τ) arg9 fullShare (codesV (i 1) x14 (gamV x7) x11)
      ∗ owns (c : Thread nD τ) arg10 fullShare (scaleV i x14 (gamV x7) x11 x10)
      ∗ owns (c : Thread nD τ) arg11 fullShare (hbV (i 1) (hV (accV x2 x4) (wsV x5) x15 x6) x11)
      ∗ owns (c : Thread nD τ) arg12 fullShare (sqV i (accV x2 x4) (wsV x5) x15 x6 x12)
      ∗ owns (c : Thread nD τ) arg13 fullShare (totV i (sqV i (accV x2 x4) (wsV x5) x15 x6 x12) x13)
      ∗ owns (c : Thread nD τ) arg14 fullShare x14 ∗ owns (c : Thread nD τ) arg15 fullShare x15) -∗ K ⟨⟩))
    ⊢ wp frame (wpE (defs₀ (F := F)) Variants.none c none) E
        (mainB i arg2 arg4 arg5 arg6 arg7 arg8 harg8 arg9 harg9 arg10 arg11 harg11 arg12 arg13 arg14 arg15) K := by
  unfold mainB
  rw [wp_bind]
  iintro ⟨⟨H2, H4, H5, H6, H7, H8, H9, H10, H11, H12, H13, H14, H15⟩, Hk⟩
  iapply (load_spec c E arg2 harg2 inb_S512x16384_S512x16384_0_0 rfl inb_S512x16384_S512x16384_0_0 _ x2 _)
  isplitl [H2]; · iexact H2
  iintro H2
  rw [show VecWindow.window x2 ![0, 0] S512x16384.size inb_S512x16384_S512x16384_0_0 = x2 from funext fun y => congrArg x2 (Rect.emb_unit_full _ y)]
  rw [wp_bind]
  iapply (load_spec c E arg4 harg4 inb_S16384x512_S16384x512_0_0 rfl inb_S16384x512_S16384x512_0_0 _ x4 _)
  isplitl [H4]; · iexact H4
  iintro H4
  rw [show VecWindow.window x4 ![0, 0] S16384x512.size inb_S16384x512_S16384x512_0_0 = x4 from funext fun y => congrArg x4 (Rect.emb_unit_full _ y)]
  rw [wp_bind]
  iapply (load_spec c E arg7 harg7 inb_S1x512_S1x512_0_0 rfl inb_S1x512_S1x512_0_0 _ x7 _)
  isplitl [H7]; · iexact H7
  iintro H7
  rw [show VecWindow.window x7 ![0, 0] S1x512.size inb_S1x512_S1x512_0_0 = x7 from funext fun y => congrArg x7 (Rect.emb_unit_full _ y)]
  rw [wp_bind]
  iapply (quant_spec c E i arg9 harg9 arg10 harg10 arg11 harg11 arg14 harg14 _ x9 x10 x11 x14 _)
  isplitl [H9 H10 H11 H14]
  · isplitl [H9]; · iexact H9
    isplitl [H10]; · iexact H10
    isplitl [H11]; · iexact H11
    iexact H14
  iintro ⟨H9, H10, H11, H14⟩
  rw [wp_bind]
  iapply (load_spec c E arg5 harg5 inb_S1x512_S1x512_0_0 rfl inb_S1x512_S1x512_0_0 _ x5 _)
  isplitl [H5]; · iexact H5
  iintro H5
  rw [show VecWindow.window x5 ![0, 0] S1x512.size inb_S1x512_S1x512_0_0 = x5 from funext fun y => congrArg x5 (Rect.emb_unit_full _ y)]
  rw [wp_bind]
  iapply (proj_spec c E i arg6 harg6 arg8 harg8 arg11 harg11 arg12 harg12 arg15 harg15 _ _ x6 x8 x11 x12 x15 _)
  isplitl [H6 H8 H11 H12 H15]
  · isplitl [H6]; · iexact H6
    isplitl [H8]; · iexact H8
    isplitl [H11]; · iexact H11
    isplitl [H12]; · iexact H12
    iexact H15
  iintro ⟨H6, H8, H11, H12, H15⟩
  iapply (tot_spec c E i arg12 harg12 arg13 harg13 _ x13 _)
  isplitl [H12 H13]
  · isplitl [H12]; · iexact H12
    iexact H13
  iintro ⟨H12, H13⟩
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A store of the whole buffer. -/
theorem put_all {α : Type} {s : Shape} (x : s.Idx → α) (off : Fin s.rank → ℕ) (ho : ∀ a, off a = 0) (w : s.Idx → α) :
    VecWindow.put x off s.size w = w := by
  funext y
  have h : ∀ a, off a ≤ (y a).val ∧ (y a).val < off a + s.size a := fun a => by
    have := (y a).isLt
    rw [ho a]
    omega
  refine (dif_pos h).trans (congrArg w (funext fun a => Fin.ext ?_))
  show (y a).val - off a = (y a).val
  rw [ho a]
  rfl

theorem zero2 : ∀ a : Fin 2, (![0, 0] : Fin 2 → ℕ) a = 0 := by decide
theorem zero3 : ∀ a : Fin 3, (![0, 0, 0] : Fin 3 → ℕ) a = 0 := by decide

/-- The cleared row sums. -/
def zero13 : FVec F S4x128 .f32 := shapeCast S4x128 (broadcast S4x128 (Scalar.ofBits .f32 0x00000000#32)) shapeCasts_S4x128_S4x128

theorem rowB_spec (c : Dev nD) (E : Set ℕ)
    (arg3 : Memref sig .tc .vmem S1x1x512 .f32) (harg3 : arg3.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x3 : Vec F S1x1x512 .f32) (x13 : Vec F S4x128 .f32) (x14 x15 : Vec F S512x128 .f32) (K : PUnit → sProp 𝕄) :
    iprop((owns (c : Thread nD τ) arg3 fullShare x3 ∗ owns (c : Thread nD τ) arg13 fullShare x13
      ∗ owns (c : Thread nD τ) arg14 fullShare x14 ∗ owns (c : Thread nD τ) arg15 fullShare x15)
      ∗ (iprop(owns (c : Thread nD τ) arg3 fullShare x3 ∗ owns (c : Thread nD τ) arg13 fullShare zero13
          ∗ owns (c : Thread nD τ) arg14 fullShare (rinvV x13) ∗ owns (c : Thread nD τ) arg15 fullShare (xsT x3)) -∗ K ⟨⟩))
    ⊢ wp frame (wpE (defs₀ (F := F)) Variants.none c none) E (rowB arg3 arg13 arg14 arg15) K := by
  unfold rowB
  rw [wp_bind]
  iintro ⟨⟨H3, H13, H14, H15⟩, Hk⟩
  iapply (load_spec c E arg13 harg13 inb_S4x128_S4x128_0_0 rfl inb_S4x128_S4x128_0_0 _ x13 _)
  isplitl [H13]; · iexact H13
  iintro H13
  rw [show VecWindow.window x13 ![0, 0] S4x128.size inb_S4x128_S4x128_0_0 = x13 from funext fun y => congrArg x13 (Rect.emb_unit_full _ y)]
  rw [wp_bind]
  iapply (rinv_spec c E arg14 harg14 _ x14 _)
  isplitl [H14]; · iexact H14
  iintro H14
  rw [wp_bind]
  iapply (load_spec c E arg13 harg13 inb_S4x128_S4x128_0_0 rfl inb_S4x128_S4x128_0_0 _ x13 _)
  isplitl [H13]; · iexact H13
  iintro H13
  rw [wp_bind]
  iapply (store_spec c E arg13 harg13 inb_S4x128_S4x128_0_0 rfl _ _ _ x13 _)
  isplitl [H13]; · iexact H13
  rw [put_all (s := S4x128) x13 ![0, 0] zero2 _]
  iintro H13
  rw [wp_bind]
  iapply (load_spec c E arg3 harg3 inb_S1x1x512_S1x1x512_0_0_0 rfl inb_S1x1x512_S1x1x512_0_0_0 _ x3 _)
  isplitl [H3]; · iexact H3
  iintro H3
  rw [show VecWindow.window x3 ![0, 0, 0] S1x1x512.size inb_S1x1x512_S1x1x512_0_0_0 = x3 from funext fun y => congrArg x3 (Rect.emb_unit_full _ y)]
  rw [wp_bind]
  iapply (load_spec c E arg15 harg15 inb_S512x128_S512x128_0_0 rfl inb_S512x128_S512x128_0_0 _ x15 _)
  isplitl [H15]; · iexact H15
  iintro H15
  iapply (store_spec c E arg15 harg15 inb_S512x128_S512x128_0_0 rfl _ _ _ x15 _)
  isplitl [H15]; · iexact H15
  rw [put_all (s := S512x128) x15 ![0, 0] zero2 _]
  iintro H15
  iapply Hk
  isplitl [H3]; · iexact H3
  isplitl [H13]; · iexact H13
  isplitl [H14]; · iexact H14
  iexact H15

/-- The clearing step leaves some contents in the buffers; nothing of them is used later. -/
theorem clearB_spec (c : Dev nD) (E : Set ℕ)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (x11 : Vec F S26x512x512 .bf16) (x12 : Vec F S512x128 .f32) (x13 : Vec F S4x128 .f32) (K : PUnit → sProp 𝕄) :
    iprop((owns (c : Thread nD τ) arg11 fullShare x11 ∗ owns (c : Thread nD τ) arg12 fullShare x12 ∗ owns (c : Thread nD τ) arg13 fullShare x13)
      ∗ ((∃ y11, ∃ y12, ∃ y13, iprop(owns (c : Thread nD τ) arg11 fullShare y11 ∗ owns (c : Thread nD τ) arg12 fullShare y12
          ∗ owns (c : Thread nD τ) arg13 fullShare y13)) -∗ K ⟨⟩))
    ⊢ wp frame (wpE (defs₀ (F := F)) Variants.none c none) E (clearB arg11 harg11 arg12 arg13) K := by
  unfold clearB
  rw [wp_bind]
  iintro ⟨⟨H11, H12, H13⟩, Hk⟩
  iapply (load_spec c E arg11 harg11 inb_S26x512x512_S26x512x512_0_0_0 rfl inb_S26x512x512_S26x512x512_0_0_0 _ x11 _)
  isplitl [H11]; · iexact H11
  iintro H11
  rw [wp_bind]
  iapply (store_spec c E arg11 harg11 inb_S26x512x512_S26x512x512_0_0_0 rfl _ _ _ x11 _)
  isplitl [H11]; · iexact H11
  iintro H11
  rw [wp_bind]
  iapply (load_spec c E arg13 harg13 inb_S4x128_S4x128_0_0 rfl inb_S4x128_S4x128_0_0 _ x13 _)
  isplitl [H13]; · iexact H13
  iintro H13
  rw [wp_bind]
  iapply (store_spec c E arg13 harg13 inb_S4x128_S4x128_0_0 rfl _ _ _ x13 _)
  isplitl [H13]; · iexact H13
  iintro H13
  rw [wp_bind]
  iapply (load_spec c E arg12 harg12 inb_S512x128_S512x128_0_0 rfl inb_S512x128_S512x128_0_0 _ x12 _)
  isplitl [H12]; · iexact H12
  iintro H12
  iapply (store_spec c E arg12 harg12 inb_S512x128_S512x128_0_0 rfl _ _ _ x12 _)
  isplitl [H12]; · iexact H12
  iintro H12
  iapply Hk
  iexists _, _, _
  isplitl [H11]; · iexact H11
  isplitl [H12]; · iexact H12
  iexact H13

end Cert.KernelIdeal.Tiles

end
-- ==== Proof.Body.lean ====
/- The printed body is the loops of `Tiles.lean`. -/
module

public import proofs.«01_k».proof.Proof.Tiles
public import Idealize.ShloMosaic.Lib.Pipeline.Regions

@[expose] public section

noncomputable section

namespace Cert.KernelIdeal.Tiles

open Idealize.ShloMosaic Idealize.SL.Sem Cert.KernelIdeal.Gen

variable {F : FTy → Type} [FloatOps F] [Named F]

set_option maxRecDepth 100000 in
/-- The printed body unrolls the loops: by definitional unfolding. -/
theorem body_eq (i : grid0.Coords) (arg2 : Memref sig .tc .vmem S512x16384 .fp8e4m3) (harg2 : arg2.IsWhole) (arg3 : Memref sig .tc .vmem S1x1x512 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .bf16) (harg7 : arg7.IsWhole) (arg8 : Memref sig .tc .vmem S512x512 .bf16) (harg8 : arg8.IsWhole) (arg9 : Memref sig .tc .vmem S512x512 .fp8e4m3) (harg9 : arg9.IsWhole) (arg10 : Memref sig .tc .vmem S512x104 .f32) (harg10 : arg10.IsWhole) (arg11 : Memref sig .tc .vmem S26x512x512 .bf16) (harg11 : arg11.IsWhole) (arg12 : Memref sig .tc .vmem S512x128 .f32) (harg12 : arg12.IsWhole) (arg13 : Memref sig .tc .vmem S4x128 .f32) (harg13 : arg13.IsWhole) (arg14 : Memref sig .tc .vmem S512x128 .f32) (harg14 : arg14.IsWhole) (arg15 : Memref sig .tc .vmem S512x128 .f32) (harg15 : arg15.IsWhole) :
    cc0_proj_norm_quant (F := F) i arg2 harg2 arg3 harg3 arg4 harg4 arg5 harg5 arg6 harg6 arg7 harg7 arg8 harg8 arg9 harg9 arg10 harg10 arg11 harg11 arg12 harg12 arg13 harg13 arg14 harg14 arg15 harg15 =
      body i arg2 arg3 arg4 arg5 arg6 arg7 arg8 harg8 arg9 harg9 arg10 arg11 harg11 arg12 arg13 arg14 arg15 := by
  chain_rfl

end Cert.KernelIdeal.Tiles

end
-- ==== Proof.Conds.lean ====
/-
  One grid point of the kernel: which parts of the body run there, the state carried from point to point, and what the whole body does.
-/
module

public import proofs.«01_k».proof.Proof.BlockSpecs
public import proofs.«01_k».proof.Proof.Body
public import proofs.«01_k».proof.Proof.Gen.KernelIdeal.Frame

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Where the parts of the body run -/

theorem coord0 (t : Fin cfg0.N) : (grid0.coords t 0).val = t.val / 26 := by
  have ht : t.val < 650 := Nat.lt_of_lt_of_eq t.isLt N_0
  have e0 : (grid0.coords t 0).val = t.val / 26 % 25 := Pipeline.Grid.coords_val t 0 (by decide) rfl
  rw [e0]; omega

theorem coord1 (t : Fin cfg0.N) : (grid0.coords t 1).val = t.val % 26 := by
  have e1 : (grid0.coords t 1).val = t.val / 1 % 26 := Pipeline.Grid.coords_val t 1 (by decide) rfl
  rw [e1]; omega

theorem cond1_iff (t : Fin cfg0.N) : cond1 (grid0.coords t) = 1#1 ↔ t.val = 0 := by
  have ht : t.val < 650 := Nat.lt_of_lt_of_eq t.isLt N_0
  have e0 := coord0 t
  have e1 := coord1 t
  simp only [cond1, e0, e1]
  word_cmp

theorem cond2_iff (t : Fin cfg0.N) : cond2 (grid0.coords t) = 1#1 ↔ t.val % 26 = 0 := by
  have ht : t.val < 650 := Nat.lt_of_lt_of_eq t.isLt N_0
  have e1 := coord1 t
  simp only [cond2, e1]
  word_cmp

theorem cond3_iff (t : Fin cfg0.N) : k0_cond3 (grid0.coords t) = 1#1 ↔ t.val < 624 := by
  have h : ∀ t : Fin grid0.N, k0_cond3 (grid0.coords t) = 1#1 ↔ t.val < 624 := by decide +kernel
  exact h t

theorem cond4_iff (t : Fin cfg0.N) : k0_cond4 (grid0.coords t) = 1#1 ↔ 624 ≤ t.val := by
  have ht : t.val < 650 := Nat.lt_of_lt_of_eq t.isLt N_0
  have e0 := coord0 t
  simp only [k0_cond4, e0]
  word_cmp

/-! ## The buffers of a point -/

abbrev ms0_0 (t : Fin cfg0.N) : Memref sig .tc .vmem S512x16384 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x104 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S26x512x512 .bf16 := Memref.whole cc0_scratch0
abbrev scM0_1 : Memref sig .tc .vmem S512x128 .f32 := Memref.whole cc0_scratch1
abbrev scM0_2 : Memref sig .tc .vmem S4x128 .f32 := Memref.whole cc0_scratch2
abbrev scM0_3 : Memref sig .tc .vmem S512x128 .f32 := Memref.whole cc0_scratch3
abbrev scM0_4 : Memref sig .tc .vmem S512x128 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Tiles

end
-- ==== Proof.Point.lean ====
/-
  The whole body at one grid point, as one step on the carried state.
-/
module

public import proofs.«01_k».proof.Proof.Conds

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The carried state and a point's step on it -/

variable (F) in
/-- What the kernel carries from point to point: the row block of `h`, the partial sums of squares of a strip pair, the totals of a row block,
    the reciprocal roots and the row scales. -/
structure St where
  x11 : Vec F S26x512x512 .bf16
  x12 : Vec F S512x128 .f32
  x13 : Vec F S4x128 .f32
  x14 : Vec F S512x128 .f32
  x15 : Vec F S512x128 .f32

/-- At the first column of a row block: the reciprocal roots of the row block before, the row scales of this one, and no total yet. -/
def rowSt (i : grid0.Coords) (x3 : Vec F S1x1x512 .f32) (s : St F) : St F :=
  if cond2 i = 1#1 then ⟨s.x11, s.x12, zero13, rinvV s.x13, xsT x3⟩ else s

/-- The block of `h` of a point. -/
def hOf (x2 : Vec F S512x16384 .fp8e4m3) (x4 : Vec F S16384x512 .fp8e4m3) (x5 : Vec F S1x512 .f32) (x6 : Vec F S512x512 .bf16) (s : St F) :
    Vec F S512x512 .bf16 := hV (accV x2 x4) (wsV x5) s.x15 x6

/-- The partial sums of squares after a point. -/
def sqOf (i : grid0.Coords) (x2 : Vec F S512x16384 .fp8e4m3) (x4 : Vec F S16384x512 .fp8e4m3) (x5 : Vec F S1x512 .f32) (x6 : Vec F S512x512 .bf16)
    (s : St F) : Vec F S512x128 .f32 := sqV i (accV x2 x4) (wsV x5) s.x15 x6 s.x12

/-- The state after a point. -/
def mainSt (i : grid0.Coords) (x2 : Vec F S512x16384 .fp8e4m3) (x4 : Vec F S16384x512 .fp8e4m3) (x5 : Vec F S1x512 .f32) (x6 : Vec F S512x512 .bf16)
    (s : St F) : St F :=
  if k0_cond3 i = 1#1 then
    ⟨hbV (i 1) (hOf x2 x4 x5 x6 s) s.x11, sqOf i x2 x4 x5 x6 s, totV i (sqOf i x2 x4 x5 x6 s) s.x13, s.x14, s.x15⟩
  else s

/-- What a point leaves in the window of `h`. -/
def outH (i : grid0.Coords) (x2 : Vec F S512x16384 .fp8e4m3) (x4 : Vec F S16384x512 .fp8e4m3) (x5 : Vec F S1x512 .f32) (x6 x8 : Vec F S512x512 .bf16)
    (s : St F) : Vec F S512x512 .bf16 := if k0_cond3 i = 1#1 then hOf x2 x4 x5 x6 s else x8

/-- What a point leaves in the window of the codes. -/
def outC (i : grid0.Coords) (x7 : Vec F S1x512 .bf16) (s : St F) : Vec F S512x512 .fp8e4m3 := codesV (i 1) s.x14 (gamV x7) s.x11

/-- What a point leaves in the window of the scales. -/
def outS (i : grid0.Coords) (x7 : Vec F S1x512 .bf16) (s : St F) (x10 : Vec F S512x104 .f32) : Vec F S512x104 .f32 :=
  scaleV i s.x14 (gamV x7) s.x11 x10

/-! ## The conditional parts -/

theorem clearIf_spec (c : Dev nD) (E : Set ℕ) (i : grid0.Coords)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (s : St F) (K : PUnit → sProp 𝕄) :
    iprop((owns (c : Thread nD τ) arg11 fullShare s.x11 ∗ owns (c : Thread nD τ) arg12 fullShare s.x12 ∗ owns (c : Thread nD τ) arg13 fullShare s.x13)
      ∗ ((∃ s', iprop(⌜(¬ cond1 i = 1#1 → s' = s) ∧ s'.x14 = s.x14 ∧ s'.x15 = s.x15⌝ ∗ owns (c : Thread nD τ) arg11 fullShare s'.x11
          ∗ owns (c : Thread nD τ) arg12 fullShare s'.x12 ∗ owns (c : Thread nD τ) arg13 fullShare s'.x13)) -∗ K ⟨⟩))
    ⊢ wp frame (wpE (defs₀ (F := F)) Variants.none c none) E (if cond1 i = 1#1 then clearB arg11 harg11 arg12 arg13 else pure ⟨⟩) K := by
  by_cases h : cond1 i = 1#1
  · rw [if_pos h]
    iintro ⟨⟨H11, H12, H13⟩, HK⟩
    iapply (clearB_spec c E arg11 harg11 arg12 harg12 arg13 harg13 s.x11 s.x12 s.x13 K)
    isplitl [H11 H12 H13]
    · isplitl [H11]; · iexact H11
      isplitl [H12]; · iexact H12
      iexact H13
    iintro ⟨%y11, %y12, %y13, H11, H12, H13⟩
    iapply HK
    iexists (⟨y11, y12, y13, s.x14, s.x15⟩ : St F)
    isplitr
    · ipureintro; exact ⟨fun h' => absurd h h', rfl, rfl⟩
    isplitl [H11]; · iexact H11
    isplitl [H12]; · iexact H12
    iexact H13
  · rw [if_neg h]
    iintro ⟨⟨H11, H12, H13⟩, HK⟩
    sl_step
    iapply HK
    iexists s
    isplitr
    · ipureintro; exact ⟨fun _ => rfl, rfl, rfl⟩
    isplitl [H11]; · iexact H11
    isplitl [H12]; · iexact H12
    iexact H13

theorem rowIf_spec (c : Dev nD) (E : Set ℕ) (i : grid0.Coords)
    (arg3 : Memref sig .tc .vmem S1x1x512 .f32) (harg3 : arg3.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x3 : Vec F S1x1x512 .f32) (s : St F) (K : PUnit → sProp 𝕄) :
    iprop((owns (c : Thread nD τ) arg3 fullShare x3 ∗ owns (c : Thread nD τ) arg13 fullShare s.x13
      ∗ owns (c : Thread nD τ) arg14 fullShare s.x14 ∗ owns (c : Thread nD τ) arg15 fullShare s.x15)
      ∗ (iprop(owns (c : Thread nD τ) arg3 fullShare x3 ∗ owns (c : Thread nD τ) arg13 fullShare (rowSt i x3 s).x13
          ∗ owns (c : Thread nD τ) arg14 fullShare (rowSt i x3 s).x14 ∗ owns (c : Thread nD τ) arg15 fullShare (rowSt i x3 s).x15) -∗ K ⟨⟩))
    ⊢ wp frame (wpE (defs₀ (F := F)) Variants.none c none) E (if cond2 i = 1#1 then rowB arg3 arg13 arg14 arg15 else pure ⟨⟩) K := by
  by_cases h : cond2 i = 1#1
  · rw [if_pos h, show rowSt i x3 s = ⟨s.x11, s.x12, zero13, rinvV s.x13, xsT x3⟩ from if_pos h]
    exact rowB_spec c E arg3 harg3 arg13 harg13 arg14 harg14 arg15 harg15 x3 s.x13 s.x14 s.x15 K
  · rw [if_neg h, show rowSt i x3 s = s from if_neg h]
    iintro ⟨H, HK⟩
    sl_step
    iapply HK
    iexact H

theorem rowSt_x11 (i : grid0.Coords) (x3 : Vec F S1x1x512 .f32) (s : St F) : (rowSt i x3 s).x11 = s.x11 := by
  unfold rowSt; split <;> rfl

theorem rowSt_x12 (i : grid0.Coords) (x3 : Vec F S1x1x512 .f32) (s : St F) : (rowSt i x3 s).x12 = s.x12 := by
  unfold rowSt; split <;> rfl

/-! ## The body -/

/-- The last two parts of the body, of which exactly one runs. -/
theorem mainIf_spec (c : Dev nD) (E : Set ℕ) (i : grid0.Coords) (h34 : k0_cond4 i = 1#1 ↔ ¬ k0_cond3 i = 1#1)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x3 : Vec F S1x1x512 .f32) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (s : St F) (K : PUnit → sProp 𝕄) :
    iprop((owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14
      ∗ owns (c : Thread nD τ) arg15 fullShare s.x15)
    ∗ (iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare (outH i x2 x4 x5 x6 x8 s)
      ∗ owns (c : Thread nD τ) arg9 fullShare (outC i x7 s)
      ∗ owns (c : Thread nD τ) arg10 fullShare (outS i x7 s x10)
      ∗ owns (c : Thread nD τ) arg11 fullShare (mainSt i x2 x4 x5 x6 s).x11
      ∗ owns (c : Thread nD τ) arg12 fullShare (mainSt i x2 x4 x5 x6 s).x12
      ∗ owns (c : Thread nD τ) arg13 fullShare (mainSt i x2 x4 x5 x6 s).x13
      ∗ owns (c : Thread nD τ) arg14 fullShare (mainSt i x2 x4 x5 x6 s).x14
      ∗ owns (c : Thread nD τ) arg15 fullShare (mainSt i x2 x4 x5 x6 s).x15) -∗ K ⟨⟩))
    ⊢ wp frame (wpE (defs₀ (F := F)) Variants.none c none) E
        ((if k0_cond3 i = 1#1 then mainB i arg2 arg4 arg5 arg6 arg7 arg8 harg8 arg9 harg9 arg10 arg11 harg11 arg12 arg13 arg14 arg15 else pure ⟨⟩) >>= fun _ =>
          (if k0_cond4 i = 1#1 then lastB i arg7 arg9 harg9 arg10 arg11 arg14 else pure ⟨⟩) >>= fun _ => pure ⟨⟩) K := by
  by_cases h : k0_cond3 i = 1#1
  · rw [if_pos h, if_neg (fun h' => h34.mp h' h),
      show mainSt i x2 x4 x5 x6 s = ⟨hbV (i 1) (hOf x2 x4 x5 x6 s) s.x11, sqOf i x2 x4 x5 x6 s, totV i (sqOf i x2 x4 x5 x6 s) s.x13, s.x14, s.x15⟩ from if_pos h,
      show outH i x2 x4 x5 x6 x8 s = hOf x2 x4 x5 x6 s from if_pos h]
    unfold hOf sqOf outC outS
    simp only [pure_bind]
    rw [wp_bind]
    iintro ⟨⟨H2, H3, H4, H5, H6, H7, H8, H9, H10, H11, H12, H13, H14, H15⟩, HK⟩
    iapply (mainB_spec c E i arg2 harg2 arg4 harg4 arg5 harg5 arg6 harg6 arg7 harg7 arg8 harg8 arg9 harg9 arg10 harg10 arg11 harg11 arg12 harg12 arg13 harg13
      arg14 harg14 arg15 harg15 x2 x4 x5 x6 x7 x8 x9 x10 s.x11 s.x12 s.x13 s.x14 s.x15 _)
    isplitl [H2 H4 H5 H6 H7 H8 H9 H10 H11 H12 H13 H14 H15]
    · isplitl [H2]; · iexact H2
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    iintro ⟨H2, H4, H5, H6, H7, H8, H9, H10, H11, H12, H13, H14, H15⟩
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [if_neg h, if_pos (h34.mpr h),
      show mainSt i x2 x4 x5 x6 s = s from if_neg h,
      show outH i x2 x4 x5 x6 x8 s = x8 from if_neg h]
    unfold outC outS
    rw [pure_bind, wp_bind]
    iintro ⟨⟨H2, H3, H4, H5, H6, H7, H8, H9, H10, H11, H12, H13, H14, H15⟩, HK⟩
    iapply (lastB_spec c E i arg7 harg7 arg9 harg9 arg10 harg10 arg11 harg11 arg14 harg14 x7 x9 x10 s.x11 s.x14 _)
    isplitl [H7 H9 H10 H11 H14]
    · isplitl [H7]; · iexact H7
      isplitl [H9]; · iexact H9
      isplitl [H10]; · iexact H10
      isplitl [H11]; · iexact H11
      iexact H14
    iintro ⟨H7, H9, H10, H11, H14⟩
    sl_step
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body with its four parts bound one after another. -/
theorem body_binds (i : grid0.Coords)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    :
    body (F := F) i arg2 arg3 arg4 arg5 arg6 arg7 arg8 harg8 arg9 harg9 arg10 arg11 harg11 arg12 arg13 arg14 arg15 =
      ((if cond1 i = 1#1 then clearB arg11 harg11 arg12 arg13 else pure ⟨⟩) >>= fun _ =>
        (if cond2 i = 1#1 then rowB arg3 arg13 arg14 arg15 else pure ⟨⟩) >>= fun _ =>
        (if k0_cond3 i = 1#1 then mainB i arg2 arg4 arg5 arg6 arg7 arg8 harg8 arg9 harg9 arg10 arg11 harg11 arg12 arg13 arg14 arg15 else pure ⟨⟩) >>= fun _ =>
          (if k0_cond4 i = 1#1 then lastB i arg7 arg9 harg9 arg10 arg11 arg14 else pure ⟨⟩) >>= fun _ => pure ⟨⟩) := by
  unfold body
  by_cases h1 : cond1 i = 1#1 <;> by_cases h2 : cond2 i = 1#1 <;> by_cases h3 : k0_cond3 i = 1#1 <;> by_cases h4 : k0_cond4 i = 1#1 <;>
    simp only [h1, h2, h3, h4, if_true, if_false, pure_bind]

/-- The body at a point: from the state `s` it goes on from some `s'`, which is `s` except at the first point, and makes one step. -/
theorem body_spec (c : Dev nD) (E : Set ℕ) (i : grid0.Coords) (h34 : k0_cond4 i = 1#1 ↔ ¬ k0_cond3 i = 1#1)
    (arg2 : Memref sig .tc .vmem S512x16384 .fp8e4m3) (harg2 : arg2.IsWhole)
    (arg3 : Memref sig .tc .vmem S1x1x512 .f32) (harg3 : arg3.IsWhole)
    (arg4 : Memref sig .tc .vmem S16384x512 .fp8e4m3) (harg4 : arg4.IsWhole)
    (arg5 : Memref sig .tc .vmem S1x512 .f32) (harg5 : arg5.IsWhole)
    (arg6 : Memref sig .tc .vmem S512x512 .bf16) (harg6 : arg6.IsWhole)
    (arg7 : Memref sig .tc .vmem S1x512 .bf16) (harg7 : arg7.IsWhole)
    (arg8 : Memref sig .tc .vmem S512x512 .bf16) (harg8 : arg8.IsWhole)
    (arg9 : Memref sig .tc .vmem S512x512 .fp8e4m3) (harg9 : arg9.IsWhole)
    (arg10 : Memref sig .tc .vmem S512x104 .f32) (harg10 : arg10.IsWhole)
    (arg11 : Memref sig .tc .vmem S26x512x512 .bf16) (harg11 : arg11.IsWhole)
    (arg12 : Memref sig .tc .vmem S512x128 .f32) (harg12 : arg12.IsWhole)
    (arg13 : Memref sig .tc .vmem S4x128 .f32) (harg13 : arg13.IsWhole)
    (arg14 : Memref sig .tc .vmem S512x128 .f32) (harg14 : arg14.IsWhole)
    (arg15 : Memref sig .tc .vmem S512x128 .f32) (harg15 : arg15.IsWhole)
    (x2 : Vec F S512x16384 .fp8e4m3) (x3 : Vec F S1x1x512 .f32) (x4 : Vec F S16384x512 .fp8e4m3) (x5 : Vec F S1x512 .f32) (x6 : Vec F S512x512 .bf16)
    (x7 : Vec F S1x512 .bf16) (x8 : Vec F S512x512 .bf16) (x9 : Vec F S512x512 .fp8e4m3) (x10 : Vec F S512x104 .f32) (s : St F) (K : PUnit → sProp 𝕄) :
    iprop((owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare s.x11
      ∗ owns (c : Thread nD τ) arg12 fullShare s.x12
      ∗ owns (c : Thread nD τ) arg13 fullShare s.x13
      ∗ owns (c : Thread nD τ) arg14 fullShare s.x14
      ∗ owns (c : Thread nD τ) arg15 fullShare s.x15)
    ∗ ((∃ s', iprop(⌜¬ cond1 i = 1#1 → s' = s⌝ ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare (outH i x2 x4 x5 x6 x8 (rowSt i x3 s'))
      ∗ owns (c : Thread nD τ) arg9 fullShare (outC i x7 (rowSt i x3 s'))
      ∗ owns (c : Thread nD τ) arg10 fullShare (outS i x7 (rowSt i x3 s') x10)
      ∗ owns (c : Thread nD τ) arg11 fullShare (mainSt i x2 x4 x5 x6 (rowSt i x3 s')).x11
      ∗ owns (c : Thread nD τ) arg12 fullShare (mainSt i x2 x4 x5 x6 (rowSt i x3 s')).x12
      ∗ owns (c : Thread nD τ) arg13 fullShare (mainSt i x2 x4 x5 x6 (rowSt i x3 s')).x13
      ∗ owns (c : Thread nD τ) arg14 fullShare (mainSt i x2 x4 x5 x6 (rowSt i x3 s')).x14
      ∗ owns (c : Thread nD τ) arg15 fullShare (mainSt i x2 x4 x5 x6 (rowSt i x3 s')).x15)) -∗ K ⟨⟩))
    ⊢ wp frame (wpE (defs₀ (F := F)) Variants.none c none) E
        (body i arg2 arg3 arg4 arg5 arg6 arg7 arg8 harg8 arg9 harg9 arg10 arg11 harg11 arg12 arg13 arg14 arg15) K := by
  rw [body_binds i arg2 harg2 arg3 harg3 arg4 harg4 arg5 harg5 arg6 harg6 arg7 harg7 arg8 harg8 arg9 harg9 arg10 harg10 arg11 harg11 arg12 harg12 arg13 harg13 arg14 harg14 arg15 harg15, wp_bind]
  iintro ⟨⟨H2, H3, H4, H5, H6, H7, H8, H9, H10, H11, H12, H13, H14, H15⟩, HK⟩
  iapply (clearIf_spec c E i arg11 harg11 arg12 harg12 arg13 harg13 s _)
  isplitl [H11 H12 H13]
  · isplitl [H11]; · iexact H11
    isplitl [H12]; · iexact H12
    iexact H13
  iintro ⟨%s', %hs, H11, H12, H13⟩
  rw [← hs.2.1, ← hs.2.2, wp_bind]
  iapply (rowIf_spec c E i arg3 harg3 arg13 harg13 arg14 harg14 arg15 harg15 x3 s' _)
  isplitl [H3 H13 H14 H15]
  · isplitl [H3]; · iexact H3
    isplitl [H13]; · iexact H13
    isplitl [H14]; · iexact H14
    iexact H15
  iintro ⟨H3, H13, H14, H15⟩
  rw [← rowSt_x11 i x3 s', ← rowSt_x12 i x3 s']
  iapply (mainIf_spec c E i h34 arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 x10 (rowSt i x3 s') K)
  isplitl [H2 H3 H4 H5 H6 H7 H8 H9 H10 H11 H12 H13 H14 H15]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro ⟨H2, H3, H4, H5, H6, H7, H8, H9, H10, H11, H12, H13, H14, H15⟩
  iapply HK
  iexists s'
  isplitr
  · ipureintro; exact hs.1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Tiles

end
-- ==== Proof.Region.lean ====
/-
  The run of the kernel's grid: what is carried from point to point and what the body leaves in each window.
-/
module

public import proofs.«01_k».proof.Proof.Point
public import Idealize.ShloMosaic.Lib.Pipeline.ArrRel

@[expose] public section

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks of a point -/

def bX (c : Dev nD) (t : Fin cfg0.N) : Vec F S512x16384 .fp8e4m3 := iblk m c 0 t
def bXs (c : Dev nD) (t : Fin cfg0.N) : Vec F S1x1x512 .f32 := iblk m c 1 t
def bW (c : Dev nD) (t : Fin cfg0.N) : Vec F S16384x512 .fp8e4m3 := iblk m c 2 t
def bWs (c : Dev nD) (t : Fin cfg0.N) : Vec F S1x512 .f32 := iblk m c 3 t
def bRes (c : Dev nD) (t : Fin cfg0.N) : Vec F S512x512 .bf16 := iblk m c 4 t
def bGam (c : Dev nD) (t : Fin cfg0.N) : Vec F S1x512 .bf16 := iblk m c 5 t

/-- The state in which point `t`'s products start, from the state before it. -/
def midSt (c : Dev nD) (t : Fin cfg0.N) (s : St F) : St F := rowSt (grid0.coords t) (bXs m c t) s

/-- The state after point `t`. -/
def nextSt (c : Dev nD) (t : Fin cfg0.N) (s : St F) : St F :=
  mainSt (grid0.coords t) (bX m c t) (bW m c t) (bWs m c t) (bRes m c t) (midSt m c t s)

/-- The state before point `n` of a run that starts from `s`. -/
def stBefore (c : Dev nD) (s : St F) : ℕ → St F
  | 0 => s
  | n + 1 => if h : n < cfg0.N then nextSt m c ⟨n, h⟩ (stBefore c s n) else stBefore c s n

theorem stBefore_succ (c : Dev nD) (s : St F) (t : Fin cfg0.N) : stBefore m c s (t.val + 1) = nextSt m c t (stBefore m c s t.val) :=
  dif_pos t.isLt

/-- The state in which point `t`'s products start, in a run that starts from `s`. -/
def stMid (c : Dev nD) (s : St F) (t : Fin cfg0.N) : St F := midSt m c t (stBefore m c s t.val)

/-! ## The proof data -/

/-- What the body may leave in each window at a point: an input as found, an output as some run computes it. -/
def leftIn (c : Dev nD) : (w : Fin cfg0.W) → Fin cfg0.N → ((cfg0.win w).block.Idx → Elt F (cfg0.win w).elt) → ((cfg0.win w).block.Idx → Elt F (cfg0.win w).elt) → Prop
  | ⟨0, _⟩, _, Y, X | ⟨1, _⟩, _, Y, X | ⟨2, _⟩, _, Y, X | ⟨3, _⟩, _, Y, X | ⟨4, _⟩, _, Y, X | ⟨5, _⟩, _, Y, X => X = Y
  | ⟨6, _⟩, t, Y, X => ∃ s, X = outH (F := F) (grid0.coords t) (bX m c t) (bW m c t) (bWs m c t) (bRes m c t) Y (stMid m c s t)
  | ⟨7, _⟩, t, _, X => ∃ s, X = outC (F := F) (grid0.coords t) (bGam m c t) (stMid m c s t)
  | ⟨8, _⟩, t, Y, X => ∃ s, X = outS (F := F) (grid0.coords t) (bGam m c t) (stMid m c s t) Y
  | ⟨n + 9, h⟩, _, _, _ => absurd (show n + 9 < 9 from h) (by omega)

/-- The scratch buffers before point `n`: at anything before the first point, then at the state of some run. -/
def PhiN (c : Dev nD) : ℕ → sProp 𝕄
  | 0 => Pipeline.ΦA spec0 c
  | n + 1 => iprop((∃ s : St F, iprop(owns (c : Thread nD τ) scM0_0 fullShare (stBefore m c s (n + 1)).x11 ∗ owns (c : Thread nD τ) scM0_1 fullShare (stBefore m c s (n + 1)).x12 ∗ owns (c : Thread nD τ) scM0_2 fullShare (stBefore m c s (n + 1)).x13 ∗ owns (c : Thread nD τ) scM0_3 fullShare (stBefore m c s (n + 1)).x14 ∗ owns (c : Thread nD τ) scM0_4 fullShare (stBefore m c s (n + 1)).x15)) ∗ (∃ r, prngReg c r))

def rdat (c : Dev nD) : Pipeline.RDat τ (Elt F) Unit ℕ (UR sig nD τ) ℕ cfg0 c where
  A w := V m c (Pipeline.arrRef spec0 w)
  after := leftIn m c
  Φ t := PhiN m c t.val
  q _ := fullShare
  owed _ := 0
  recorded _ := Set.univ

/-- Before a point the scratch buffers hold some state; but for the first point, that of some run. -/
theorem PhiN_at (c : Dev nD) (n : ℕ) :
    PhiN (F := F) m c n ⊢ iprop((∃ s, ∃ s0 : St F, iprop(⌜n ≠ 0 → s = stBefore m c s0 n⌝ ∗ owns (c : Thread nD τ) scM0_0 fullShare s.x11 ∗ owns (c : Thread nD τ) scM0_1 fullShare s.x12 ∗ owns (c : Thread nD τ) scM0_2 fullShare s.x13 ∗ owns (c : Thread nD τ) scM0_3 fullShare s.x14 ∗ owns (c : Thread nD τ) scM0_4 fullShare s.x15)) ∗ (∃ r, prngReg c r)) := by
  cases n with
  | zero =>
    rw [show PhiN (F := F) m c 0 = Pipeline.ΦA spec0 c from rfl, PhiA0_eq]
    iintro ⟨⟨⟨%d0, H0⟩, ⟨%d1, H1⟩, ⟨%d2, H2⟩, ⟨%d3, H3⟩, ⟨%d4, H4⟩⟩, Hg⟩
    isplitl [H0 H1 H2 H3 H4]
    · iexists (⟨d0, d1, d2, d3, d4⟩ : St F)
      iexists (⟨d0, d1, d2, d3, d4⟩ : St F)
      isplitr
      · ipureintro; exact fun h => absurd rfl h
      isplitl [H0]; · iexact H0
      isplitl [H1]; · iexact H1
      isplitl [H2]; · iexact H2
      isplitl [H3]; · iexact H3
      iexact H4
    iexact Hg
  | succ n =>
    unfold PhiN
    iintro ⟨⟨%s, H⟩, Hg⟩
    isplitl [H]
    · iexists (stBefore m c s (n + 1))
      iexists s
      isplitr
      · ipureintro; exact fun _ => rfl
      iexact H
    iexact Hg

theorem hin (c : Dev nD) : Pipeline.ΦA spec0 c ⊢ (rdat (F := F) m c).Φ 0 := Idealize.SL.BI.Entails.refl _

theorem hout (c : Dev nD) : (rdat (F := F) m c).Φ (Fin.last cfg0.N) ⊢ Pipeline.ΦA spec0 c := by
  show PhiN (F := F) m c (Fin.last cfg0.N).val ⊢ _
  refine (PhiN_at m c _).trans ?_
  rw [PhiA0_eq]
  iintro ⟨⟨%s, %s0, -, H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

/-! ## What the body finds in the input windows -/

theorem finds_0 (c : Dev nD) (t : Fin cfg0.N) (Y) (h : (rdat (F := F) m c).Finds 0 t Y) : Y = bX m c t := by
  obtain ⟨d, hd⟩ := (rdat (F := F) m c).finds_in_eq_fetched 0 rfl (fun _ _ _ => rfl) (fun _ _ _ h => h) t Y h
  exact hd
theorem finds_1 (c : Dev nD) (t : Fin cfg0.N) (Y) (h : (rdat (F := F) m c).Finds 1 t Y) : Y = bXs m c t := by
  obtain ⟨d, hd⟩ := (rdat (F := F) m c).finds_in_eq_fetched 1 rfl (fun _ _ _ => rfl) (fun _ _ _ h => h) t Y h
  exact hd
theorem finds_2 (c : Dev nD) (t : Fin cfg0.N) (Y) (h : (rdat (F := F) m c).Finds 2 t Y) : Y = bW m c t := by
  obtain ⟨d, hd⟩ := (rdat (F := F) m c).finds_in_eq_fetched 2 rfl (fun _ _ _ => rfl) (fun _ _ _ h => h) t Y h
  exact hd
theorem finds_3 (c : Dev nD) (t : Fin cfg0.N) (Y) (h : (rdat (F := F) m c).Finds 3 t Y) : Y = bWs m c t := by
  obtain ⟨d, hd⟩ := (rdat (F := F) m c).finds_in_eq_fetched 3 rfl (fun _ _ _ => rfl) (fun _ _ _ h => h) t Y h
  exact hd
theorem finds_4 (c : Dev nD) (t : Fin cfg0.N) (Y) (h : (rdat (F := F) m c).Finds 4 t Y) : Y = bRes m c t := by
  obtain ⟨d, hd⟩ := (rdat (F := F) m c).finds_in_eq_fetched 4 rfl (fun _ _ _ => rfl) (fun _ _ _ h => h) t Y h
  exact hd
theorem finds_5 (c : Dev nD) (t : Fin cfg0.N) (Y) (h : (rdat (F := F) m c).Finds 5 t Y) : Y = bGam m c t := by
  obtain ⟨d, hd⟩ := (rdat (F := F) m c).finds_in_eq_fetched 5 rfl (fun _ _ _ => rfl) (fun _ _ _ h => h) t Y h
  exact hd

/-! ## The body obligation -/

theorem defs₀_row (t : Fin cfg0.N) :
    defs₀ (F := F) .tc cfg0.body (cfg0.bodyArgs t (cfg0.slots t)) = bodyAt0 t := by
  unfold defs₀; rw [Defs.onTc_tc]

theorem cond34 (t : Fin cfg0.N) : k0_cond4 (grid0.coords t) = 1#1 ↔ ¬ k0_cond3 (grid0.coords t) = 1#1 := by
  rw [cond4_iff, cond3_iff]; omega

theorem point_triple (c : Dev nD) (t : Fin cfg0.N) (Y6 : Vec F S512x512 .bf16) (Y7 : Vec F S512x512 .fp8e4m3) (Y8 : Vec F S512x104 .f32) :
    iprop((rdat (F := F) m c).Φ t.castSucc ∗ (rdat (F := F) m c).owesAt () t.castSucc
      ∗ owns (c : Thread nD τ) (ms0_0 t) fullShare (bX m c t) ∗ owns (c : Thread nD τ) (ms0_1 t) fullShare (bXs m c t)
      ∗ owns (c : Thread nD τ) (ms0_2 t) fullShare (bW m c t) ∗ owns (c : Thread nD τ) (ms0_3 t) fullShare (bWs m c t)
      ∗ owns (c : Thread nD τ) (ms0_4 t) fullShare (bRes m c t) ∗ owns (c : Thread nD τ) (ms0_5 t) fullShare (bGam m c t)
      ∗ owns (c : Thread nD τ) (ms0_6 t) fullShare Y6 ∗ owns (c : Thread nD τ) (ms0_7 t) fullShare Y7 ∗ owns (c : Thread nD τ) (ms0_8 t) fullShare Y8)
    ⊢ wp frame (wpE (defs₀ (F := F)) Variants.none c none) Set.univ (bodyAt0 t) fun _ =>
      iprop((rdat (F := F) m c).Φ t.succ ∗ (rdat (F := F) m c).owesAt () t.succ
      ∗ (∃ X, ⌜X = bX m c t⌝ ∗ owns (c : Thread nD τ) (ms0_0 t) fullShare X) ∗ (∃ X, ⌜X = bXs m c t⌝ ∗ owns (c : Thread nD τ) (ms0_1 t) fullShare X)
      ∗ (∃ X, ⌜X = bW m c t⌝ ∗ owns (c : Thread nD τ) (ms0_2 t) fullShare X) ∗ (∃ X, ⌜X = bWs m c t⌝ ∗ owns (c : Thread nD τ) (ms0_3 t) fullShare X)
      ∗ (∃ X, ⌜X = bRes m c t⌝ ∗ owns (c : Thread nD τ) (ms0_4 t) fullShare X) ∗ (∃ X, ⌜X = bGam m c t⌝ ∗ owns (c : Thread nD τ) (ms0_5 t) fullShare X)
      ∗ (∃ X, ⌜leftIn m c 6 t Y6 X⌝ ∗ owns (c : Thread nD τ) (ms0_6 t) fullShare X)
      ∗ (∃ X, ⌜leftIn m c 7 t Y7 X⌝ ∗ owns (c : Thread nD τ) (ms0_7 t) fullShare X)
      ∗ (∃ X, ⌜leftIn m c 8 t Y8 X⌝ ∗ owns (c : Thread nD τ) (ms0_8 t) fullShare X)) := by
  rw [show (rdat (F := F) m c).owesAt () t.succ = (rdat (F := F) m c).owesAt () t.castSucc from rfl,
    show (rdat (F := F) m c).Φ t.castSucc = PhiN m c t.val from rfl, show (rdat (F := F) m c).Φ t.succ = PhiN m c (t.val + 1) from rfl]
  refine (sep_mono (PhiN_at m c t.val) .rfl).trans ?_
  unfold bodyAt0
  rw [body_eq]
  iintro ⟨⟨⟨%s, %s0, %hs, HS0, HS1, HS2, HS3, HS4⟩, Hg⟩, Ho, H0, H1, H2, H3, H4, H5, H6, H7, H8⟩
  iapply (body_spec c Set.univ (grid0.coords t) (cond34 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)
    (bX m c t) (bXs m c t) (bW m c t) (bWs m c t) (bRes m c t) (bGam m c t) Y6 Y7 Y8 s _)
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iintro ⟨%s', %hs', H0, H1, H2, H3, H4, H5, H6, H7, H8, HS0, HS1, HS2, HS3, HS4⟩
  have hrun : ∃ r, s' = stBefore m c r t.val := by
    by_cases ht : t.val = 0
    · exact ⟨s', by rw [ht]; rfl⟩
    · exact ⟨s0, (hs' fun h => ht ((cond1_iff t).mp h)).trans (hs ht)⟩
  obtain ⟨r, rfl⟩ := hrun
  isplitl [HS0 HS1 HS2 HS3 HS4 Hg]
  · unfold PhiN
    isplitl [HS0 HS1 HS2 HS3 HS4]
    · iexists r
      rw [stBefore_succ m c r t]
      isplitl [HS0]; · iexact HS0
      isplitl [HS1]; · iexact HS1
      isplitl [HS2]; · iexact HS2
      isplitl [HS3]; · iexact HS3
      iexact HS4
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; exact ⟨r, rfl⟩
  isplitl [H7]
  · iexists _; isplitr
    swap; · iexact H7
    ipureintro; exact ⟨r, rfl⟩
  iexists _; isplitr
  swap; · iexact H8
  ipureintro; exact ⟨r, rfl⟩

theorem body_obligation (c : Dev nD) : (rdat (F := F) m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  have h5 := finds_5 m c t _ (hY 5)
  rw [bigSep_W0, bigSep_W0, defs₀_row]
  have key := point_triple m c t (Y 6) (Y 7) (Y 8)
  rw [← h0, ← h1, ← h2, ← h3, ← h4, ← h5] at key
  exact triple_restated key rfl .rfl fun _ => .rfl

/-! ## The run -/

set_option backward.isDefEq.respectTransparency.types false in
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => (rdat m c).share_full (fun _ => rfl) w)
    (howed := fun _ _ => rfl) (V := V m) (hmain := hmain m Variants.none) (hA := fun _ _ => rfl) (hin := hin m) (hout := hout m)

end Cert.KernelIdeal.Tiles

end
-- ==== Proof.TileVals.lean ====
/-
  What the kernel's tiles hold at an index, over the extended reals.
-/
module

public import proofs.«01_k».proof.Proof.Region
public import Idealize.ShloMosaic.Lib.Pointwise
public import Idealize.ShloMosaic.Lib.Pipeline.ValueKit

@[expose] public section

set_option maxRecDepth 16384

noncomputable section

namespace Cert.KernelIdeal.Tiles

open Idealize.ShloMosaic Idealize.SL.Sem Cert.KernelIdeal.Gen

/-! ## Indices and windows -/

theorem tIx_eq (r : Fin 32) (l : Fin 128) : tIx r l = ix2 r l := funext fun a => by fin_cases a <;> rfl
theorem bIx_eq (r : Fin 512) (l : Fin 512) : bIx r l = ix2 r l := funext fun a => by fin_cases a <;> rfl
theorem cIx_eq (r : Fin 32) (l : Fin 104) : cIx r l = ix2 r l := funext fun a => by fin_cases a <;> rfl
theorem rIx_eq (l : Fin 128) : rIx l = ix2 0 l := funext fun a => by fin_cases a <;> rfl
theorem qIx_eq (r l : Fin 128) : qIx r l = ix2 r l := funext fun a => by fin_cases a <;> rfl

variable {α : Type}

theorem winH_at (x : S26x512x512.Idx → α) (j : Fin 26) (s : Fin 16) (g : Fin 4) (r : Fin 32) (l : Fin 128) :
    winH x j s g (ix3 0 r l) = x (ix3 j ⟨32 * s.val + r.val, by omega⟩ ⟨128 * g.val + l.val, by omega⟩) := by
  unfold winH VecWindow.window
  exact congrArg x (funext fun a => Fin.ext ((ValueKit.rect_emb_unit_val _ _ _ _ _).trans (by fin_cases a <;> first | rfl | exact Nat.zero_add _)))

theorem winB_at (x : S512x512.Idx → α) (s : Fin 16) (g : Fin 4) (r : Fin 32) (l : Fin 128) :
    winB x s g (ix2 r l) = x (ix2 ⟨32 * s.val + r.val, by omega⟩ ⟨128 * g.val + l.val, by omega⟩) := by
  unfold winB VecWindow.window
  exact congrArg x (funext fun a => Fin.ext ((ValueKit.rect_emb_unit_val _ _ _ _ _).trans (by fin_cases a <;> first | rfl | exact Nat.zero_add _)))

theorem winL_at (x : S512x128.Idx → α) (s : Fin 16) (r : Fin 32) (l : Fin 128) :
    winL x s (ix2 r l) = x (ix2 ⟨32 * s.val + r.val, by omega⟩ l) := by
  unfold winL VecWindow.window
  exact congrArg x (funext fun a => Fin.ext ((ValueKit.rect_emb_unit_val _ _ _ _ _).trans (by fin_cases a <;> first | rfl | exact Nat.zero_add _)))

theorem winC_at (x : S512x104.Idx → α) (s : Fin 16) (r : Fin 32) (l : Fin 104) :
    winC x s (ix2 r l) = x (ix2 ⟨32 * s.val + r.val, by omega⟩ l) := by
  unfold winC VecWindow.window
  exact congrArg x (funext fun a => Fin.ext ((ValueKit.rect_emb_unit_val _ _ _ _ _).trans (by fin_cases a <;> first | rfl | exact Nat.zero_add _)))

theorem winQ_at (x : S512x128.Idx → α) (q : Fin 4) (r l : Fin 128) :
    winQ x q (ix2 r l) = x (ix2 ⟨128 * q.val + r.val, by omega⟩ l) := by
  unfold winQ VecWindow.window
  exact congrArg x (funext fun a => Fin.ext ((ValueKit.rect_emb_unit_val _ _ _ _ _).trans (by fin_cases a <;> first | rfl | exact Nat.zero_add _)))

theorem winR_at (x : S4x128.Idx → α) (q : Fin 4) (l : Fin 128) : winR x q (ix2 0 l) = x (ix2 q l) := by
  unfold winR VecWindow.window
  exact congrArg x (funext fun a => Fin.ext ((ValueKit.rect_emb_unit_val _ _ _ _ _).trans (by fin_cases a <;> first | rfl | exact Nat.zero_add _)))

/-! ## The projection -/

theorem accV_at (x : Vec Ideal S512x16384 .fp8e4m3) (w : Vec Ideal S16384x512 .fp8e4m3) (r l : Fin 512) :
    accV x w (ix2 r l) = ∑ k : Fin 16384, x (ix2 r k) * w (ix2 k l) := by
  pointwise [accV]

theorem wsV_eq (x : Vec Ideal S1x512 .f32) (l : Fin 512) : wsV x (ix2 0 l) = x (ix2 0 l) := by
  pointwise [wsV]

theorem gamV_eq (x : Vec Ideal S1x512 .bf16) (l : Fin 512) : gamV x (ix2 0 l) = x (ix2 0 l) := by
  pointwise [gamV]

theorem xsT_at (x : Vec Ideal S1x1x512 .f32) (r : Fin 512) (l : Fin 128) : xsT x (ix2 r l) = x (ix3 0 0 r) := by
  pointwise [xsT]

theorem hAt_at (acc : FVec Ideal S512x512 .f32) (ws : FVec Ideal S1x512 .f32) (x15 : Vec Ideal S512x128 .f32) (x6 : Vec Ideal S512x512 .bf16)
    (s : Fin 16) (g : Fin 4) (r : Fin 32) (l : Fin 128) :
    hAt acc ws x15 x6 s g (ix2 r l) = x6 (ix2 ⟨32 * s.val + r.val, by omega⟩ ⟨128 * g.val + l.val, by omega⟩)
      + acc (ix2 ⟨32 * s.val + r.val, by omega⟩ ⟨128 * g.val + l.val, by omega⟩) * x15 (ix2 ⟨32 * s.val + r.val, by omega⟩ l)
        * ws (ix2 0 ⟨128 * g.val + l.val, by omega⟩) := by
  pointwise [hAt, hT, winB_at, winL_at]

theorem hV_at (acc : FVec Ideal S512x512 .f32) (ws : FVec Ideal S1x512 .f32) (x15 : Vec Ideal S512x128 .f32) (x6 : Vec Ideal S512x512 .bf16)
    (r c : Fin 512) :
    hV acc ws x15 x6 (ix2 r c) = x6 (ix2 r c) + acc (ix2 r c) * x15 (ix2 r ⟨c.val % 128, by omega⟩) * ws (ix2 0 c) := by
  have e : hV acc ws x15 x6 (ix2 r c) = hAt acc ws x15 x6 ⟨r.val / 32, by omega⟩ ⟨c.val / 128, by omega⟩ (ix2 ⟨r.val % 32, by omega⟩ ⟨c.val % 128, by omega⟩) :=
    congrArg (hAt acc ws x15 x6 _ _) (tIx_eq _ _)
  rw [e, hAt_at]
  simp only [Nat.div_add_mod]

/-- The projection at a place of a tile. -/
theorem hAt_eq_hV (acc : FVec Ideal S512x512 .f32) (ws : FVec Ideal S1x512 .f32) (x15 : Vec Ideal S512x128 .f32) (x6 : Vec Ideal S512x512 .bf16)
    (r : Fin 512) (g : Fin 4) (l : Fin 128) :
    hAt acc ws x15 x6 (sOf r) g (ix2 ⟨r.val % 32, by omega⟩ l) = hV acc ws x15 x6 (ix2 r ⟨128 * g.val + l.val, by omega⟩) := by
  rw [hV_at, hAt_at]
  have e1 : (⟨32 * (sOf r).val + r.val % 32, by omega⟩ : Fin 512) = r := Fin.ext (Nat.div_add_mod _ _)
  have e2 : (⟨(128 * g.val + l.val) % 128, by omega⟩ : Fin 128) = l := Fin.ext (by show (128 * g.val + l.val) % 128 = l.val; omega)
  simp only [e1, e2]

/-! ## The sums of squares -/

theorem sqV_at (i : grid0.Coords) (acc : FVec Ideal S512x512 .f32) (ws : FVec Ideal S1x512 .f32) (x15 : Vec Ideal S512x128 .f32)
    (x6 : Vec Ideal S512x512 .bf16) (x12 : Vec Ideal S512x128 .f32) (r : Fin 512) (l : Fin 128) :
    sqV i acc ws x15 x6 x12 (ix2 r l) = Scalar.select (oddBit i) (x12 (ix2 r l)) 0
      + ∑ g : Fin 4, hV acc ws x15 x6 (ix2 r ⟨128 * g.val + l.val, by omega⟩) * hV acc ws x15 x6 (ix2 r ⟨128 * g.val + l.val, by omega⟩) := by
  have e : sqV i acc ws x15 x6 x12 (ix2 r l) = sqStrip i acc ws x15 x6 (sOf r) (winL x12 (sOf r)) (ix2 ⟨r.val % 32, by omega⟩ l) :=
    congrArg (sqStrip i acc ws x15 x6 _ _) (tIx_eq _ _)
  have e1 : (⟨32 * (sOf r).val + r.val % 32, by omega⟩ : Fin 512) = r := Fin.ext (Nat.div_add_mod _ _)
  rw [e]
  simp only [← hAt_eq_hV, Fin.sum_univ_four]
  pointwise [sqStrip, sqAdd, winL_at]
  simp only [e1, add_assoc]

theorem laneSums_at (v : Vec Ideal S128x128 .f32) (r : Fin 128) : laneSums v (ix2 0 r) = ∑ l : Fin 128, v (ix2 r l) := by
  pointwise [laneSums, rot, octSum, oct]
  obtain ⟨g, hg⟩ : ∃ g : ℕ → EReal, ∀ l : Fin 128, v (ix2 r l) = g l.val :=
    ⟨fun n => if h : n < 128 then v (ix2 r ⟨n, h⟩) else 0, fun l => by simp⟩
  simp only [hg, Fin.sum_univ_eq_sum_range, Finset.sum_range_succ, Finset.sum_range_zero, zero_add]
  simp only [Fin.coe_ofNat_eq_mod, Nat.reduceMod]
  ac_rfl

theorem totV_at (i : grid0.Coords) (x12 : Vec Ideal S512x128 .f32) (x13 : Vec Ideal S4x128 .f32) (q : Fin 4) (l : Fin 128) :
    totV i x12 x13 (ix2 q l) = x13 (ix2 q l) + Scalar.select (oddBit i) (∑ k : Fin 128, x12 (ix2 ⟨128 * q.val + l.val, by omega⟩ k)) 0 := by
  have e : totV i x12 x13 (ix2 q l) = totUpd (oddBit i) (winR x13 q) (winQ x12 q) (ix2 0 l) := congrArg (totUpd _ _ _) (rIx_eq _)
  rw [e]
  pointwise [totUpd, winR_at, laneSums_at, winQ_at]

/-- The reciprocal root of a row's mean square, of the row's sum of squares. -/
def rootOf (t : EReal) : EReal :=
  FloatOps.rsqrt (F := Ideal) (φ := .f32) (t * Named.named (F := Ideal) κ "inv_n" (φ := .f32) 0x389D89D9#32 + Ideal.ofBits .f32 0x3727C5AC#32)

theorem rinvV_at (x13 : Vec Ideal S4x128 .f32) (r : Fin 512) (l : Fin 128) :
    rinvV x13 (ix2 r l) = rootOf (x13 (ix2 ⟨r.val / 128, by omega⟩ ⟨r.val % 128, by omega⟩)) := by
  have e : rinvV x13 (ix2 r l) = rinvT x13 ⟨r.val / 128, by omega⟩ (ix2 ⟨r.val % 128, by omega⟩ l) := congrArg (rinvT _ _) (qIx_eq _ _)
  rw [e]
  pointwise [rinvT, rootOf]

/-! ## The norm, the codes and the scales -/

theorem normAt_at (j : Fin 26) (x14 : Vec Ideal S512x128 .f32) (gam : FVec Ideal S1x512 .f32) (x11 : Vec Ideal S26x512x512 .bf16) (s : Fin 16) (g : Fin 4)
    (r : Fin 32) (l : Fin 128) :
    normAt j x14 gam x11 s g (ix2 r l) = x11 (ix3 j ⟨32 * s.val + r.val, by omega⟩ ⟨128 * g.val + l.val, by omega⟩)
      * x14 (ix2 ⟨32 * s.val + r.val, by omega⟩ l) * gam (ix2 0 ⟨128 * g.val + l.val, by omega⟩) := by
  pointwise [normAt, normT, winH_at, winL_at]

/-- The bound of a group: its greatest absolute value over 448. -/
def tOf (n : Fin 128 → EReal) : EReal :=
  Finset.fold max (Ideal.ofBits .f32 0xFF800000#32) (fun l => FloatOps.absf (F := Ideal) (φ := .f32) (n l)) Finset.univ * Ideal.ofBits .f32 0x3B124925#32

/-- The greatest power of two, as a bit pattern, that a bound reaches. -/
def fieldOf (t : EReal) : BitVec 32 :=
  IntOp.andi (Finset.fold IntOp.maxsi 2147483648#32
    (fun k : Fin 256 => if Ideal.ofBits .f32 (IntOp.shli .vector (BitVec.ofNat 32 k.val) 23#32) ≤ t then IntOp.shli .vector (BitVec.ofNat 32 k.val) 23#32 else 0#32)
    Finset.univ) 2139095040#32

/-- The bit pattern of the scale of a bound. -/
def sbOf (t : EReal) : BitVec 32 :=
  Scalar.select (IntOp.andi (IntOp.cmpi .ne (fieldOf t) 0#32) (IntOp.cmpi .ne (fieldOf t) 2139095040#32)) (IntOp.addi (fieldOf t) 8388608#32) 1065353216#32

/-- The scale of a bound. -/
def scOf (t : EReal) : EReal := Ideal.ofBits .f32 (sbOf t)
/-- The reciprocal of the scale of a bound. -/
def invOf (t : EReal) : EReal := Ideal.ofBits .f32 (IntOp.subi 2130706432#32 (sbOf t))

/-- A value clipped to the codes' range. -/
def clipOf (v : EReal) : EReal := min (Ideal.ofBits .f32 0x43E00000#32) (max (Ideal.ofBits .f32 0xC3E00000#32) v)

theorem sbT_at (n : FVec Ideal S32x128 .f32) (r : Fin 32) : sbT n (ix2 r 0) = sbOf (tOf fun l => n (ix2 r l)) := by
  pointwise [sbT, scaleBits, fieldT, thrBits, boundT, sbOf, fieldOf, tOf]

theorem codesT_at (n : FVec Ideal S32x128 .f32) (r : Fin 32) (l : Fin 128) :
    codesT n (ix2 r l) = clipOf (n (ix2 r l) * invOf (tOf fun l => n (ix2 r l))) := by
  pointwise [codesT, invT, sbT_at, clipOf, invOf]

theorem codesV_at (j : Fin 26) (x14 : Vec Ideal S512x128 .f32) (gam : FVec Ideal S1x512 .f32) (x11 : Vec Ideal S26x512x512 .bf16)
    (n : ℕ → EReal) (r c : Fin 512) (hn : ∀ c' : Fin 512, x11 (ix3 j r c') * x14 (ix2 r ⟨c'.val % 128, by omega⟩) * gam (ix2 0 c') = n c'.val) :
    codesV j x14 gam x11 (ix2 r c) = clipOf (n c.val * invOf (tOf fun l => n (128 * (c.val / 128) + l.val))) := by
  have e : codesV j x14 gam x11 (ix2 r c)
      = codesT (normAt j x14 gam x11 ⟨r.val / 32, by omega⟩ ⟨c.val / 128, by omega⟩) (ix2 ⟨r.val % 32, by omega⟩ ⟨c.val % 128, by omega⟩) :=
    congrArg (codesT (normAt j x14 gam x11 _ _)) (tIx_eq _ _)
  have hl : ∀ l : Fin 128, normAt j x14 gam x11 ⟨r.val / 32, by omega⟩ ⟨c.val / 128, by omega⟩ (ix2 ⟨r.val % 32, by omega⟩ l) = n (128 * (c.val / 128) + l.val) := by
    intro l
    rw [normAt_at, ← hn ⟨128 * (c.val / 128) + l.val, by omega⟩]
    have e2 : (⟨(128 * (c.val / 128) + l.val) % 128, by omega⟩ : Fin 128) = l := Fin.ext (by show (128 * (c.val / 128) + l.val) % 128 = l.val; omega)
    simp only [Nat.div_add_mod, e2]
  rw [e, codesT_at, hl]
  simp only [hl, Nat.div_add_mod]

theorem col_eq (k : Fin 104) (j : Fin 26) (g : Fin 4) :
    IntOp.cmpi .eq (BitVec.ofNat 32 k.val) (IntOp.addi (IntOp.muli (BitVec.ofNat 32 j.val) 4#32) (BitVec.ofNat 32 g.val)) = BitVec.ofBool (decide (k.val = 4 * j.val + g.val)) := by
  revert k j g
  decide +kernel

theorem scaleUpd_at (i : grid0.Coords) (g : Fin 4) (n : FVec Ideal S32x128 .f32) (sc : FVec Ideal S32x104 .f32) (r : Fin 32) (k : Fin 104) :
    scaleUpd i g n sc (ix2 r k) = if k.val = 4 * (i 1).val + g.val then scOf (tOf fun l => n (ix2 r l)) else sc (ix2 r k) := by
  pointwise [scaleUpd, scaleT, sbT_at, scOf, Scalar.addi, Scalar.muli]
  rw [col_eq k (i 1) g]
  by_cases h : k.val = 4 * (i 1).val + g.val
  · rw [if_pos h, decide_eq_true h]
    rfl
  · rw [if_neg h, decide_eq_false h]
    rfl

theorem scaleV_at (i : grid0.Coords) (x14 : Vec Ideal S512x128 .f32) (gam : FVec Ideal S1x512 .f32) (x11 : Vec Ideal S26x512x512 .bf16)
    (x10 : Vec Ideal S512x104 .f32) (n : ℕ → EReal) (r : Fin 512) (k : Fin 104)
    (hn : ∀ c' : Fin 512, x11 (ix3 (i 1) r c') * x14 (ix2 r ⟨c'.val % 128, by omega⟩) * gam (ix2 0 c') = n c'.val) :
    scaleV i x14 gam x11 x10 (ix2 r k) = if k.val / 4 = (i 1).val then scOf (tOf fun l => n (128 * (k.val % 4) + l.val)) else x10 (ix2 r k) := by
  have e : scaleV i x14 gam x11 x10 (ix2 r k) = scaleStrip i x14 gam x11 (sOf r) (winC x10 (sOf r)) (ix2 ⟨r.val % 32, by omega⟩ k) :=
    congrArg (scaleStrip i x14 gam x11 _ _) (cIx_eq _ _)
  have e1 : (⟨32 * (sOf r).val + r.val % 32, by omega⟩ : Fin 512) = r := Fin.ext (Nat.div_add_mod _ _)
  have hl : ∀ (g : Fin 4) (l : Fin 128), normAt (i 1) x14 gam x11 (sOf r) g (ix2 ⟨r.val % 32, by omega⟩ l) = n (128 * g.val + l.val) := by
    intro g l
    refine (normAt_at (i 1) x14 gam x11 _ _ _ _).trans (Eq.trans ?_ (hn ⟨128 * g.val + l.val, by omega⟩))
    have e2 : (⟨(128 * g.val + l.val) % 128, by omega⟩ : Fin 128) = l := Fin.ext (by show (128 * g.val + l.val) % 128 = l.val; omega)
    simp only [e1, e2]
  rw [e]
  unfold scaleStrip
  simp only [scaleUpd_at, hl]
  pointwise [winC_at]
  simp only [e1]
  generalize hj : (i 1).val = j
  by_cases h : k.val / 4 = j
  · rw [if_pos h]
    have h4 : k.val % 4 = 0 ∨ k.val % 4 = 1 ∨ k.val % 4 = 2 ∨ k.val % 4 = 3 := by omega
    rcases h4 with h4 | h4 | h4 | h4
    · rw [if_neg (by omega), if_neg (by omega), if_neg (by omega), if_pos (by omega)]
      simp only [h4, Nat.mul_zero, Nat.zero_add]
    · rw [if_neg (by omega), if_neg (by omega), if_pos (by omega)]
      simp only [h4, Nat.mul_one]
    · rw [if_neg (by omega), if_pos (by omega)]
      simp only [h4, Nat.reduceMul]
    · rw [if_pos (by omega)]
      simp only [h4, Nat.reduceMul]
  · rw [if_neg h, if_neg (by omega), if_neg (by omega), if_neg (by omega), if_neg (by omega)]

end Cert.KernelIdeal.Tiles

end
-- ==== Proof.Spec.lean ====
/-
  The projection, the norm, the codes and the scales, as functions of row and column over the whole arrays.
-/
module

public import proofs.«01_k».proof.Proof.TileVals

@[expose] public section

set_option maxRecDepth 16384

noncomputable section

namespace Cert.Spec

open Idealize.ShloMosaic Cert.KernelIdeal.Tiles

/-- The arguments by row and column; out of range they are zero. -/
structure In where
  /-- The codes of the left operand. -/
  x : ℕ → ℕ → EReal
  /-- The row scales. -/
  xs : ℕ → EReal
  /-- The codes of the right operand. -/
  w : ℕ → ℕ → EReal
  /-- The column scales. -/
  ws : ℕ → EReal
  /-- The residual. -/
  res : ℕ → ℕ → EReal
  /-- The weight of the norm. -/
  gam : ℕ → EReal

/-- The arguments' arrays by row and column. -/
def inOf (a0 : (⟨3, ![3, 4096, 16384]⟩ : Shape).Idx → EReal) (a1 : (⟨3, ![3, 4096, 1]⟩ : Shape).Idx → EReal)
    (a2 : (⟨2, ![16384, 13312]⟩ : Shape).Idx → EReal) (a3 : (⟨1, ![13312]⟩ : Shape).Idx → EReal)
    (a4 : (⟨3, ![3, 4096, 13312]⟩ : Shape).Idx → EReal) (a5 : (⟨1, ![13312]⟩ : Shape).Idx → EReal) : In where
  x R k := if h : R < 12288 ∧ k < 16384 then a0 (ix3 ⟨R / 4096, by omega⟩ ⟨R % 4096, by omega⟩ ⟨k, h.2⟩) else 0
  xs R := if h : R < 12288 then a1 (ix3 ⟨R / 4096, by omega⟩ ⟨R % 4096, by omega⟩ 0) else 0
  w k C := if h : k < 16384 ∧ C < 13312 then a2 (ix2 ⟨k, h.1⟩ ⟨C, h.2⟩) else 0
  ws C := if h : C < 13312 then a3 (ix1 ⟨C, h⟩) else 0
  res R C := if h : R < 12288 ∧ C < 13312 then a4 (ix3 ⟨R / 4096, by omega⟩ ⟨R % 4096, by omega⟩ ⟨C, h.2⟩) else 0
  gam C := if h : C < 13312 then a5 (ix1 ⟨C, h⟩) else 0

variable (I : In)

/-- The projection. -/
def h (R C : ℕ) : EReal := I.res R C + (∑ k : Fin 16384, I.x R k.val * I.w k.val C) * I.xs R * I.ws C

/-- The sum of squares of one block of 512 columns of a row. -/
def sq (R J : ℕ) : EReal := ∑ l : Fin 128, ∑ g : Fin 4, h I R (512 * J + (128 * g.val + l.val)) * h I R (512 * J + (128 * g.val + l.val))

/-- The sum of squares of the first `J` blocks of columns of a row. -/
def ssq (R J : ℕ) : EReal := ∑ J' ∈ Finset.range J, sq I R J'

/-- The reciprocal root of a row's mean square. -/
def root (R : ℕ) : EReal := rootOf (ssq I R 26)

/-- The normalised row. -/
def n (R C : ℕ) : EReal := h I R C * root I R * I.gam C

/-- The bound of a group of 128 columns. -/
def t (R G : ℕ) : EReal := tOf fun l => n I R (128 * G + l.val)

/-- The codes. -/
def code (R C : ℕ) : EReal := clipOf (n I R C * invOf (t I R (C / 128)))

/-- The scales. -/
def scale (R G : ℕ) : EReal := scOf (t I R G)

end Cert.Spec

end
-- ==== Proof.Reads.lean ====
/-
  What the blocks of a grid point hold of the arguments.
-/
module

public import proofs.«01_k».proof.Proof.Spec
public import Idealize.ShloMosaic.Lib.StableHlo.ReadAt

@[expose] public section

set_option maxRecDepth 16384

noncomputable section

namespace Cert.KernelIdeal.Tiles

open Idealize.ShloMosaic Idealize.ShloMosaic.TcCoe Idealize.SL.Sem Cert.KernelIdeal.Gen
open Idealize.ShloMosaic.Pipeline (Dat Cfg Window)

variable (m : (ℓ : Loc nD τ sig) → Buf (Elt Ideal) ℓ) (c : Dev nD)

/-- The arguments by row and column. -/
def inp : Cert.Spec.In :=
  Cert.Spec.inOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem index_0 : ∀ t : Fin cfg0.N, win0_0.index t = ![min (t.val / 26) 23, 0] := by decide +kernel
theorem index_1 : ∀ t : Fin cfg0.N, win0_1.index t = ![min (t.val / 26) 23, 0, 0] := by decide +kernel
theorem index_2 : ∀ t : Fin cfg0.N, win0_2.index t = ![0, if t.val < 624 then t.val % 26 else 25] := by decide +kernel
theorem index_3 : ∀ t : Fin cfg0.N, win0_3.index t = ![0, t.val % 26] := by decide +kernel
theorem index_4 : ∀ t : Fin cfg0.N, win0_4.index t = ![min (t.val / 26) 23, if t.val < 624 then t.val % 26 else 25] := by decide +kernel
theorem index_5 : ∀ t : Fin cfg0.N, win0_5.index t = ![0, t.val % 26] := by decide +kernel
theorem index_6 : ∀ t : Fin cfg0.N, win0_6.index t = ![min (t.val / 26) 23, if t.val < 624 then t.val % 26 else 25] := by decide +kernel
theorem index_7 : ∀ t : Fin cfg0.N, win0_7.index t = ![t.val / 26 - 1, if t.val < 26 then 0 else t.val % 26] := by decide +kernel
theorem index_8 : ∀ t : Fin cfg0.N, win0_8.index t = ![t.val / 26 - 1, 0] := by decide +kernel

theorem V_v0_at (R : Fin 12288) (k : Fin 16384) :
    V m c main_v0 (ix2 R k) = m ((c.tc : Thread nD τ).loc main_arg0) (ix3 ⟨R.val / 4096, by omega⟩ ⟨R.val % 4096, by omega⟩ k) := by
  unfold V
  after_reads_at

theorem V_v1_at (a : Fin 24) (b : Fin 512) :
    V m c main_v1 (ix3 a 0 b) = m ((c.tc : Thread nD τ).loc main_arg1) (ix3 ⟨(512 * a.val + b.val) / 4096, by omega⟩ ⟨(512 * a.val + b.val) % 4096, by omega⟩ 0) := by
  unfold V
  after_reads_at
  have e1 : (512 * a.val + b.val) / 4096 = a.val / 8 := by omega
  have e2 : (512 * a.val + b.val) % 4096 = a.val % 8 * 512 + b.val := by omega
  simp only [e1, e2]

theorem V_v2_at (C : Fin 13312) : V m c main_v2 (ix2 0 C) = m ((c.tc : Thread nD τ).loc main_arg3) (ix1 C) := by
  unfold V
  after_reads_at

theorem V_v3_at (R : Fin 12288) (C : Fin 13312) :
    V m c main_v3 (ix2 R C) = m ((c.tc : Thread nD τ).loc main_arg4) (ix3 ⟨R.val / 4096, by omega⟩ ⟨R.val % 4096, by omega⟩ C) := by
  unfold V
  after_reads_at

theorem V_v4_at (C : Fin 13312) : V m c main_v4 (ix2 0 C) = m ((c.tc : Thread nD τ).loc main_arg5) (ix1 C) := by
  unfold V
  after_reads_at

theorem emb_0 (t : Fin cfg0.N) (r : Fin 512) (k : Fin 16384) :
    ((cfg0.win 0).blk t).view.emb (ix2 r k) = ix2 (⟨512 * min (t.val / 26) 23 + r.val, by omega⟩ : Fin 12288) k := by
  blk_ext [index_0 t]
theorem emb_1 (t : Fin cfg0.N) (r : Fin 512) :
    ((cfg0.win 1).blk t).view.emb (ix3 0 0 r) = ix3 (⟨min (t.val / 26) 23, by omega⟩ : Fin 24) 0 r := by
  blk_ext [index_1 t]
theorem emb_2 (t : Fin cfg0.N) (k : Fin 16384) (l : Fin 512) :
    ((cfg0.win 2).blk t).view.emb (ix2 k l) = ix2 k (⟨512 * (if t.val < 624 then t.val % 26 else 25) + l.val, by split <;> omega⟩ : Fin 13312) := by
  blk_ext [index_2 t]
theorem emb_3 (t : Fin cfg0.N) (l : Fin 512) :
    ((cfg0.win 3).blk t).view.emb (ix2 0 l) = ix2 0 (⟨512 * (t.val % 26) + l.val, by omega⟩ : Fin 13312) := by
  blk_ext [index_3 t]
theorem emb_4 (t : Fin cfg0.N) (r l : Fin 512) :
    ((cfg0.win 4).blk t).view.emb (ix2 r l) = ix2 (⟨512 * min (t.val / 26) 23 + r.val, by omega⟩ : Fin 12288)
      (⟨512 * (if t.val < 624 then t.val % 26 else 25) + l.val, by split <;> omega⟩ : Fin 13312) := by
  blk_ext [index_4 t]
theorem emb_5 (t : Fin cfg0.N) (l : Fin 512) :
    ((cfg0.win 5).blk t).view.emb (ix2 0 l) = ix2 0 (⟨512 * (t.val % 26) + l.val, by omega⟩ : Fin 13312) := by
  blk_ext [index_5 t]

theorem bX_at (t : Fin cfg0.N) (r : Fin 512) (k : Fin 16384) : bX m c t (ix2 r k) = (inp m c).x (512 * min (t.val / 26) 23 + r.val) k.val := by
  have hb : 512 * min (t.val / 26) 23 + r.val < 12288 ∧ k.val < 16384 := ⟨by omega, k.isLt⟩
  refine Eq.trans ?_ (dif_pos hb).symm
  exact ((congrArg (V m c main_v0) (emb_0 t r k)).trans (V_v0_at m c _ _))

theorem bXs_at (t : Fin cfg0.N) (r : Fin 512) : bXs m c t (ix3 0 0 r) = (inp m c).xs (512 * min (t.val / 26) 23 + r.val) := by
  have hb : 512 * min (t.val / 26) 23 + r.val < 12288 := by omega
  refine Eq.trans ?_ (dif_pos hb).symm
  exact ((congrArg (V m c main_v1) (emb_1 t r)).trans (V_v1_at m c _ _))

theorem bW_at (t : Fin cfg0.N) (ht : t.val < 624) (k : Fin 16384) (l : Fin 512) : bW m c t (ix2 k l) = (inp m c).w k.val (512 * (t.val % 26) + l.val) := by
  have hb : k.val < 16384 ∧ 512 * (t.val % 26) + l.val < 13312 := ⟨k.isLt, by omega⟩
  refine ((congrArg (V m c main_arg2) (emb_2 t k l)).trans ?_).trans (dif_pos hb).symm
  simp only [if_pos ht]
  rw [V_main_arg2]

theorem bWs_at (t : Fin cfg0.N) (l : Fin 512) : bWs m c t (ix2 0 l) = (inp m c).ws (512 * (t.val % 26) + l.val) := by
  have hb : 512 * (t.val % 26) + l.val < 13312 := by omega
  refine Eq.trans ?_ (dif_pos hb).symm
  exact ((congrArg (V m c main_v2) (emb_3 t l)).trans (V_v2_at m c _))

theorem bRes_at (t : Fin cfg0.N) (ht : t.val < 624) (r l : Fin 512) :
    bRes m c t (ix2 r l) = (inp m c).res (512 * min (t.val / 26) 23 + r.val) (512 * (t.val % 26) + l.val) := by
  have hb : 512 * min (t.val / 26) 23 + r.val < 12288 ∧ 512 * (t.val % 26) + l.val < 13312 := by omega
  refine ((congrArg (V m c main_v3) (emb_4 t r l)).trans (V_v3_at m c _ _)).trans (Eq.trans ?_ (dif_pos hb).symm)
  simp only [if_pos ht]

theorem bGam_at (t : Fin cfg0.N) (l : Fin 512) : bGam m c t (ix2 0 l) = (inp m c).gam (512 * (t.val % 26) + l.val) := by
  have hb : 512 * (t.val % 26) + l.val < 13312 := by omega
  refine Eq.trans ?_ (dif_pos hb).symm
  exact ((congrArg (V m c main_v4) (emb_5 t l)).trans (V_v4_at m c _))

end Cert.KernelIdeal.Tiles

end
-- ==== Proof.Carried.lean ====
/-
  What the scratch buffers hold before each point of the grid.
-/
module

public import proofs.«01_k».proof.Proof.Reads

@[expose] public section

set_option maxRecDepth 16384

noncomputable section

namespace Cert.KernelIdeal.Tiles

open Idealize.ShloMosaic Idealize.ShloMosaic.TcCoe Idealize.SL.Sem Cert.KernelIdeal.Gen
open Idealize.ShloMosaic.Pipeline (Dat Cfg Window)

variable (m : (ℓ : Loc nD τ sig) → Buf (Elt Ideal) ℓ) (c : Dev nD)

/-- What is known of the state before point `n`: the blocks of `h` that the ring still holds, the row scales, the sums of squares and
    the reciprocal roots. -/
structure Inv (n : ℕ) (S : St Ideal) : Prop where
  h11 : ∀ i' (j' : Fin 26), i' ≤ 23 → 26 * i' + j'.val < n → (n ≤ 26 * (i' + 1) + j'.val ∨ i' = 23) →
    ∀ r l : Fin 512, S.x11 (ix3 j' r l) = Cert.Spec.h (inp m c) (512 * i' + r.val) (512 * j'.val + l.val)
  h15 : n % 26 ≠ 0 → ∀ (r : Fin 512) (l : Fin 128), S.x15 (ix2 r l) = (inp m c).xs (512 * min (n / 26) 23 + r.val)
  h12 : n % 2 = 1 → n < 624 → ∀ (r : Fin 512) (l : Fin 128), S.x12 (ix2 r l)
    = ∑ g : Fin 4, Cert.Spec.h (inp m c) (512 * (n / 26) + r.val) (512 * (n % 26 - 1) + (128 * g.val + l.val))
        * Cert.Spec.h (inp m c) (512 * (n / 26) + r.val) (512 * (n % 26 - 1) + (128 * g.val + l.val))
  h13 : n % 26 ≠ 0 → n < 624 → ∀ (q : Fin 4) (l : Fin 128), S.x13 (ix2 q l)
    = Cert.Spec.ssq (inp m c) (512 * (n / 26) + (128 * q.val + l.val)) (2 * (n % 26 / 2))
  h13' : n % 26 = 0 → 0 < n → n ≤ 624 → ∀ (q : Fin 4) (l : Fin 128), S.x13 (ix2 q l)
    = Cert.Spec.ssq (inp m c) (512 * (n / 26 - 1) + (128 * q.val + l.val)) 26
  h14 : n % 26 ≠ 0 → 26 ≤ n → ∀ (r : Fin 512) (l : Fin 128), S.x14 (ix2 r l) = Cert.Spec.root (inp m c) (512 * (n / 26 - 1) + r.val)

/-- What is known of the state in which point `n`'s products start. -/
structure Mid (n : ℕ) (S : St Ideal) : Prop where
  h15 : ∀ (r : Fin 512) (l : Fin 128), S.x15 (ix2 r l) = (inp m c).xs (512 * min (n / 26) 23 + r.val)
  h13 : n < 624 → ∀ (q : Fin 4) (l : Fin 128), S.x13 (ix2 q l)
    = Cert.Spec.ssq (inp m c) (512 * (n / 26) + (128 * q.val + l.val)) (2 * (n % 26 / 2))
  h14 : 26 ≤ n → ∀ (r : Fin 512) (l : Fin 128), S.x14 (ix2 r l) = Cert.Spec.root (inp m c) (512 * (n / 26 - 1) + r.val)

theorem midSt_x11 (t : Fin cfg0.N) (S : St Ideal) : (midSt m c t S).x11 = S.x11 := rowSt_x11 _ _ _
theorem midSt_x12 (t : Fin cfg0.N) (S : St Ideal) : (midSt m c t S).x12 = S.x12 := rowSt_x12 _ _ _

theorem zero13_at (q : Fin 4) (l : Fin 128) : zero13 (F := Ideal) (ix2 q l) = 0 := by
  pointwise [zero13]

theorem mid_of_inv (t : Fin cfg0.N) (S : St Ideal) (hS : Inv m c t.val S) : Mid m c t.val (midSt m c t S) := by
  have ht : t.val < 650 := Nat.lt_of_lt_of_eq t.isLt N_0
  by_cases h0 : t.val % 26 = 0
  · have e : midSt m c t S = ⟨S.x11, S.x12, zero13 (F := Ideal), rinvV S.x13, xsT (bXs m c t)⟩ := if_pos ((cond2_iff t).mpr h0)
    rw [e]
    refine ⟨fun r l => ?_, fun h q l => ?_, fun h r l => ?_⟩
    · show xsT (bXs m c t) (ix2 r l) = _
      rw [xsT_at, bXs_at]
    · show zero13 (F := Ideal) (ix2 q l) = _
      rw [zero13_at, h0]
      exact (Finset.sum_range_zero _).symm
    · show rinvV S.x13 (ix2 r l) = _
      rw [rinvV_at]
      refine congrArg rootOf ?_
      rw [hS.h13' h0 (by omega) (by omega)]
      exact congrArg (fun R => Cert.Spec.ssq (inp m c) R 26) (by show 512 * (t.val / 26 - 1) + (128 * (r.val / 128) + r.val % 128) = _; omega)
  · have e : midSt m c t S = S := if_neg (mt (cond2_iff t).mp h0)
    rw [e]
    exact ⟨hS.h15 h0, fun h => hS.h13 h0 h, fun h => hS.h14 h0 h⟩

/-- The block of `h` of a point. -/
theorem hOf_at (t : Fin cfg0.N) (ht : t.val < 624) (S : St Ideal) (hS : Mid m c t.val S) (r l : Fin 512) :
    hOf (bX m c t) (bW m c t) (bWs m c t) (bRes m c t) S (ix2 r l) = Cert.Spec.h (inp m c) (512 * (t.val / 26) + r.val) (512 * (t.val % 26) + l.val) := by
  have e : min (t.val / 26) 23 = t.val / 26 := by omega
  unfold hOf Cert.Spec.h
  rw [hV_at, accV_at, wsV_eq, hS.h15, bWs_at, bRes_at m c t ht]
  simp only [bX_at, bW_at m c t ht, e]

theorem oddBit_eq (t : Fin cfg0.N) : oddBit (grid0.coords t) = BitVec.ofBool (decide (t.val % 2 = 1)) := by
  revert t
  decide +kernel

theorem sqOf_at (t : Fin cfg0.N) (ht : t.val < 624) (S : St Ideal) (hS : Mid m c t.val S) (r : Fin 512) (l : Fin 128) :
    sqOf (grid0.coords t) (bX m c t) (bW m c t) (bWs m c t) (bRes m c t) S (ix2 r l)
      = (if t.val % 2 = 1 then S.x12 (ix2 r l) else 0)
        + ∑ g : Fin 4, Cert.Spec.h (inp m c) (512 * (t.val / 26) + r.val) (512 * (t.val % 26) + (128 * g.val + l.val))
          * Cert.Spec.h (inp m c) (512 * (t.val / 26) + r.val) (512 * (t.val % 26) + (128 * g.val + l.val)) := by
  have e : ∀ g : Fin 4, hV (accV (bX m c t) (bW m c t)) (wsV (bWs m c t)) S.x15 (bRes m c t) (ix2 r ⟨128 * g.val + l.val, by omega⟩)
      = Cert.Spec.h (inp m c) (512 * (t.val / 26) + r.val) (512 * (t.val % 26) + (128 * g.val + l.val)) := fun g => hOf_at m c t ht S hS r _
  unfold sqOf
  rw [sqV_at, oddBit_eq]
  simp only [e]
  congr 1
  by_cases h : t.val % 2 = 1
  · rw [if_pos h, decide_eq_true h]; rfl
  · rw [if_neg h, decide_eq_false h]; rfl

theorem ssq_succ2 (I : Cert.Spec.In) (R J : ℕ) : Cert.Spec.ssq I R (J + 2) = Cert.Spec.ssq I R J + (Cert.Spec.sq I R J + Cert.Spec.sq I R (J + 1)) := by
  unfold Cert.Spec.ssq
  rw [Finset.sum_range_succ, Finset.sum_range_succ, add_assoc]

theorem inv_next (t : Fin cfg0.N) (S : St Ideal) (hS : Inv m c t.val S) : Inv m c (t.val + 1) (nextSt m c t S) := by
  have ht : t.val < 650 := Nat.lt_of_lt_of_eq t.isLt N_0
  have hM := mid_of_inv m c t S hS
  have c1 := coord1 t
  by_cases h3 : t.val < 624
  · have e : nextSt m c t S = ⟨hbV (grid0.coords t 1) (hOf (bX m c t) (bW m c t) (bWs m c t) (bRes m c t) (midSt m c t S)) (midSt m c t S).x11,
        sqOf (grid0.coords t) (bX m c t) (bW m c t) (bWs m c t) (bRes m c t) (midSt m c t S),
        totV (grid0.coords t) (sqOf (grid0.coords t) (bX m c t) (bW m c t) (bWs m c t) (bRes m c t) (midSt m c t S)) (midSt m c t S).x13,
        (midSt m c t S).x14, (midSt m c t S).x15⟩ := if_pos ((cond3_iff t).mpr h3)
    -- the row sums grow by the pair of blocks that an odd column completes
    have tot : ∀ (q : Fin 4) (l : Fin 128), (nextSt m c t S).x13 (ix2 q l)
        = Cert.Spec.ssq (inp m c) (512 * (t.val / 26) + (128 * q.val + l.val)) (2 * ((t.val % 26 + 1) / 2)) := by
      intro q l
      rw [e]
      refine (totV_at _ _ _ _ _).trans ?_
      rw [hM.h13 h3, oddBit_eq]
      by_cases h : t.val % 2 = 1
      · rw [decide_eq_true h]
        have hs : ∑ k : Fin 128, sqOf (grid0.coords t) (bX m c t) (bW m c t) (bWs m c t) (bRes m c t) (midSt m c t S)
              (ix2 ⟨128 * q.val + l.val, by omega⟩ k)
            = ∑ k : Fin 128, ((∑ g : Fin 4, Cert.Spec.h (inp m c) (512 * (t.val / 26) + (128 * q.val + l.val)) (512 * (t.val % 26 - 1) + (128 * g.val + k.val))
                * Cert.Spec.h (inp m c) (512 * (t.val / 26) + (128 * q.val + l.val)) (512 * (t.val % 26 - 1) + (128 * g.val + k.val)))
              + (∑ g : Fin 4, Cert.Spec.h (inp m c) (512 * (t.val / 26) + (128 * q.val + l.val)) (512 * (t.val % 26) + (128 * g.val + k.val))
                * Cert.Spec.h (inp m c) (512 * (t.val / 26) + (128 * q.val + l.val)) (512 * (t.val % 26) + (128 * g.val + k.val)))) :=
          Finset.sum_congr rfl fun k _ => by
            rw [sqOf_at m c t h3 _ hM, if_pos h, midSt_x12, hS.h12 h h3]
        refine (congrArg (fun z => Cert.Spec.ssq (inp m c) (512 * (t.val / 26) + (128 * q.val + l.val)) (2 * (t.val % 26 / 2)) + z) hs).trans ?_
        · show _ + _ = _
          rw [Finset.sum_add_distrib]
          have e1 : 2 * ((t.val % 26 + 1) / 2) = 2 * (t.val % 26 / 2) + 2 := by omega
          have e2 : t.val % 26 - 1 = 2 * (t.val % 26 / 2) := by omega
          have e3 : t.val % 26 = 2 * (t.val % 26 / 2) + 1 := by omega
          rw [e1, ssq_succ2, e2]
          unfold Cert.Spec.sq
          rw [← e3]
      · rw [decide_eq_false h]
        refine (add_zero _).trans ?_
        rw [show 2 * ((t.val % 26 + 1) / 2) = 2 * (t.val % 26 / 2) by omega]
    refine ⟨fun i' j' hi hj hw r l => ?_, fun h r l => ?_, fun h h' r l => ?_, fun h h' q l => ?_, fun h h' h'' q l => ?_, fun h h' r l => ?_⟩
    · rw [e]
      refine Eq.trans (show _ = if j'.val = (grid0.coords t 1).val then
        hOf (bX m c t) (bW m c t) (bWs m c t) (bRes m c t) (midSt m c t S) (bIx r l) else (midSt m c t S).x11 (ix3 j' r l) from rfl) ?_
      by_cases hj' : j'.val = (grid0.coords t 1).val
      · refine (if_pos hj').trans ?_
        rw [show i' = t.val / 26 by omega, hj', c1]
        refine Eq.trans (congrArg _ (bIx_eq _ _)) (hOf_at m c t h3 _ hM r l)
      · refine (if_neg hj').trans ?_
        rw [midSt_x11]
        exact hS.h11 i' j' hi (by omega) (by omega) r l
    · rw [e]
      refine (hM.h15 r l).trans ?_
      rw [show (t.val + 1) / 26 = t.val / 26 by omega]
    · rw [e]
      refine (sqOf_at m c t h3 _ hM r l).trans ?_
      rw [if_neg (by omega), zero_add, show (t.val + 1) / 26 = t.val / 26 by omega, show (t.val + 1) % 26 - 1 = t.val % 26 by omega]
    · rw [tot, show (t.val + 1) / 26 = t.val / 26 by omega, show (t.val + 1) % 26 = t.val % 26 + 1 by omega]
    · rw [tot, show (t.val + 1) / 26 - 1 = t.val / 26 by omega, show 2 * ((t.val % 26 + 1) / 2) = 26 by omega]
    · rw [e]
      refine (hM.h14 (by omega) r l).trans ?_
      rw [show (t.val + 1) / 26 = t.val / 26 by omega]
  · have e : nextSt m c t S = midSt m c t S := if_neg (mt (cond3_iff t).mp h3)
    rw [e]
    refine ⟨fun i' j' hi hj hw r l => ?_, fun h r l => ?_, fun h h' r l => ?_, fun h h' q l => ?_, fun h h' h'' q l => ?_, fun h h' r l => ?_⟩
    · rw [midSt_x11]
      exact hS.h11 i' j' hi (by omega) (by omega) r l
    · refine (hM.h15 r l).trans ?_
      rw [show (t.val + 1) / 26 = t.val / 26 by omega]
    · omega
    · omega
    · omega
    · refine (hM.h14 (by omega) r l).trans ?_
      rw [show (t.val + 1) / 26 = t.val / 26 by omega]

theorem inv_zero (S : St Ideal) : Inv m c 0 S :=
  ⟨fun _ _ _ h => absurd h (Nat.not_lt_zero _), fun h => absurd rfl h, fun h => absurd h (by decide), fun h => absurd rfl h,
    fun _ h => absurd h (Nat.lt_irrefl _), fun h => absurd rfl h⟩

/-- Every run's state before every point. -/
theorem inv_before (s : St Ideal) (n : ℕ) (hn : n ≤ 650) : Inv m c n (stBefore m c s n) := by
  induction n with
  | zero => exact inv_zero m c s
  | succ n ih =>
    have h : n < cfg0.N := Nat.lt_of_lt_of_eq (by omega) N_0.symm
    exact (stBefore_succ m c s ⟨n, h⟩) ▸ inv_next m c ⟨n, h⟩ _ (ih (by omega))

theorem mid_at (s : St Ideal) (t : Fin cfg0.N) : Mid m c t.val (stMid m c s t) :=
  mid_of_inv m c t _ (inv_before m c s t.val (Nat.le_of_lt (Nat.lt_of_lt_of_eq t.isLt N_0)))

/-- The normalised row that a point quantises. -/
theorem norm_at (s : St Ideal) (t : Fin cfg0.N) (ht : 26 ≤ t.val) (r l : Fin 512) :
    (stMid m c s t).x11 (ix3 (grid0.coords t 1) r l) * (stMid m c s t).x14 (ix2 r ⟨l.val % 128, by omega⟩) * gamV (bGam m c t) (ix2 0 l)
      = Cert.Spec.n (inp m c) (512 * (t.val / 26 - 1) + r.val) (512 * (t.val % 26) + l.val) := by
  have ht' : t.val < 650 := Nat.lt_of_lt_of_eq t.isLt N_0
  have c1 := coord1 t
  have e := (inv_before m c s t.val (Nat.le_of_lt ht')).h11 (t.val / 26 - 1) (grid0.coords t 1) (by omega) (by omega) (by omega) r l
  rw [gamV_eq, bGam_at, (mid_at m c s t).h14 ht]
  unfold stMid
  rw [midSt_x11, e, c1]
  rfl

end Cert.KernelIdeal.Tiles

end
-- ==== Proof.Arrays.lean ====
/-
  What the kernel's results hold after the run.
-/
module

public import proofs.«01_k».proof.Proof.Carried

@[expose] public section

set_option maxRecDepth 16384

noncomputable section

namespace Cert.KernelIdeal.Tiles

open Idealize.ShloMosaic Idealize.ShloMosaic.TcCoe Idealize.SL.Sem Cert.KernelIdeal.Gen
open Idealize.ShloMosaic.Pipeline (Dat Cfg Window)

variable (m : (ℓ : Loc nD τ sig) → Buf (Elt Ideal) ℓ) (ρ : Dev nD → PrngReg) (c : Dev nD)

/-! ## When the result windows are written back -/

theorem flush_6 : ∀ t : Fin cfg0.N, (cfg0.win 6).flush t = true → t.val < 623 ∨ t.val = 649 := by decide +kernel
theorem keep_6 : ∀ t : Fin cfg0.N, 623 ≤ t.val → t.val < 649 → (cfg0.win 6).flush t = false := by decide +kernel
theorem flush_7 : ∀ t : Fin cfg0.N, (cfg0.win 7).flush t = true → 26 ≤ t.val := by decide +kernel
theorem flush_8 : ∀ t : Fin cfg0.N, (cfg0.win 8).flush t = true → 26 ≤ t.val ∧ t.val % 26 = 25 := by decide +kernel
theorem keep_8 : ∀ t : Fin cfg0.N, t.val % 26 ≠ 25 → (cfg0.win 8).flush t = false := by decide +kernel

/-! ## What the body leaves in the result windows -/

theorem left_6_main (t : Fin cfg0.N) (ht : t.val < 624) (X : Vec Ideal S512x512 .bf16) (hX : (rdat (F := Ideal) m c).Leaves 6 t X) (r l : Fin 512) :
    X (ix2 r l) = Cert.Spec.h (inp m c) (512 * (t.val / 26) + r.val) (512 * (t.val % 26) + l.val) := by
  obtain ⟨Y, _, s, e⟩ := hX
  rw [e]
  refine (congrFun (if_pos ((cond3_iff t).mpr ht)) (ix2 r l)).trans ?_
  exact hOf_at m c t ht _ (mid_at m c s t) r l

theorem left_6_last (n : ℕ) (hn : 623 + n < 650) (X : Vec Ideal S512x512 .bf16)
    (hX : (rdat (F := Ideal) m c).Leaves 6 ⟨623 + n, Nat.lt_of_lt_of_eq hn N_0.symm⟩ X) (r l : Fin 512) :
    X (ix2 r l) = Cert.Spec.h (inp m c) (512 * 23 + r.val) (512 * 25 + l.val) := by
  induction n generalizing X with
  | zero => exact left_6_main m c ⟨623, Nat.lt_of_lt_of_eq hn N_0.symm⟩ (by show 623 < 624; omega) X hX r l |>.trans (by show Cert.Spec.h (inp m c) (512 * (623 / 26) + r.val) (512 * (623 % 26) + l.val) = _; norm_num)
  | succ n ih =>
    obtain ⟨Y, hY, s, e⟩ := hX
    have hY' := (((rdat (F := Ideal) m c).finds_of_pos (w := 6) rfl (by show 623 + (n + 1) ≠ 0; omega) Y).mp hY).resolve_left (by
      intro h
      have := keep_6 ⟨623 + n, Nat.lt_of_lt_of_eq (by omega) N_0.symm⟩ (by show 623 ≤ 623 + n; omega) (by show 623 + n < 649; omega)
      rw [show ((cfg0.win 6).flush ⟨623 + n, _⟩ = true) from h] at this
      exact absurd this (by decide))
    rw [e]
    refine (congrFun (if_neg (mt (cond3_iff _).mp (by show ¬ 623 + (n + 1) < 624; omega))) (ix2 r l)).trans ?_
    exact ih (by omega) Y hY'

theorem left_7 (t : Fin cfg0.N) (ht : 26 ≤ t.val) (X : Vec Ideal S512x512 .fp8e4m3) (hX : (rdat (F := Ideal) m c).Leaves 7 t X) (r l : Fin 512) :
    X (ix2 r l) = Cert.Spec.code (inp m c) (512 * (t.val / 26 - 1) + r.val) (512 * (t.val % 26) + l.val) := by
  obtain ⟨Y, _, s, e⟩ := hX
  rw [e]
  refine (codesV_at _ _ _ _ (fun C => Cert.Spec.n (inp m c) (512 * (t.val / 26 - 1) + r.val) (512 * (t.val % 26) + C)) r l
    (fun c' => norm_at m c s t ht r c')).trans ?_
  unfold Cert.Spec.code Cert.Spec.t
  have e1 : ∀ k : Fin 128, 128 * ((512 * (t.val % 26) + l.val) / 128) + k.val = 512 * (t.val % 26) + (128 * (l.val / 128) + k.val) := fun k => by omega
  simp only [e1]

/-- The four columns of scales that a point writes. -/
theorem outS_at (i j : ℕ) (hi : 1 ≤ i) (hj : j < 26) (Y : Vec Ideal S512x104 .f32) (s : St Ideal) (t : Fin cfg0.N) (htv : t.val = 26 * i + j)
    (r : Fin 512) (k : Fin 104) : outS (F := Ideal) (grid0.coords t) (bGam m c t) (stMid m c s t) Y (ix2 r k)
      = if k.val / 4 = j then Cert.Spec.scale (inp m c) (512 * (i - 1) + r.val) k.val else Y (ix2 r k) := by
  have c1 := coord1 t
  have ej : t.val % 26 = j := by omega
  have ei : t.val / 26 - 1 = i - 1 := by omega
  refine (scaleV_at _ _ _ _ _ (fun C => Cert.Spec.n (inp m c) (512 * (t.val / 26 - 1) + r.val) (512 * (t.val % 26) + C)) r k
    (fun c' => norm_at m c s t (by omega) r c')).trans ?_
  rw [c1, ej, ei]
  by_cases h : k.val / 4 = j
  · rw [if_pos h, if_pos h]
    unfold Cert.Spec.scale Cert.Spec.t
    have e1 : ∀ l : Fin 128, 128 * k.val + l.val = 512 * j + (128 * (k.val % 4) + l.val) := fun l => by omega
    simp only [e1]
  · rw [if_neg h, if_neg h]

theorem left_8 (i j : ℕ) (hi : 1 ≤ i) (hi' : i < 25) (hj : j < 26) (X : Vec Ideal S512x104 .f32)
    (hX : (rdat (F := Ideal) m c).Leaves 8 ⟨26 * i + j, Nat.lt_of_lt_of_eq (by omega) N_0.symm⟩ X) (r : Fin 512) (k : Fin 104) (hk : k.val / 4 ≤ j) :
    X (ix2 r k) = Cert.Spec.scale (inp m c) (512 * (i - 1) + r.val) k.val := by
  induction j generalizing X with
  | zero =>
    obtain ⟨Y, _, s, e⟩ := hX
    rw [e]
    exact (outS_at m c i 0 hi hj Y s _ rfl r k).trans (if_pos (Nat.le_zero.mp hk))
  | succ j ih =>
    obtain ⟨Y, hY, s, e⟩ := hX
    rw [e]
    refine (outS_at m c i (j + 1) hi hj Y s _ rfl r k).trans ?_
    by_cases h : k.val / 4 = j + 1
    · exact if_pos h
    · refine (if_neg h).trans ?_
      have hY' := (((rdat (F := Ideal) m c).finds_of_pos (w := 8) rfl (by show 26 * i + (j + 1) ≠ 0; omega) Y).mp hY).resolve_left (by
        intro h
        have := keep_8 ⟨26 * i + j, Nat.lt_of_lt_of_eq (by omega) N_0.symm⟩ (by show (26 * i + j) % 26 ≠ 25; omega)
        rw [show ((cfg0.win 8).flush ⟨26 * i + j, _⟩ = true) from h] at this
        exact absurd this (by decide))
      exact ih (by omega) Y hY' (by omega)

/-! ## The arrays -/

theorem emb_6 (t : Fin cfg0.N) (r l : Fin 512) :
    ((cfg0.win 6).blk t).view.emb (ix2 r l) = ix2 (⟨512 * min (t.val / 26) 23 + r.val, by omega⟩ : Fin 12288)
      (⟨512 * (if t.val < 624 then t.val % 26 else 25) + l.val, by split <;> omega⟩ : Fin 13312) := by
  blk_ext [index_6 t]
theorem emb_7 (t : Fin cfg0.N) (r l : Fin 512) :
    ((cfg0.win 7).blk t).view.emb (ix2 r l) = ix2 (⟨512 * (t.val / 26 - 1) + r.val, by have := Nat.lt_of_lt_of_eq t.isLt N_0; omega⟩ : Fin 12288)
      (⟨512 * (if t.val < 26 then 0 else t.val % 26) + l.val, by split <;> omega⟩ : Fin 13312) := by
  blk_ext [index_7 t]
theorem emb_8 (t : Fin cfg0.N) (r : Fin 512) (k : Fin 104) :
    ((cfg0.win 8).blk t).view.emb (ix2 r k) = ix2 (⟨512 * (t.val / 26 - 1) + r.val, by have := Nat.lt_of_lt_of_eq t.isLt N_0; omega⟩ : Fin 12288) k := by
  blk_ext [index_8 t]

/-- The array of the projection. -/
def hArr (I : Cert.Spec.In) : (⟨2, ![12288, 13312]⟩ : Shape).Idx → EReal := fun y => Cert.Spec.h I (y 0).val (y 1).val
/-- The array of the codes. -/
def codeArr (I : Cert.Spec.In) : (⟨2, ![12288, 13312]⟩ : Shape).Idx → EReal := fun y => Cert.Spec.code I (y 0).val (y 1).val
/-- The array of the scales. -/
def scaleArr (I : Cert.Spec.In) : (⟨2, ![12288, 104]⟩ : Shape).Idx → EReal := fun y => Cert.Spec.scale I (y 0).val (y 1).val

variable (after : (w' : Fin cfg0.W) → Fin cfg0.N → (cfg0.win w').block.Idx → Elt Ideal (cfg0.win w').elt)
  (hL : ∀ (w : Fin cfg0.W) (u : Fin cfg0.N), (cfg0.win w).flush u = true → (rdat (F := Ideal) m c).Leaves w u (after w u))

include hL in
theorem arr_6 : ((rdat (F := Ideal) m c).withAfter after).arrAt 6 cfg0.N = hArr (inp m c) := by
  refine ((rdat (F := Ideal) m c).withAfter after).arrAt_eq_of_covers 6 (hArr (inp m c)) (by decide +kernel) fun t hf y => ?_
  have hy := hL 6 t hf
  have ht : t.val < 650 := Nat.lt_of_lt_of_eq t.isLt N_0
  idx_vars y
  refine Eq.trans (show _ = (after 6 t : Vec Ideal S512x512 .bf16) (ix2 y0 y1) from rfl) (Eq.trans ?_ (congrArg (hArr (inp m c)) (emb_6 t y0 y1)).symm)
  show _ = Cert.Spec.h (inp m c) (512 * min (t.val / 26) 23 + y0.val) (512 * (if t.val < 624 then t.val % 26 else 25) + y1.val)
  rcases flush_6 t hf with h | h
  · refine (left_6_main m c t (by omega) _ hy y0 y1).trans ?_
    rw [if_pos (by omega), show min (t.val / 26) 23 = t.val / 26 by omega]
  · obtain rfl : t = ⟨623 + 26, Nat.lt_of_lt_of_eq (by decide) N_0.symm⟩ := Fin.ext h
    exact left_6_last m c 26 (by decide) _ hy y0 y1

include hL in
theorem arr_7 : ((rdat (F := Ideal) m c).withAfter after).arrAt 7 cfg0.N = codeArr (inp m c) := by
  refine ((rdat (F := Ideal) m c).withAfter after).arrAt_eq_of_covers 7 (codeArr (inp m c)) (by decide +kernel) fun t hf y => ?_
  have hy := hL 7 t hf
  have h := flush_7 t hf
  idx_vars y
  refine Eq.trans (show _ = (after 7 t : Vec Ideal S512x512 .fp8e4m3) (ix2 y0 y1) from rfl) (Eq.trans ?_ (congrArg (codeArr (inp m c)) (emb_7 t y0 y1)).symm)
  show _ = Cert.Spec.code (inp m c) (512 * (t.val / 26 - 1) + y0.val) (512 * (if t.val < 26 then 0 else t.val % 26) + y1.val)
  rw [if_neg (by omega)]
  exact left_7 m c t h _ hy y0 y1

include hL in
theorem arr_8 : ((rdat (F := Ideal) m c).withAfter after).arrAt 8 cfg0.N = scaleArr (inp m c) := by
  refine ((rdat (F := Ideal) m c).withAfter after).arrAt_eq_of_covers 8 (scaleArr (inp m c)) (by decide +kernel) fun t hf y => ?_
  have hy := hL 8 t hf
  have h := flush_8 t hf
  have ht : t.val < 650 := Nat.lt_of_lt_of_eq t.isLt N_0
  idx_vars y
  refine Eq.trans (show _ = (after 8 t : Vec Ideal S512x104 .f32) (ix2 y0 y1) from rfl) (Eq.trans ?_ (congrArg (scaleArr (inp m c)) (emb_8 t y0 y1)).symm)
  have key : ∀ (i : ℕ) (u : Fin cfg0.N) (X : Vec Ideal S512x104 .f32), u.val = 26 * i + 25 → 1 ≤ i → (rdat (F := Ideal) m c).Leaves 8 u X →
      X (ix2 y0 y1) = Cert.Spec.scale (inp m c) (512 * (i - 1) + y0.val) y1.val := by
    rintro i ⟨_, hu⟩ X rfl hi hX
    have hu' := Nat.lt_of_lt_of_eq hu N_0
    exact left_8 m c i 25 hi (by omega) (by decide) X hX y0 y1 (by omega)
  exact key (t.val / 26) t _ (by omega) (by omega) hy

/-! ## The run -/

/-- After a run the three results hold the projection, the codes and the scales of the arguments, and the arguments are as they were. -/
theorem run_values : θ_run defs (onTc (τ := τ) (main (F := Ideal))) ⟨m, fun _ => 0, ρ⟩ (fun r => ∀ c : Dev nD,
      r.2.mem ((c.tc : Thread nD τ).loc main_v5_0) = hArr (inp m c)
      ∧ r.2.mem ((c.tc : Thread nD τ).loc main_v5_1) = codeArr (inp m c)
      ∧ r.2.mem ((c.tc : Thread nD τ).loc main_v5_2) = scaleArr (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
    obtain ⟨after, hL, hA⟩ := h.1.exists_exact c
    exact ⟨(hA 6).trans (arr_6 m c after hL), (hA 7).trans (arr_7 m c after hL), (hA 8).trans (arr_8 m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.KernelIdeal.Tiles

end
-- ==== Proof.RefVals.lean ====
/-
  What the reference's body computes at an index, over the extended reals.
-/
module

public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Ref

open Idealize.ShloMosaic Idealize.ShloMosaic.TcCoe Idealize.SL.Sem Cert.ReferenceIdeal.Gen

variable (x : Vec Ideal S12288x16384 .fp8e4m3) (xs : Vec Ideal S12288x1 .f32) (w : Vec Ideal S16384x13312 .fp8e4m3)
  (ws : Vec Ideal S1x13312 .f32) (res : Vec Ideal S12288x13312 .bf16) (gam : Vec Ideal S1x13312 .bf16)

theorem pay4_at (R : Fin 12288) (C : Fin 13312) : k0_pay4 x w res xs ws (ix2 R C)
    = res (ix2 R C) + (∑ k : Fin 16384, x (ix2 R k) * w (ix2 k C)) * xs (ix2 R 0) * ws (ix2 0 C) := by
  pointwise [k0_pay4]

theorem pay5_at (R : Fin 12288) (G : Fin 104) (l : Fin 128) : k0_pay5 x w res xs ws gam (ix3 R G l)
    = k0_pay4 x w res xs ws (ix2 R ⟨128 * G.val + l.val, by omega⟩)
      * Ideal.rsqrt (Ideal.div (∑ C : Fin 13312, k0_pay4 x w res xs ws (ix2 R C) * k0_pay4 x w res xs ws (ix2 R C)) (Ideal.ofBits .f32 0x46500000#32) + Ideal.ofBits .f32 0x3727C5AC#32)
      * gam (ix2 0 ⟨128 * G.val + l.val, by omega⟩) := by
  unfold k0_pay5
  generalize k0_pay4 x w res xs ws = H
  pointwise []
  simp only [Nat.mul_comm G.val 128]

/-- The greatest of a group. -/
theorem most_at (A : FVec Ideal S12288x104x128 .f32) (R : Fin 12288) (G : Fin 104) :
    multiReduction .maximumf [2] S12288x104 A 0xFF800000#32 reduces_S12288x104x128_S12288x104 (.inl rfl) rfl (ix2 R G)
    = Finset.fold max (Ideal.ofBits .f32 0xFF800000#32) (fun l => A (ix3 R G l)) Finset.univ := by
  pointwise []

/-- A product with a constant at an index. -/
theorem times_at (A : FVec Ideal S12288x104 .f32) (R : Fin 12288) (G : Fin 104) :
    mulf A (broadcast S12288x104 (Scalar.ofBits .f32 0x3B124925#32)) (ix2 R G) = A (ix2 R G) * Ideal.ofBits .f32 0x3B124925#32 := rfl

/-- An absolute value at an index. -/
theorem abs_at (A : FVec Ideal S12288x104x128 .f32) (R : Fin 12288) (G : Fin 104) :
    (fun l : Fin 128 => absf A (ix3 R G l)) = fun l => FloatOps.absf (F := Ideal) (φ := .f32) (A (ix3 R G l)) := rfl

theorem pay6_at (R : Fin 12288) (G : Fin 104) : k0_pay6 x w res xs ws gam (ix2 R G)
    = Finset.fold max (Ideal.ofBits .f32 0xFF800000#32) (fun l => FloatOps.absf (F := Ideal) (φ := .f32) (k0_pay5 x w res xs ws gam (ix3 R G l))) Finset.univ
      * Ideal.ofBits .f32 0x3B124925#32 := by
  unfold k0_pay6
  refine (times_at _ R G).trans (congrArg (fun v : EReal => v * Ideal.ofBits .f32 0x3B124925#32) ((most_at _ R G).trans ?_))
  exact congrArg (fun f : Fin 128 → EReal => Finset.fold max (Ideal.ofBits .f32 0xFF800000#32) f Finset.univ) (abs_at (k0_pay5 x w res xs ws gam) R G)

/-- The exponent of a group's scale, from whether its bound is below the least normal number and its bound's logarithm. -/
theorem pay1_at (b : IVec S12288x104 1) (v : FVec Ideal S12288x104 .f32) (R : Fin 12288) (G : Fin 104) : k0_pay1 b v (ix2 R G)
    = Scalar.select (b (ix2 R G)) 0 (Ideal.liftRound Int.floor (Ideal.div (v (ix2 R G)) (Ideal.log (Ideal.ofBits .f32 0x40000000#32))) + 1) := by
  pointwise [k0_pay1]

theorem pay2_at (b : IVec S12288x104 1) (v : FVec Ideal S12288x104 .f32) (R : Fin 12288) (G : Fin 104) :
    k0_pay2 b v (ix2 R G) = FloatOps.exp2 (F := Ideal) (φ := .f32) (k0_pay1 b v (ix2 R G)) := by
  unfold k0_pay2
  rfl

theorem pay3_at (n : FVec Ideal S12288x104x128 .f32) (b : IVec S12288x104 1) (v : FVec Ideal S12288x104 .f32) (R : Fin 12288) (C : Fin 13312) :
    k0_pay3 n b v (ix2 R C) = min (Ideal.ofBits .f32 0x43E00000#32) (max (Ideal.ofBits .f32 0xC3E00000#32)
        (n (ix3 R ⟨C.val / 128, by omega⟩ ⟨C.val % 128, by omega⟩) * FloatOps.exp2 (F := Ideal) (φ := .f32) (0 - k0_pay1 b v (ix2 R ⟨C.val / 128, by omega⟩)))) := by
  unfold k0_pay3
  generalize k0_pay1 b v = H
  pointwise []

/-- Whether a bound is below the least normal number. -/
theorem below_at (A : FVec Ideal S12288x104 .f32) (R : Fin 12288) (G : Fin 104) :
    cmpf .olt A (broadcast S12288x104 (Scalar.ofBits .f32 0x00800000#32)) (ix2 R G) = BitVec.ofBool (decide (A (ix2 R G) < Ideal.ofBits .f32 0x00800000#32)) := by
  pointwise []

theorem pay7_at (R : Fin 12288) (G : Fin 104) : k0_pay7 x w res xs ws gam (ix2 R G)
    = BitVec.ofBool (decide (k0_pay6 x w res xs ws gam (ix2 R G) < Ideal.ofBits .f32 0x00800000#32)) := by
  unfold k0_pay7
  exact below_at _ R G

/-- A logarithm at an index. -/
theorem log_at (A : FVec Ideal S12288x104 .f32) (R : Fin 12288) (G : Fin 104) : log A (ix2 R G) = Ideal.log (A (ix2 R G)) := rfl

theorem pay8_at (R : Fin 12288) (G : Fin 104) : k0_pay8 x w res xs ws gam (ix2 R G) = Ideal.log (k0_pay6 x w res xs ws gam (ix2 R G)) := by
  unfold k0_pay8
  exact log_at _ R G

end Cert.ReferenceIdeal.Ref

end
-- ==== Proof.RefSpec.lean ====
/-
  The reference's norm, codes and scales, as functions of row and column over the whole arrays.
-/
module

public import proofs.«01_k».proof.Proof.Spec

@[expose] public section

set_option maxRecDepth 16384

noncomputable section

namespace Cert.Spec

open Idealize.ShloMosaic Cert.KernelIdeal.Tiles

variable (I : In)

/-- The reciprocal root of a row's mean square, the mean a quotient. -/
def rootR (R : ℕ) : EReal :=
  Ideal.rsqrt (Ideal.div (∑ C : Fin 13312, h I R C.val * h I R C.val) (Ideal.ofBits .f32 0x46500000#32) + Ideal.ofBits .f32 0x3727C5AC#32)

/-- The normalised row. -/
def nR (R C : ℕ) : EReal := h I R C * rootR I R * I.gam C

/-- The bound of a group of 128 columns. -/
def tR (R G : ℕ) : EReal := tOf fun l => nR I R (128 * G + l.val)

/-- The exponent of the scale of a bound: one above the whole part of its binary logarithm, zero below the least normal number. -/
def expR (t : EReal) : EReal :=
  Scalar.select (BitVec.ofBool (decide (t < Ideal.ofBits .f32 0x00800000#32))) 0
    (Ideal.liftRound Int.floor (Ideal.div (Ideal.log t) (Ideal.log (Ideal.ofBits .f32 0x40000000#32))) + 1)

/-- The codes. -/
def codeR (R C : ℕ) : EReal := clipOf (nR I R C * FloatOps.exp2 (F := Ideal) (φ := .f32) (0 - expR (tR I R (C / 128))))

/-- The scales. -/
def scaleR (R G : ℕ) : EReal := FloatOps.exp2 (F := Ideal) (φ := .f32) (expR (tR I R G))

end Cert.Spec

end
-- ==== Proof.RefRun.lean ====
/-
  What the reference leaves in its three results: the projection, the codes and the scales of its arguments.
-/
module

public import proofs.«01_k».proof.Proof.RefVals
public import proofs.«01_k».proof.Proof.RefSpec
public import Idealize.ShloMosaic.Lib.StableHlo.ReadAt

@[expose] public section

set_option maxRecDepth 16384

noncomputable section

namespace Cert.ReferenceIdeal.Ref

open Idealize.ShloMosaic Idealize.ShloMosaic.TcCoe Idealize.SL.Sem Cert.ReferenceIdeal.Gen
open Idealize.ShloMosaic.Pipeline (Dat Cfg Window)

variable (m : (ℓ : Loc nD τ sig) → Buf (Elt Ideal) ℓ) (ρ : Dev nD → PrngReg) (c : Dev nD)

/-- The arguments by row and column. -/
def inp : Cert.Spec.In :=
  Cert.Spec.inOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![0, 0] := by decide +kernel

theorem V_v0_at (R : Fin 12288) (k : Fin 16384) :
    V m c main_v0 (ix2 R k) = m ((c.tc : Thread nD τ).loc main_arg0) (ix3 ⟨R.val / 4096, by omega⟩ ⟨R.val % 4096, by omega⟩ k) := by
  unfold V
  after_reads_at

theorem V_v1_at (R : Fin 12288) :
    V m c main_v1 (ix2 R 0) = m ((c.tc : Thread nD τ).loc main_arg1) (ix3 ⟨R.val / 4096, by omega⟩ ⟨R.val % 4096, by omega⟩ 0) := by
  unfold V
  after_reads_at

theorem V_v2_at (C : Fin 13312) : V m c main_v2 (ix2 0 C) = m ((c.tc : Thread nD τ).loc main_arg3) (ix1 C) := by
  unfold V
  after_reads_at

theorem V_v3_at (R : Fin 12288) (C : Fin 13312) :
    V m c main_v3 (ix2 R C) = m ((c.tc : Thread nD τ).loc main_arg4) (ix3 ⟨R.val / 4096, by omega⟩ ⟨R.val % 4096, by omega⟩ C) := by
  unfold V
  after_reads_at

theorem V_v4_at (C : Fin 13312) : V m c main_v4 (ix2 0 C) = m ((c.tc : Thread nD τ).loc main_arg5) (ix1 C) := by
  unfold V
  after_reads_at

theorem emb_0 (t : Fin cfg0.N) (R : Fin 12288) (k : Fin 16384) : ((cfg0.win 0).blk t).view.emb (ix2 R k) = ix2 R k := by
  blk_ext [index_0 t]
theorem emb_1 (t : Fin cfg0.N) (R : Fin 12288) : ((cfg0.win 1).blk t).view.emb (ix2 R 0) = ix2 R 0 := by
  blk_ext [index_1 t]
theorem emb_2 (t : Fin cfg0.N) (k : Fin 16384) (C : Fin 13312) : ((cfg0.win 2).blk t).view.emb (ix2 k C) = ix2 k C := by
  blk_ext [index_2 t]
theorem emb_3 (t : Fin cfg0.N) (C : Fin 13312) : ((cfg0.win 3).blk t).view.emb (ix2 0 C) = ix2 0 C := by
  blk_ext [index_3 t]
theorem emb_4 (t : Fin cfg0.N) (R : Fin 12288) (C : Fin 13312) : ((cfg0.win 4).blk t).view.emb (ix2 R C) = ix2 R C := by
  blk_ext [index_4 t]
theorem emb_5 (t : Fin cfg0.N) (C : Fin 13312) : ((cfg0.win 5).blk t).view.emb (ix2 0 C) = ix2 0 C := by
  blk_ext [index_5 t]
theorem emb_6 (t : Fin cfg0.N) (R : Fin 12288) (C : Fin 13312) : ((cfg0.win 6).blk t).view.emb (ix2 R C) = ix2 R C := by
  blk_ext [index_6 t]
theorem emb_7 (t : Fin cfg0.N) (R : Fin 12288) (C : Fin 13312) : ((cfg0.win 7).blk t).view.emb (ix2 R C) = ix2 R C := by
  blk_ext [index_7 t]
theorem emb_8 (t : Fin cfg0.N) (R : Fin 12288) (G : Fin 104) : ((cfg0.win 8).blk t).view.emb (ix2 R G) = ix2 R G := by
  blk_ext [index_8 t]

theorem bX_at (t : Fin cfg0.N) (R : Fin 12288) (k : Fin 16384) : (iblk m c 0 t : Vec Ideal S12288x16384 .fp8e4m3) (ix2 R k) = (inp m c).x R.val k.val := by
  refine Eq.trans ?_ (dif_pos ⟨R.isLt, k.isLt⟩).symm
  exact (congrArg (V m c main_v0) (emb_0 t R k)).trans (V_v0_at m c R k)
theorem bXs_at (t : Fin cfg0.N) (R : Fin 12288) : (iblk m c 1 t : Vec Ideal S12288x1 .f32) (ix2 R 0) = (inp m c).xs R.val := by
  refine Eq.trans ?_ (dif_pos R.isLt).symm
  exact (congrArg (V m c main_v1) (emb_1 t R)).trans (V_v1_at m c R)
theorem bW_at (t : Fin cfg0.N) (k : Fin 16384) (C : Fin 13312) : (iblk m c 2 t : Vec Ideal S16384x13312 .fp8e4m3) (ix2 k C) = (inp m c).w k.val C.val := by
  refine Eq.trans ?_ (dif_pos ⟨k.isLt, C.isLt⟩).symm
  exact (congrArg (V m c main_arg2) (emb_2 t k C)).trans (congrFun (V_main_arg2 m c) _)
theorem bWs_at (t : Fin cfg0.N) (C : Fin 13312) : (iblk m c 3 t : Vec Ideal S1x13312 .f32) (ix2 0 C) = (inp m c).ws C.val := by
  refine Eq.trans ?_ (dif_pos C.isLt).symm
  exact (congrArg (V m c main_v2) (emb_3 t C)).trans (V_v2_at m c C)
theorem bRes_at (t : Fin cfg0.N) (R : Fin 12288) (C : Fin 13312) : (iblk m c 4 t : Vec Ideal S12288x13312 .bf16) (ix2 R C) = (inp m c).res R.val C.val := by
  refine Eq.trans ?_ (dif_pos ⟨R.isLt, C.isLt⟩).symm
  exact (congrArg (V m c main_v3) (emb_4 t R C)).trans (V_v3_at m c R C)
theorem bGam_at (t : Fin cfg0.N) (C : Fin 13312) : (iblk m c 5 t : Vec Ideal S1x13312 .bf16) (ix2 0 C) = (inp m c).gam C.val := by
  refine Eq.trans ?_ (dif_pos C.isLt).symm
  exact (congrArg (V m c main_v4) (emb_5 t C)).trans (V_v4_at m c C)

/-! ## The payloads over the arguments -/

variable (t : Fin cfg0.N)

theorem h_at (R : Fin 12288) (C : Fin 13312) :
    k0_pay4 (F := Ideal) (iblk m c 0 t) (iblk m c 2 t) (iblk m c 4 t) (iblk m c 1 t) (iblk m c 3 t) (ix2 R C) = Cert.Spec.h (inp m c) R.val C.val := by
  refine (pay4_at _ _ _ _ _ R C).trans ?_
  unfold Cert.Spec.h
  rw [bRes_at, bXs_at, bWs_at]
  simp only [bX_at, bW_at]

theorem n_at (R : Fin 12288) (G : Fin 104) (l : Fin 128) :
    k0_pay5 (F := Ideal) (iblk m c 0 t) (iblk m c 2 t) (iblk m c 4 t) (iblk m c 1 t) (iblk m c 3 t) (iblk m c 5 t) (ix3 R G l)
      = Cert.Spec.nR (inp m c) R.val (128 * G.val + l.val) := by
  refine (pay5_at _ _ _ _ _ _ R G l).trans ?_
  unfold Cert.Spec.nR Cert.Spec.rootR
  simp only [h_at, bGam_at]

theorem t_at (R : Fin 12288) (G : Fin 104) :
    k0_pay6 (F := Ideal) (iblk m c 0 t) (iblk m c 2 t) (iblk m c 4 t) (iblk m c 1 t) (iblk m c 3 t) (iblk m c 5 t) (ix2 R G)
      = Cert.Spec.tR (inp m c) R.val G.val := by
  refine (pay6_at _ _ _ _ _ _ R G).trans ?_
  unfold Cert.Spec.tR Cert.KernelIdeal.Tiles.tOf
  simp only [n_at]

theorem pay9_eq (x0 : Vec Ideal S12288x16384 .fp8e4m3) (x1 : Vec Ideal S12288x1 .f32) (x2 : Vec Ideal S16384x13312 .fp8e4m3)
    (x3 : Vec Ideal S1x13312 .f32) (x4 : Vec Ideal S12288x13312 .bf16) (x5 : Vec Ideal S1x13312 .bf16) :
    k0_pay9 x0 x1 x2 x3 x4 x5 = k0_pay7 x0 x2 x4 x1 x3 x5 := by
  unfold k0_pay9
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]

theorem pay10_eq (x0 : Vec Ideal S12288x16384 .fp8e4m3) (x1 : Vec Ideal S12288x1 .f32) (x2 : Vec Ideal S16384x13312 .fp8e4m3)
    (x3 : Vec Ideal S1x13312 .f32) (x4 : Vec Ideal S12288x13312 .bf16) (x5 : Vec Ideal S1x13312 .bf16) :
    k0_pay10 x0 x1 x2 x3 x4 x5 = k0_pay8 x0 x2 x4 x1 x3 x5 := by
  unfold k0_pay10
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]

theorem e_at (R : Fin 12288) (G : Fin 104) :
    k0_pay1 (F := Ideal)
      (k0_pay9 (iblk m c 0 t) (iblk m c 1 t) (iblk m c 2 t) (iblk m c 3 t) (iblk m c 4 t) (iblk m c 5 t))
      (k0_pay10 (iblk m c 0 t) (iblk m c 1 t) (iblk m c 2 t) (iblk m c 3 t) (iblk m c 4 t) (iblk m c 5 t)) (ix2 R G)
      = Cert.Spec.expR (Cert.Spec.tR (inp m c) R.val G.val) := by
  refine (pay1_at _ _ R G).trans ?_
  rw [pay9_eq, pay10_eq, pay7_at, pay8_at, t_at]
  rfl

/-! ## The arrays -/

/-- The projection as an array. -/
def hArr (I : Cert.Spec.In) : S12288x13312.Idx → EReal := fun j => Cert.Spec.h I (j 0).val (j 1).val
/-- The codes as an array. -/
def codeArr (I : Cert.Spec.In) : S12288x13312.Idx → EReal := fun j => Cert.Spec.codeR I (j 0).val (j 1).val
/-- The scales as an array. -/
def scaleArr (I : Cert.Spec.In) : S12288x104.Idx → EReal := fun j => Cert.Spec.scaleR I (j 0).val (j 1).val

theorem arr_6 : (dats m 0 c).arrAt 6 cfg0.N = hArr (inp m c) := by
  refine (dats m 0 c).arrAt_eq_of_covers 6 (hArr (inp m c)) (by decide +kernel) fun t hf y => ?_
  idx_vars y
  refine Eq.trans (show _ = ((dats m 0 c).after 6 t : Vec Ideal S12288x13312 .bf16) (ix2 y0 y1) from rfl) (Eq.trans ?_ (congrArg (hArr (inp m c)) (emb_6 t y0 y1)).symm)
  rw [after0_6]
  frame_out
  exact h_at m c t y0 y1

theorem arr_7 : (dats m 0 c).arrAt 7 cfg0.N = codeArr (inp m c) := by
  refine (dats m 0 c).arrAt_eq_of_covers 7 (codeArr (inp m c)) (by decide +kernel) fun t hf y => ?_
  idx_vars y
  refine Eq.trans (show _ = ((dats m 0 c).after 7 t : Vec Ideal S12288x13312 .fp8e4m3) (ix2 y0 y1) from rfl) (Eq.trans ?_ (congrArg (codeArr (inp m c)) (emb_7 t y0 y1)).symm)
  rw [after0_7]
  frame_out
  refine (pay3_at _ _ _ y0 y1).trans ?_
  rw [n_at, e_at]
  show _ = Cert.Spec.codeR (inp m c) y0.val y1.val
  unfold Cert.Spec.codeR Cert.KernelIdeal.Tiles.clipOf
  have e : 128 * (y1.val / 128) + y1.val % 128 = y1.val := by omega
  simp only [e]

theorem arr_8 : (dats m 0 c).arrAt 8 cfg0.N = scaleArr (inp m c) := by
  refine (dats m 0 c).arrAt_eq_of_covers 8 (scaleArr (inp m c)) (by decide +kernel) fun t hf y => ?_
  idx_vars y
  refine Eq.trans (show _ = ((dats m 0 c).after 8 t : Vec Ideal S12288x104 .f32) (ix2 y0 y1) from rfl) (Eq.trans ?_ (congrArg (scaleArr (inp m c)) (emb_8 t y0 y1)).symm)
  rw [after0_8]
  frame_out
  refine (pay2_at _ _ y0 y1).trans ?_
  rw [e_at]
  rfl

/-- After a run the three results hold the projection, the codes and the scales of the arguments, and the arguments are as they were. -/
theorem run_values : θ_run defs (onTc (τ := τ) (main (F := Ideal))) ⟨m, fun _ => 0, ρ⟩ (fun r => ∀ c : Dev nD,
      r.2.mem ((c.tc : Thread nD τ).loc main_v5_0) = hArr (inp m c)
      ∧ r.2.mem ((c.tc : Thread nD τ).loc main_v5_1) = codeArr (inp m c)
      ∧ r.2.mem ((c.tc : Thread nD τ).loc main_v5_2) = scaleArr (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.2 c).1 6).trans (arr_6 m c), ((h.2 c).1 7).trans (arr_7 m c), ((h.2 c).1 8).trans (arr_8 m c), h.1.1 c⟩)
    (θ_run_and (frame m ρ) (run_main m ρ))

end Cert.ReferenceIdeal.Ref

end
-- ==== Proof.ScaleMath.lean ====
/-
  The scale of a bound below two to the 126: the kernel's, from the bit pattern of the greatest power of two that the bound
  reaches, is the reference's, from the whole part of the bound's binary logarithm; and so are their reciprocals.
-/
module

public import proofs.«01_k».proof.Proof.RefSpec

@[expose] public section

set_option maxRecDepth 16384

noncomputable section

namespace Cert.Spec

open Idealize.ShloMosaic Cert.KernelIdeal.Tiles

/-- The pattern whose exponent field is `k` and whose other bits are zero. -/
def pat (k : ℕ) : BitVec 32 := BitVec.ofNat 32 (k * 8388608)

theorem pat_shift : ∀ k : Fin 256, IntOp.shli .vector (BitVec.ofNat 32 k.val) 23#32 = pat k.val := by decide +kernel
theorem pat_toInt : ∀ k : Fin 256, (pat k.val).toInt = (k.val : ℤ) * 8388608 := by decide +kernel
theorem pat_mask : ∀ k : Fin 256, IntOp.andi (pat k.val) 2139095040#32 = pat k.val := by decide +kernel
theorem pat_fields : ∀ k : Fin 255, (pat k.val).extractLsb' 31 1 ≠ 1#1 ∧ ((pat k.val).extractLsb' 23 8).toNat = k.val ∧ ((pat k.val).extractLsb' 0 23).toNat = 0 := by
  decide +kernel
theorem pat_scale : ∀ k : Fin 253, 1 ≤ k.val →
    Scalar.select (IntOp.andi (IntOp.cmpi .ne (pat k.val) 0#32) (IntOp.cmpi .ne (pat k.val) 2139095040#32)) (IntOp.addi (pat k.val) 8388608#32) 1065353216#32 = pat (k.val + 1) := by
  decide +kernel
theorem pat_recip : ∀ k : Fin 253, IntOp.subi 2130706432#32 (pat (k.val + 1)) = pat (253 - k.val) := by decide +kernel

/-- What a pattern of a normal exponent denotes. -/
theorem ofBits_pat (k : ℕ) (h1 : 1 ≤ k) (h2 : k < 255) : Ideal.ofBits .f32 (pat k) = (((2 : ℝ) ^ ((k : ℤ) - 127) : ℝ) : EReal) := by
  obtain ⟨e1, e2, e3⟩ := pat_fields ⟨k, h2⟩
  simp only at e1 e2 e3
  unfold Ideal.ofBits Ideal.ieee
  simp only [e2, e3]
  rw [if_neg (by norm_num; omega), if_neg (by omega)]
  have e4 : ((pat k).extractLsb' (8 + 23) 1 == 1#1) = false := by simpa using e1
  rw [e4]
  refine congrArg _ ?_
  have : (2 : ℝ) ^ ((k : ℤ) - 127) = 2 ^ (23 : ℤ) * 2 ^ ((k : ℤ) - 150) := by
    rw [← zpow_add₀ (by norm_num)]
    congr 1
    ring
  rw [this]
  norm_num
  ring

/-- The pattern of all exponent bits denotes infinity. -/
theorem ofBits_top : Ideal.ofBits .f32 (pat 255) = ⊤ := by
  simp [pat, Ideal.ofBits, Ideal.ieee]

/-- The pattern of no bits denotes zero. -/
theorem ofBits_nil : Ideal.ofBits .f32 (pat 0) = 0 := by
  simp [pat, Ideal.ofBits, Ideal.ieee]

theorem ofBits_one : Ideal.ofBits .f32 1065353216#32 = ((1 : ℝ) : EReal) := by
  have e := ofBits_pat 127 (by decide) (by decide)
  rw [show (((127 : ℕ) : ℤ) - 127) = 0 by norm_num, zpow_zero] at e
  exact e

theorem maxsi_toInt (a b : BitVec 32) : (IntOp.maxsi a b).toInt = max a.toInt b.toInt := by
  unfold IntOp.maxsi
  rw [BitVec.slt_eq_decide]
  by_cases h : b.toInt < a.toInt
  · rw [if_pos (by simpa using h), max_eq_left h.le]
  · rw [if_neg (by simpa using h), max_eq_right (not_lt.mp h)]

/-- The exponent field is that of the greatest pattern that the bound reaches. -/
theorem fieldOf_eq (t : EReal) (K : Fin 256) (hK : Ideal.ofBits .f32 (pat K.val) ≤ t) (hn : ∀ k : Fin 256, K < k → ¬ Ideal.ofBits .f32 (pat k.val) ≤ t) :
    fieldOf t = pat K.val := by
  unfold fieldOf
  simp only [pat_shift]
  refine Eq.trans (congrArg (fun b => IntOp.andi b 2139095040#32) ?_) (pat_mask K)
  refine BitVec.eq_of_toInt_eq ?_
  rw [← Finset.fold_hom (op' := (max : ℤ → ℤ → ℤ)) (m := BitVec.toInt) maxsi_toInt, pat_toInt]
  refine le_antisymm ((Finset.fold_max_le _).mpr ⟨?_, fun k _ => ?_⟩) ((Finset.le_fold_max _).mpr (Or.inr ⟨K, Finset.mem_univ _, ?_⟩))
  · have : (2147483648#32 : BitVec 32).toInt = -2147483648 := by decide
    rw [this]
    omega
  · by_cases hk : Ideal.ofBits .f32 (pat k.val) ≤ t
    · rw [if_pos hk, pat_toInt]
      have : k ≤ K := not_lt.mp fun h => hn k h hk
      have : k.val ≤ K.val := this
      omega
    · rw [if_neg hk]
      have : (0#32 : BitVec 32).toInt = 0 := by decide
      rw [this]
      omega
  · rw [if_pos hK, pat_toInt]

/-- The whole part of a binary logarithm. -/
def lg (r : ℝ) : ℤ := ⌊Real.log r / Real.log 2⌋

theorem lg_le (r : ℝ) (hr : 0 < r) : (2 : ℝ) ^ (lg r) ≤ r := by
  have hl : (0 : ℝ) < Real.log 2 := Real.log_pos (by norm_num)
  rw [← Real.log_le_log_iff (by positivity) hr, Real.log_zpow, ← le_div_iff₀ hl]
  exact Int.floor_le _

theorem lt_lg (r : ℝ) (hr : 0 < r) : r < (2 : ℝ) ^ (lg r + 1) := by
  have hl : (0 : ℝ) < Real.log 2 := Real.log_pos (by norm_num)
  rw [← Real.log_lt_log_iff hr (by positivity), Real.log_zpow, ← div_lt_iff₀ hl]
  push_cast
  exact Int.lt_floor_add_one _

theorem rpow_int (e : ℤ) : Real.rpow 2 (e : ℝ) = (2 : ℝ) ^ e := Real.rpow_intCast 2 e

/-- The reference's exponent of a bound that is at least the least normal number. -/
theorem expR_coe (r : ℝ) (h : (2 : ℝ) ^ (-126 : ℤ) ≤ r) : expR (r : EReal) = (((lg r + 1 : ℤ) : ℝ) : EReal) := by
  have hr : 0 < r := lt_of_lt_of_le (by positivity) h
  have e0 : Ideal.ofBits .f32 0x00800000#32 = (((2 : ℝ) ^ (-126 : ℤ) : ℝ) : EReal) := ofBits_pat 1 (by decide) (by decide)
  have e1 : Ideal.ofBits .f32 0x40000000#32 = ((2 : ℝ) : EReal) := by
    have e := ofBits_pat 128 (by decide) (by decide)
    rw [show (((128 : ℕ) : ℤ) - 127) = 1 by norm_num, zpow_one] at e
    exact e
  have hl : (0 : ℝ) < Real.log 2 := Real.log_pos (by norm_num)
  unfold expR
  rw [e0, e1, decide_eq_false (by rw [EReal.coe_lt_coe_iff]; exact not_lt.mpr h)]
  rw [Ideal.log_coe, Ideal.log_coe, if_neg (not_le.mpr hr), if_neg (by norm_num)]
  unfold Ideal.div
  rw [if_neg (by rw [← EReal.coe_zero, EReal.coe_eq_coe_iff]; exact hl.ne'), ← EReal.coe_inv, ← EReal.coe_mul, ← div_eq_mul_inv]
  show ((⌊Real.log r / Real.log 2⌋ : ℝ) : EReal) + 1 = _
  rw [← EReal.coe_one, ← EReal.coe_add]
  unfold lg
  push_cast
  rfl

/-- The reference's exponent of a bound below the least normal number. -/
theorem expR_small (r : ℝ) (h : r < (2 : ℝ) ^ (-126 : ℤ)) : expR (r : EReal) = 0 := by
  have e0 : Ideal.ofBits .f32 0x00800000#32 = (((2 : ℝ) ^ (-126 : ℤ) : ℝ) : EReal) := ofBits_pat 1 (by decide) (by decide)
  unfold expR
  rw [e0, decide_eq_true (by rw [EReal.coe_lt_coe_iff]; exact h)]
  rfl

theorem exp2_int (e : ℤ) : FloatOps.exp2 (F := Ideal) (φ := .f32) (((e : ℝ) : EReal)) = (((2 : ℝ) ^ e : ℝ) : EReal) :=
  congrArg (fun v : ℝ => (v : EReal)) (rpow_int e)

/-- The kernel's scale and its reciprocal are the reference's. -/
theorem scale_eq (r : ℝ) (h0 : 0 ≤ r) (h1 : r < (2 : ℝ) ^ (126 : ℤ)) :
    scOf (r : EReal) = FloatOps.exp2 (F := Ideal) (φ := .f32) (expR (r : EReal)) ∧ invOf (r : EReal) = FloatOps.exp2 (F := Ideal) (φ := .f32) (0 - expR (r : EReal)) := by
  by_cases h : r < (2 : ℝ) ^ (-126 : ℤ)
  · have hf : fieldOf (r : EReal) = pat 0 := by
      refine fieldOf_eq _ 0 ?_ fun k hk hle => ?_
      · show Ideal.ofBits .f32 (pat 0) ≤ _
        rw [ofBits_nil, ← EReal.coe_zero, EReal.coe_le_coe_iff]
        exact h0
      · have hk' : 0 < k.val := hk
        by_cases h255 : k.val = 255
        · rw [h255, ofBits_top] at hle
          exact EReal.coe_ne_top _ (top_le_iff.mp hle)
        · rw [ofBits_pat k.val hk' (by omega), EReal.coe_le_coe_iff] at hle
          have := zpow_le_zpow_right₀ (show (1 : ℝ) ≤ 2 by norm_num) (show (-126 : ℤ) ≤ (k.val : ℤ) - 127 by omega)
          exact absurd (lt_of_le_of_lt (this.trans hle) h) (lt_irrefl _)
    have hs : sbOf (r : EReal) = 1065353216#32 := by
      unfold sbOf
      rw [hf]
      decide
    have hz : FloatOps.exp2 (F := Ideal) (φ := .f32) ((0 : EReal)) = ((1 : ℝ) : EReal) := by
      have := exp2_int 0
      rw [zpow_zero] at this
      rw [← this]
      norm_num
    unfold scOf invOf
    rw [hs, expR_small r h, sub_zero, hz, show IntOp.subi 2130706432#32 1065353216#32 = 1065353216#32 by decide, ofBits_one]
    exact ⟨rfl, rfl⟩
  · have h := not_lt.mp h
    have hr : 0 < r := lt_of_lt_of_le (by positivity) h
    have a1 : (2 : ℝ) ^ (lg r) ≤ r := lg_le r hr
    have a2 : r < (2 : ℝ) ^ (lg r + 1) := lt_lg r hr
    have b1 : -126 ≤ lg r := by
      have := (zpow_lt_zpow_iff_right₀ (show (1 : ℝ) < 2 by norm_num)).mp (lt_of_le_of_lt h a2)
      omega
    have b2 : lg r < 126 := (zpow_lt_zpow_iff_right₀ (show (1 : ℝ) < 2 by norm_num)).mp (lt_of_le_of_lt a1 h1)
    obtain ⟨K, hK⟩ : ∃ K : ℕ, (K : ℤ) = lg r + 127 := ⟨(lg r + 127).toNat, by omega⟩
    have hf : fieldOf (r : EReal) = pat K := by
      refine fieldOf_eq _ ⟨K, by omega⟩ ?_ fun k hk hle => ?_
      · show Ideal.ofBits .f32 (pat K) ≤ _
        rw [ofBits_pat K (by omega) (by omega), EReal.coe_le_coe_iff, show (K : ℤ) - 127 = lg r by omega]
        exact a1
      · have hk' : K < k.val := hk
        by_cases h255 : k.val = 255
        · rw [h255, ofBits_top] at hle
          exact EReal.coe_ne_top _ (top_le_iff.mp hle)
        · rw [ofBits_pat k.val (by omega) (by omega), EReal.coe_le_coe_iff] at hle
          have := zpow_le_zpow_right₀ (show (1 : ℝ) ≤ 2 by norm_num) (show lg r + 1 ≤ (k.val : ℤ) - 127 by omega)
          exact absurd (lt_of_lt_of_le a2 (this.trans hle)) (lt_irrefl _)
    have hs : sbOf (r : EReal) = pat (K + 1) := by
      unfold sbOf
      rw [hf]
      exact pat_scale ⟨K, by omega⟩ (by show 1 ≤ K; omega)
    have hi : IntOp.subi 2130706432#32 (pat (K + 1)) = pat (253 - K) := pat_recip ⟨K, by omega⟩
    unfold scOf invOf
    rw [hs, hi, expR_coe r h, ofBits_pat (K + 1) (by omega) (by omega), ofBits_pat (253 - K) (by omega) (by omega)]
    refine ⟨?_, ?_⟩
    · rw [exp2_int]
      congr 2
      omega
    · rw [zero_sub, ← EReal.coe_neg, ← Int.cast_neg, exp2_int]
      congr 2
      omega

end Cert.Spec

end
-- ==== Proof.Bound.lean ====
/-
  The reciprocal roots agree, and the bound of a group is a real number below two to the 126.
-/
module

public import proofs.«01_k».proof.Proof.ScaleMath

@[expose] public section

set_option maxRecDepth 16384

noncomputable section

namespace Cert.Spec

open Idealize.ShloMosaic Cert.KernelIdeal.Tiles

variable (I : In)

/-- The named constant is the reciprocal of the number of columns. -/
theorem inv_n : Named.named (F := Ideal) Cert.KernelIdeal.κ "inv_n" (φ := .f32) 0x389D89D9#32 = ((1 / 13312 : ℝ) : EReal) :=
  IdealRules.named_const.ideal_named_scalar _ _ _ _ rfl

theorem ofBits_cols : Ideal.ofBits .f32 0x46500000#32 = ((13312 : ℝ) : EReal) := by
  simp [Ideal.ofBits, Ideal.ieee, -EReal.coe_mul]; norm_num

/-- The small number added to the mean square, a positive real. -/
theorem ofBits_eps : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

theorem ofBits_bot : Ideal.ofBits .f32 0xFF800000#32 = ⊥ := by
  simp [Ideal.ofBits, Ideal.ieee]

/-- The reciprocal of the codes' greatest value, rounded. -/
theorem ofBits_recip : ∃ e : ℝ, 0 < e ∧ e < 1 / 447 ∧ Ideal.ofBits .f32 0x3B124925#32 = (e : EReal) := by
  refine ⟨9586981 * 2 ^ (-32 : ℤ), by positivity, by norm_num, ?_⟩
  simp [Ideal.ofBits, Ideal.ieee, -EReal.coe_mul]

/-- The sum of squares of a row, by blocks, is its sum over the columns. -/
theorem ssq_eq (R : ℕ) : ssq I R 26 = ∑ C : Fin 13312, h I R C.val * h I R C.val := by
  have e := Fin.sum_univ_eq_sum_range (fun C => h I R C * h I R C) 13312
  rw [e, show 13312 = 26 * 512 by norm_num, Finset.sum_range_mul_split]
  unfold ssq
  refine Finset.sum_congr rfl fun J _ => ?_
  unfold sq
  rw [Finset.sum_comm, show 512 = 4 * 128 by norm_num, Finset.sum_range_mul_split]
  rw [Fin.sum_univ_eq_sum_range (fun g => ∑ l : Fin 128, h I R (4 * 128 * J + (128 * g + l.val)) * h I R (4 * 128 * J + (128 * g + l.val))) 4]
  refine Finset.sum_congr rfl fun g _ => ?_
  rw [Fin.sum_univ_eq_sum_range (fun l => h I R (4 * 128 * J + (128 * g + l)) * h I R (4 * 128 * J + (128 * g + l))) 128]
  refine Finset.sum_congr rfl fun l _ => ?_
  have e1 : 4 * 128 * J + (128 * g + l) = J * (4 * 128) + (g * 128 + l) := by ring
  rw [e1]

/-- The kernel's reciprocal root is the reference's. -/
theorem root_eq (R : ℕ) : root I R = rootR I R := by
  unfold root rootR rootOf
  rw [ssq_eq, inv_n, ofBits_cols]
  unfold Ideal.div
  rw [if_neg (by rw [← EReal.coe_zero, EReal.coe_eq_coe_iff]; norm_num), ← EReal.coe_inv, one_div]
  rfl

theorem n_eq (R C : ℕ) : n I R C = nR I R C := by
  unfold n nR
  rw [root_eq]

theorem t_eq (R G : ℕ) : t I R G = tR I R G := by
  unfold t tR
  simp only [n_eq]

/-- A square is not negative. -/
theorem sq_nonneg' (a : EReal) : 0 ≤ a * a := by
  rcases le_total 0 a with h | h
  · exact mul_nonneg h h
  · have := mul_nonneg (EReal.neg_nonneg.mpr h) (EReal.neg_nonneg.mpr h)
    rwa [neg_mul_neg] at this

/-- A normalised value of a row is zero or a real of at most the root of the number of columns, times its weight. -/
theorem normal_le (a : Fin 13312 → EReal) (C : Fin 13312) (g : ℝ) (hg : |g| ≤ 2 ^ 127) :
    ∃ y : ℝ, a C * rootOf (∑ C, a C * a C) * (g : EReal) = (y : EReal) ∧ |y| ≤ 116 * 2 ^ 127 := by
  obtain ⟨e, he, hE⟩ := ofBits_eps
  obtain ⟨S, hS⟩ : ∃ S, S = ∑ C, a C * a C := ⟨_, rfl⟩
  have hC : a C * a C ≤ S := by
    rw [hS]
    exact Finset.single_le_sum (f := fun C => a C * a C) (fun i _ => sq_nonneg' (a i)) (Finset.mem_univ C)
  have h0 : 0 ≤ S := (sq_nonneg' _).trans hC
  rw [← hS]
  unfold rootOf
  rw [inv_n, hE]
  induction S using EReal.rec with
  | bot => exact absurd h0 (by simp)
  | top =>
    refine ⟨0, ?_, by rw [abs_zero]; positivity⟩
    rw [EReal.top_mul_coe_of_pos (by norm_num), EReal.top_add_coe]
    show a C * Ideal.rsqrt ⊤ * _ = _
    rw [Ideal.rsqrt_top, mul_zero, zero_mul, EReal.coe_zero]
  | coe s =>
    have hs : 0 ≤ s := EReal.coe_nonneg.mp h0
    generalize a C = x at hC
    induction x using EReal.rec with
    | bot => exact absurd hC (by simp)
    | top => exact absurd hC (by simp)
    | coe x =>
      rw [← EReal.coe_mul, EReal.coe_le_coe_iff] at hC
      have hp : 0 < s * (1 / 13312) + e := by positivity
      refine ⟨x * (Real.sqrt (s * (1 / 13312) + e))⁻¹ * g, ?_, ?_⟩
      · rw [← EReal.coe_mul, ← EReal.coe_add]
        show (x : EReal) * Ideal.rsqrt _ * _ = _
        rw [Ideal.rsqrt_coe, if_neg (not_lt.mpr hp.le), if_neg hp.ne', ← EReal.coe_mul, ← EReal.coe_mul]
      · rw [abs_mul]
        have hq : |x * (Real.sqrt (s * (1 / 13312) + e))⁻¹| ≤ 116 := by
          rw [abs_mul, abs_inv, abs_of_pos (Real.sqrt_pos.mpr hp), ← div_eq_mul_inv, div_le_iff₀ (Real.sqrt_pos.mpr hp)]
          refine abs_le_of_sq_le_sq ?_ (by positivity)
          rw [mul_pow, Real.sq_sqrt hp.le]
          nlinarith
        exact mul_le_mul hq hg (abs_nonneg _) (by norm_num)

/-- The bound of a group of values that are reals of at most that size. -/
theorem tOf_lt (n : Fin 128 → EReal) (hn : ∀ l, ∃ y : ℝ, n l = (y : EReal) ∧ |y| ≤ 116 * 2 ^ 127) :
    ∃ r : ℝ, tOf n = (r : EReal) ∧ 0 ≤ r ∧ r < (2 : ℝ) ^ (126 : ℤ) := by
  obtain ⟨e, he, hl, hE⟩ := ofBits_recip
  have ha : ∀ l, ∃ y : ℝ, FloatOps.absf (F := Ideal) (φ := .f32) (n l) = (y : EReal) ∧ 0 ≤ y ∧ y ≤ 116 * 2 ^ 127 := fun l => by
    obtain ⟨y, h1, h2⟩ := hn l
    refine ⟨|y|, ?_, abs_nonneg y, h2⟩
    rw [h1]
    show max (y : EReal) (-(y : EReal)) = _
    rw [← EReal.coe_neg]
    exact (EReal.coe_strictMono.monotone.map_max).symm
  unfold tOf
  rw [hE, ofBits_bot]
  have hM : Finset.fold max ⊥ (fun l => FloatOps.absf (F := Ideal) (φ := .f32) (n l)) Finset.univ ≤ ((116 * 2 ^ 127 : ℝ) : EReal) :=
    (Finset.fold_max_le _).mpr ⟨bot_le, fun l _ => by
      obtain ⟨y, h1, _, h2⟩ := ha l
      rw [h1]
      exact EReal.coe_le_coe_iff.mpr h2⟩
  have h0 : 0 ≤ Finset.fold max ⊥ (fun l => FloatOps.absf (F := Ideal) (φ := .f32) (n l)) Finset.univ :=
    (Finset.le_fold_max _).mpr (Or.inr ⟨0, Finset.mem_univ _, by
      obtain ⟨y, h1, h2, _⟩ := ha 0
      rw [h1]
      exact EReal.coe_nonneg.mpr h2⟩)
  generalize Finset.fold max ⊥ (fun l => FloatOps.absf (F := Ideal) (φ := .f32) (n l)) Finset.univ = M at hM h0
  induction M using EReal.rec with
  | bot => exact absurd h0 (by simp)
  | top => exact absurd (top_le_iff.mp hM) (EReal.coe_ne_top _)
  | coe r =>
    have h1 := EReal.coe_le_coe_iff.mp hM
    have h2 := EReal.coe_nonneg.mp h0
    refine ⟨r * e, (EReal.coe_mul r e).symm, mul_nonneg h2 he.le, ?_⟩
    calc r * e ≤ 116 * 2 ^ 127 * e := mul_le_mul_of_nonneg_right h1 he.le
      _ < 116 * 2 ^ 127 * (1 / 447) := mul_lt_mul_of_pos_left hl (by positivity)
      _ < (2 : ℝ) ^ (126 : ℤ) := by norm_num

variable (hg : ∀ C, C < 13312 → ∃ g : ℝ, I.gam C = (g : EReal) ∧ |g| ≤ 2 ^ 127)

include hg in
theorem t_lt (R G : ℕ) (hG : G < 104) : ∃ r : ℝ, t I R G = (r : EReal) ∧ 0 ≤ r ∧ r < (2 : ℝ) ^ (126 : ℤ) :=
  tOf_lt _ fun l => by
    obtain ⟨g, h1, h2⟩ := hg (128 * G + l.val) (by omega)
    unfold n root
    rw [h1, ssq_eq]
    exact normal_le (fun C => h I R C.val) ⟨128 * G + l.val, by omega⟩ g h2

include hg in
/-- The kernel's scales are the reference's. -/
theorem scale_eq' (R G : ℕ) (hG : G < 104) : scale I R G = scaleR I R G := by
  obtain ⟨r, h1, h2, h3⟩ := t_lt I hg R G hG
  unfold scale scaleR
  rw [← t_eq, h1]
  exact (scale_eq r h2 h3).1

include hg in
/-- The kernel's codes are the reference's. -/
theorem code_eq (R C : ℕ) (hC : C < 13312) : code I R C = codeR I R C := by
  obtain ⟨r, h1, h2, h3⟩ := t_lt I hg R (C / 128) (by omega)
  unfold code codeR
  rw [← t_eq, ← n_eq, h1, (scale_eq r h2 h3).2]

end Cert.Spec

end
-- ==== Proof.Range.lean ====
/-
  What the precondition says of the weights of the norm.
-/
module

public import proofs.«01_k».proof.Pre_gamma_in_range
public import Idealize.ShloMosaic.Lib.Pointwise
public import Idealize.ShloMosaic.Lib.Pipeline.ValueKit

@[expose] public section

set_option maxRecDepth 16384

noncomputable section

namespace Cert.Pre_gamma_in_range

open Idealize.ShloMosaic

/-- The function's stated facts. -/
theorem facts : Facts := ⟨by decide⟩

theorem ofBits_bound : Ideal.ofBits .bf16 0x7F00#16 = ((2 ^ 127 : ℝ) : EReal) := by
  simp [Ideal.ofBits, Ideal.ieee, -EReal.coe_mul, -EReal.coe_pow]; norm_num

/-- Where the function is one, the weight is a real of at most two to the 127. -/
theorem weight_le [Facts] (x0 : FVec Ideal S3x4096x16384 .fp8e4m3) (x1 : FVec Ideal S3x4096x1 .f32) (x2 : FVec Ideal S16384x13312 .fp8e4m3)
    (x3 : FVec Ideal S13312 .f32) (x4 : FVec Ideal S3x4096x13312 .bf16) (x5 : FVec Ideal S13312 .bf16)
    (h : fn x0 x1 x2 x3 x4 x5 = fun _ => 1#1) (C : Fin 13312) : ∃ g : ℝ, x5 (ix1 C) = (g : EReal) ∧ |g| ≤ 2 ^ 127 := by
  have e : fn x0 x1 x2 x3 x4 x5 (ix1 C) = BitVec.ofBool (decide (max (x5 (ix1 C)) (-(x5 (ix1 C))) ≤ Ideal.ofBits .bf16 0x7F00#16)) := rfl
  rw [h, ofBits_bound] at e
  have hle : max (x5 (ix1 C)) (-(x5 (ix1 C))) ≤ ((2 ^ 127 : ℝ) : EReal) := by
    by_contra hn
    rw [decide_eq_false hn] at e
    exact absurd (show (1#1 : BitVec 1) = BitVec.ofBool false from e) (by decide)
  generalize x5 (ix1 C) = v at hle
  induction v using EReal.rec with
  | bot => exact absurd ((le_max_right _ _).trans hle) (by rw [EReal.neg_bot]; exact fun q => EReal.coe_ne_top _ (top_le_iff.mp q))
  | top => exact absurd ((le_max_left _ _).trans hle) (fun q => EReal.coe_ne_top _ (top_le_iff.mp q))
  | coe g =>
    refine ⟨g, rfl, abs_le'.mpr ⟨EReal.coe_le_coe_iff.mp ((le_max_left _ _).trans hle), ?_⟩⟩
    have := (le_max_right _ _).trans hle
    rw [← EReal.coe_neg] at this
    exact EReal.coe_le_coe_iff.mp this

end Cert.Pre_gamma_in_range

end
-- ==== Proof.Algebraic.lean ====
/-
  The kernel's results are the reference's.
-/
module

public import proofs.«01_k».proof.Defs
public import proofs.«01_k».proof.Proof.Arrays
public import proofs.«01_k».proof.Proof.RefRun
public import proofs.«01_k».proof.Proof.Bound
public import proofs.«01_k».proof.Proof.Range

@[expose] public section

set_option maxRecDepth 16384

noncomputable section

namespace Cert.Proof

open Idealize.ShloMosaic Idealize.SL.Sem

/-- Memories that agree on the arguments read the same by row and column. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Ref.inp m' c = Cert.KernelIdeal.Tiles.inp m c := by
  obtain ⟨h0, h1, h2, h3, h4, h5⟩ := h
  unfold Cert.ReferenceIdeal.Ref.inp Cert.KernelIdeal.Tiles.inp
  rw [h0, h1, h2, h3, h4, h5]

/-- The weights are reals in range. -/
theorem gam_le [hPre : Cert.Pre_gamma_in_range.Facts] (m : (ℓ : Loc Cert.KernelIdeal.nD Cert.KernelIdeal.τ Cert.KernelIdeal.sig) → Buf (Elt Ideal) ℓ) (h : Pre_KernelIdeal_gamma_in_range m)
    (c : Dev Cert.KernelIdeal.nD) (C : ℕ) (hC : C < 13312) : ∃ g : ℝ, (Cert.KernelIdeal.Tiles.inp m c).gam C = (g : EReal) ∧ |g| ≤ 2 ^ 127 := by
  obtain ⟨g, h1, h2⟩ := Cert.Pre_gamma_in_range.weight_le _ _ _ _ _ _ (h c) ⟨C, hC⟩
  refine ⟨g, Eq.trans ?_ h1, h2⟩
  exact dif_pos hC

theorem algebraic : algebraic_KernelIdeal_ReferenceIdeal_pre_gamma_in_range (hKernelIdeal := Cert.KernelIdeal.Gen.facts)
    (hReferenceIdeal := Cert.ReferenceIdeal.Gen.facts) (hPre_gamma_in_range := Cert.Pre_gamma_in_range.facts) := by
  intro m g m' g' hpre hargs
  have hg := fun c => gam_le (hPre := Cert.Pre_gamma_in_range.facts) m hpre c
  refine ⟨fun c => Cert.KernelIdeal.Tiles.hArr (Cert.KernelIdeal.Tiles.inp m c), fun c => Cert.KernelIdeal.Tiles.codeArr (Cert.KernelIdeal.Tiles.inp m c),
    fun c => Cert.KernelIdeal.Tiles.scaleArr (Cert.KernelIdeal.Tiles.inp m c), Cert.KernelIdeal.Tiles.run_values m g,
    (θ_run _ _ _).mono (fun r h c => ?_) (Cert.ReferenceIdeal.Ref.run_values m' g')⟩
  obtain ⟨e0, e1, e2, ha⟩ := h c
  have hi := inp_eq m m' c (hargs c)
  rw [hi] at e0 e1 e2
  refine ⟨e0, e1.trans ?_, e2.trans ?_, ha⟩
  · exact funext fun j => (Cert.Spec.code_eq _ (hg c) _ _ (j 1).isLt).symm
  · exact funext fun j => (Cert.Spec.scale_eq' _ (hg c) _ _ (j 1).isLt).symm

end Cert.Proof

end
-- ==== Proof.lean ====
/-
  The certificate: the three frames, the idealization of the kernel, and the equation of the kernel and the reference.
-/
module

public import proofs.«01_k».proof.Defs
public import proofs.«01_k».proof.Proof.Gen.Kernel
public import proofs.«01_k».proof.Proof.WordFrame
public import proofs.«01_k».proof.Proof.Gen.KernelIdeal
public import proofs.«01_k».proof.Proof.Gen.ReferenceIdeal
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem

/-- The idealized kernel leaves its arguments as they were and every semaphore at zero. -/
theorem frame_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => And.intro (fun c => (h.1 c).2.2.2) h.2.2)
    (θ_run_and (Cert.KernelIdeal.Tiles.run_values m ρ) (Cert.KernelIdeal.Tiles.run_main m ρ))

theorem claim : Cert.Claim :=
  ⟨Cert.Kernel.Gen.facts, Cert.KernelIdeal.Gen.facts, Cert.ReferenceIdeal.Gen.facts, Cert.Pre_gamma_in_range.facts,
    fun m ρ _ => Cert.Kernel.Tiles.frame m ρ,
    fun m ρ _ => frame_ideal m ρ,
    fun m ρ _ => frame_ideal m ρ,
    fun m ρ _ => Cert.ReferenceIdeal.Gen.frame m ρ,
    fun m ρ _ => Cert.ReferenceIdeal.Gen.frame m ρ,
    IdealRules.named_const.statement Cert.KernelIdeal.κ "inv_n" .f32 0x389D89D9#32 ((1 / 13312 : ℝ) : EReal) rfl,
    algebraic⟩

end Cert.Proof

end
